-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v52) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x32x64 : S_.BroadcastsInDim S2x256x32x64 (![] : Fin 0 → Fin S2x256x32x64.rank)

variable [Facts]

def fn {F : FTy → Type} [FloatOps F] (main_arg0 : FVec F S2x256x512 .bf16) (main_arg1 : FVec F S512x256 .bf16) (main_arg2 : FVec F S2x256x32x64 .bf16) (main_arg3 : FVec F S2x256x32x64 .bf16) (main_arg4 : FVec F S256x512 .bf16) : IVec S2x256x512 1 × IVec S512x256 1 × IVec S2x256x32x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x256x32x64 .bf16 := Host.absf main_arg2
  let main_cst_1 : FVec F S_ .bf16 := constant S_ .bf16 0x7F80#16
  let main_v7 : FVec F S2x256x32x64 .bf16 := broadcastInDim S2x256x32x64 ![] bcast_S_S2x256x32x64 main_cst_1
  let main_v8 : IVec S2x256x32x64 1 := cmpf .olt main_v6 main_v7
  (main_v2, main_v5, main_v8)
-- ==== Pre_finite_scores_ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S_ : Shape := ⟨0, ![]⟩

class Facts : Prop where
  bcast_S_S2x256x512 : S_.BroadcastsInDim S2x256x512 (![] : Fin 0 → Fin S2x256x512.rank)
  bcast_S_S512x2048 : S_.BroadcastsInDim S512x2048 (![] : Fin 0 → Fin S512x2048.rank)
  bcast_S_S2x256x32x64 : S_.BroadcastsInDim S2x256x32x64 (![] : Fin 0 → Fin S2x256x32x64.rank)

variable [Facts]

def fn {F : FTy → Type} [FloatOps F] (main_arg0 : FVec F S2x256x512 .bf16) (main_arg1 : FVec F S512x2048 .bf16) (main_arg2 : FVec F S2x256x32x64 .bf16) (main_arg3 : FVec F S2x256x32x64 .bf16) (main_arg4 : FVec F S2048x512 .bf16) : IVec S2x256x512 1 × IVec S512x2048 1 × IVec S2x256x32x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x2048 .bf16 := Host.absf main_arg1
  let main_cst_0 : FVec F S_ .bf16 := constant S_ .bf16 0x7F80#16
  let main_v4 : FVec F S512x2048 .bf16 := broadcastInDim S512x2048 ![] bcast_S_S512x2048 main_cst_0
  let main_v5 : IVec S512x2048 1 := cmpf .olt main_v3 main_v4
  let main_v6 : FVec F S2x256x32x64 .bf16 := Host.absf main_arg2
  let main_cst_1 : FVec F S_ .bf16 := constant S_ .bf16 0x7F80#16
  let main_v7 : FVec F S2x256x32x64 .bf16 := broadcastInDim S2x256x32x64 ![] bcast_S_S2x256x32x64 main_cst_1
  let main_v8 : IVec S2x256x32x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S2x256x2048 : Shape := ⟨3, ![2, 256, 2048]⟩
abbrev S512x512 : Shape := ⟨2, ![512, 512]⟩
abbrev S8x64x512 : Shape := ⟨3, ![8, 64, 512]⟩
abbrev S64x512 : Shape := ⟨2, ![64, 512]⟩
abbrev S8 : Shape := ⟨1, ![8]⟩
abbrev S_ : Shape := ⟨0, ![]⟩
abbrev S1x256x256 : Shape := ⟨3, ![1, 256, 256]⟩
abbrev S256x256 : Shape := ⟨2, ![256, 256]⟩
abbrev S256x64 : Shape := ⟨2, ![256, 64]⟩
abbrev S64x64 : Shape := ⟨2, ![64, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S192x64 : Shape := ⟨2, ![192, 64]⟩
abbrev S128x192 : Shape := ⟨2, ![128, 192]⟩
abbrev S1x64x512 : Shape := ⟨3, ![1, 64, 512]⟩
abbrev S1 : Shape := ⟨1, ![1]⟩

abbrev nBuf : Space → Nat
  | .hbm => 10
  | .vmem => 9
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x32x64, .bf16⟩
  | .hbm, ⟨3, _⟩ => ⟨S2x256x32x64, .bf16⟩
  | .hbm, ⟨4, _⟩ => ⟨S256x512, .bf16⟩
  | .hbm, ⟨5, _⟩ => ⟨S2x256x2048, .bf16⟩
  | .hbm, ⟨6, _⟩ => ⟨S2x256x2048, .bf16⟩
  | .hbm, ⟨7, _⟩ => ⟨S512x512, .bf16⟩
  | .hbm, ⟨8, _⟩ => ⟨S512x512, .bf16⟩
  | .hbm, ⟨9, _⟩ => ⟨S2x256x512, .bf16⟩
  | .local _ .vmem, ⟨0, _⟩ => ⟨S512x512, .bf16⟩
  | .local _ .vmem, ⟨1, _⟩ => ⟨S512x256, .bf16⟩
  | .local _ .vmem, ⟨2, _⟩ => ⟨S2x256x2048, .bf16⟩
  | .local _ .vmem, ⟨3, _⟩ => ⟨S2x256x2048, .bf16⟩
  | .local _ .vmem, ⟨4, _⟩ => ⟨S256x512, .bf16⟩
  | .local _ .vmem, ⟨5, _⟩ => ⟨S512x512, .bf16⟩
  | .local _ .vmem, ⟨6, _⟩ => ⟨S8x64x512, .bf16⟩
  | .local _ .vmem, ⟨7, _⟩ => ⟨S8x64x512, .bf16⟩
  | .local _ .vmem, ⟨8, _⟩ => ⟨S64x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_9 : BitVec 32 := 1#32
  let v18 : BitVec 32 := Scalar.muli v4 c1_i32_9
  let v19 : BitVec 32 := Scalar.addi c0_i32 v18
  v19.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_11 : BitVec 32 := 1#32
  let v20 : BitVec 32 := Scalar.muli v6 c1_i32_11
  let v21 : BitVec 32 := Scalar.addi c0_i32_12 v20
  v21.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_14 : BitVec 32 := 1#32
  let v22 : BitVec 32 := Scalar.muli v8 c1_i32_14
  let v23 : BitVec 32 := Scalar.addi c0_i32_15 v22
  v23.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_17 : BitVec 32 := 1#32
  let v24 : BitVec 32 := Scalar.muli v10 c1_i32_17
  let v25 : BitVec 32 := Scalar.addi c0_i32_18 v24
  v25.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_20 : BitVec 32 := 1#32
  let v26 : BitVec 32 := Scalar.muli v12 c1_i32_20
  let v27 : BitVec 32 := Scalar.addi c0_i32_21 v26
  v27.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_23 : BitVec 32 := 1#32
  let v28 : BitVec 32 := Scalar.muli v14 c1_i32_23
  let v29 : BitVec 32 := Scalar.addi c0_i32_24 v28
  v29.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_26 : BitVec 32 := 1#32
  let v30 : BitVec 32 := Scalar.muli v16 c1_i32_26
  let v31 : BitVec 32 := Scalar.addi c0_i32_27 v30
  v31.toNat
def k0_off1 (d0 : Dev nD) : Fin 3 → Nat :=
  let c0_32 : Index := 0#32
  let c0_33 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v32 : BitVec 32 := Scalar.muli v2 c256_i32
  let v39 : Index := Scalar.indexCast v32
  ![0, 0, v39.toNat]
def k0_off2 (d0 : Dev nD) : Fin 3 → Nat :=
  let c1 : Index := 1#32
  let c0_76 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v32 : BitVec 32 := Scalar.muli v2 c256_i32
  let v218 : Index := Scalar.indexCast v32
  ![1, 0, v218.toNat]
def k0_off3 (d0 : Dev nD) (c1_i32_0 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  ![v4.toNat]
def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_142 : BitVec 32 := 0#32
  let c0_i32_143 : BitVec 32 := 0#32
  ![v2.toNat, 0, 0]
def k0_off6 (d0 : Dev nD) (c1_i32_0 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c0_i32_144 : BitVec 32 := 0#32
  let c0_i32_145 : BitVec 32 := 0#32
  ![v4.toNat, 0, 0]
def k0_dev8 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_140 : BitVec 32 := 1#32
  let v441 : BitVec 32 := Scalar.muli v4 c1_i32_140
  let v442 : BitVec 32 := Scalar.addi c0_i32_141 v441
  v442.toNat
def k0_dev9 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_146 : BitVec 32 := 1#32
  let v451 : BitVec 32 := Scalar.muli v6 c1_i32_146
  let v452 : BitVec 32 := Scalar.addi c0_i32_147 v451
  v452.toNat
def k0_dev10 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_152 : BitVec 32 := 1#32
  let v461 : BitVec 32 := Scalar.muli v8 c1_i32_152
  let v462 : BitVec 32 := Scalar.addi c0_i32_153 v461
  v462.toNat
def k0_dev11 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_158 : BitVec 32 := 1#32
  let v471 : BitVec 32 := Scalar.muli v10 c1_i32_158
  let v472 : BitVec 32 := Scalar.addi c0_i32_159 v471
  v472.toNat
def k0_dev12 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_164 : BitVec 32 := 1#32
  let v481 : BitVec 32 := Scalar.muli v12 c1_i32_164
  let v482 : BitVec 32 := Scalar.addi c0_i32_165 v481
  v482.toNat
def k0_dev13 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_170 : BitVec 32 := 1#32
  let v491 : BitVec 32 := Scalar.muli v14 c1_i32_170
  let v492 : BitVec 32 := Scalar.addi c0_i32_171 v491
  v492.toNat
def k0_dev14 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_176 : BitVec 32 := 1#32
  let v501 : BitVec 32 := Scalar.muli v16 c1_i32_176
  let v502 : BitVec 32 := Scalar.addi c0_i32_177 v501
  v502.toNat
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v511 : Index := Scalar.indexCast v2
  let c0_182 : Index := 0#32
  let c0_183 : Index := 0#32
  ![v511.toNat, 0, 0]
def k0_off8 (d0 : Dev nD) (c0_i32_185 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_184 : BitVec 32 := 1#32
  let v515 : BitVec 32 := Scalar.subi v2 c1_i32_184
  let v516 : BitVec 32 := Scalar.subi v515 c0_i32_185
  let c16_i32 : BitVec 32 := 16#32
  let v517 : BitVec 32 := Scalar.addi v516 c16_i32
  let c8_i32_186 : BitVec 32 := 8#32
  let v518 : BitVec 32 := Scalar.remsi v517 c8_i32_186
  ![v518.toNat]
def k0_off9 (d0 : Dev nD) (c0_i32_185 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_184 : BitVec 32 := 1#32
  let v515 : BitVec 32 := Scalar.subi v2 c1_i32_184
  let v516 : BitVec 32 := Scalar.subi v515 c0_i32_185
  let c16_i32 : BitVec 32 := 16#32
  let v517 : BitVec 32 := Scalar.addi v516 c16_i32
  let c8_i32_186 : BitVec 32 := 8#32
  let v518 : BitVec 32 := Scalar.remsi v517 c8_i32_186
  let c0_i32_189 : BitVec 32 := 0#32
  let c0_i32_190 : BitVec 32 := 0#32
  ![v518.toNat, 0, 0]
def k0_off10 (d0 : Dev nD) (c0_i32_185 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_184 : BitVec 32 := 1#32
  let v515 : BitVec 32 := Scalar.subi v2 c1_i32_184
  let v516 : BitVec 32 := Scalar.subi v515 c0_i32_185
  let c16_i32 : BitVec 32 := 16#32
  let v517 : BitVec 32 := Scalar.addi v516 c16_i32
  let c8_i32_186 : BitVec 32 := 8#32
  let v518 : BitVec 32 := Scalar.remsi v517 c8_i32_186
  let v527 : Index := Scalar.indexCast v518
  let c0_193 : Index := 0#32
  let c0_194 : Index := 0#32
  ![v527.toNat, 0, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v638 : BitVec 32 := Scalar.muli v2 c64_i32
  let v639 : Index := Scalar.indexCast v638
  let c0_269 : Index := 0#32
  ![v639.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_307 : BitVec 32 := 64#32
  let v685 : BitVec 32 := Scalar.muli v2 c64_i32_307
  let c0_i32_311 : BitVec 32 := 0#32
  ![v685.toNat, 0]
def k0_dev15 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_305 : BitVec 32 := 1#32
  let v683 : BitVec 32 := Scalar.addi v2 c1_i32_305
  let c8_i32_306 : BitVec 32 := 8#32
  let v684 : BitVec 32 := Scalar.remsi v683 c8_i32_306
  let c1_i32_309 : BitVec 32 := 1#32
  let v686 : BitVec 32 := Scalar.muli v684 c1_i32_309
  let v687 : BitVec 32 := Scalar.addi c0_i32_310 v686
  v687.toNat
def k0_dev16 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_312 : BitVec 32 := 2#32
  let v693 : BitVec 32 := Scalar.addi v2 c2_i32_312
  let c8_i32_313 : BitVec 32 := 8#32
  let v694 : BitVec 32 := Scalar.remsi v693 c8_i32_313
  let c1_i32_316 : BitVec 32 := 1#32
  let v696 : BitVec 32 := Scalar.muli v694 c1_i32_316
  let v697 : BitVec 32 := Scalar.addi c0_i32_317 v696
  v697.toNat
def k0_dev17 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_319 : BitVec 32 := 3#32
  let v703 : BitVec 32 := Scalar.addi v2 c3_i32_319
  let c8_i32_320 : BitVec 32 := 8#32
  let v704 : BitVec 32 := Scalar.remsi v703 c8_i32_320
  let c1_i32_323 : BitVec 32 := 1#32
  let v706 : BitVec 32 := Scalar.muli v704 c1_i32_323
  let v707 : BitVec 32 := Scalar.addi c0_i32_324 v706
  v707.toNat
def k0_dev18 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_326 : BitVec 32 := 4#32
  let v713 : BitVec 32 := Scalar.addi v2 c4_i32_326
  let c8_i32_327 : BitVec 32 := 8#32
  let v714 : BitVec 32 := Scalar.remsi v713 c8_i32_327
  let c1_i32_330 : BitVec 32 := 1#32
  let v716 : BitVec 32 := Scalar.muli v714 c1_i32_330
  let v717 : BitVec 32 := Scalar.addi c0_i32_331 v716
  v717.toNat
def k0_dev19 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_333 : BitVec 32 := 5#32
  let v723 : BitVec 32 := Scalar.addi v2 c5_i32_333
  let c8_i32_334 : BitVec 32 := 8#32
  let v724 : BitVec 32 := Scalar.remsi v723 c8_i32_334
  let c1_i32_337 : BitVec 32 := 1#32
  let v726 : BitVec 32 := Scalar.muli v724 c1_i32_337
  let v727 : BitVec 32 := Scalar.addi c0_i32_338 v726
  v727.toNat
def k0_dev20 (d0 : Dev nD) : Nat :=
  let c0_i32_345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_340 : BitVec 32 := 6#32
  let v733 : BitVec 32 := Scalar.addi v2 c6_i32_340
  let c8_i32_341 : BitVec 32 := 8#32
  let v734 : BitVec 32 := Scalar.remsi v733 c8_i32_341
  let c1_i32_344 : BitVec 32 := 1#32
  let v736 : BitVec 32 := Scalar.muli v734 c1_i32_344
  let v737 : BitVec 32 := Scalar.addi c0_i32_345 v736
  v737.toNat
def k0_dev21 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_347 : BitVec 32 := 7#32
  let v743 : BitVec 32 := Scalar.addi v2 c7_i32_347
  let c8_i32_348 : BitVec 32 := 8#32
  let v744 : BitVec 32 := Scalar.remsi v743 c8_i32_348
  let c1_i32_351 : BitVec 32 := 1#32
  let v746 : BitVec 32 := Scalar.muli v744 c1_i32_351
  let v747 : BitVec 32 := Scalar.addi c0_i32_352 v746
  v747.toNat
def k0_off13 (d0 : Dev nD) (c0_i32_355 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_354 : BitVec 32 := 1#32
  let v753 : BitVec 32 := Scalar.subi v2 c1_i32_354
  let v754 : BitVec 32 := Scalar.subi v753 c0_i32_355
  let c16_i32_356 : BitVec 32 := 16#32
  let v755 : BitVec 32 := Scalar.addi v754 c16_i32_356
  let c8_i32_357 : BitVec 32 := 8#32
  let v756 : BitVec 32 := Scalar.remsi v755 c8_i32_357
  let c64_i32_358 : BitVec 32 := 64#32
  let v757 : BitVec 32 := Scalar.muli v756 c64_i32_358
  let c0_i32_362 : BitVec 32 := 0#32
  ![v757.toNat, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S256x256 : Shape := ⟨2, ![256, 256]⟩
abbrev S2x256x2048 : Shape := ⟨3, ![2, 256, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S2x32x256x256 : Shape := ⟨4, ![2, 32, 256, 256]⟩
abbrev S1x1x256x256 : Shape := ⟨4, ![1, 1, 256, 256]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 129
  | .vmem => 2
  | .smem => 0
  | _ => 0

abbrev hbmTy0_0 (i : Nat) : BufTy := match i % 128 with
  | 0 => ⟨S2x256x512, .bf16⟩
  | 1 => ⟨S512x2048, .bf16⟩
  | 2 => ⟨S2x256x32x64, .bf16⟩
  | 3 => ⟨S2x256x32x64, .bf16⟩
  | 4 => ⟨S2048x512, .bf16⟩
  | 5 => ⟨S256x256, .f32⟩
  | 6 => ⟨S2x256x2048, .f32⟩
  | 7 => ⟨S2x256x2048, .bf16⟩
  | 8 => ⟨S2x256x32x64, .bf16⟩
  | 9 => ⟨S256, .i32⟩
  | 10 => ⟨S_, .i32⟩
  | 11 => ⟨S_, .i32⟩
  | 12 => ⟨S256, .i32⟩
  | 13 => ⟨S256, .i32⟩
  | 14 => ⟨S256, .i32⟩
  | 15 => ⟨S_, .i32⟩
  | 16 => ⟨S256, .i32⟩
  | 17 => ⟨S256, .i1⟩
  | 18 => ⟨S256, .i32⟩
  | 19 => ⟨S256, .i32⟩
  | 20 => ⟨S_, .i32⟩
  | 21 => ⟨S256, .i32⟩
  | 22 => ⟨S256, .i1⟩
  | 23 => ⟨S256, .i1⟩
  | 24 => ⟨S_, .i32⟩
  | 25 => ⟨S256, .i32⟩
  | 26 => ⟨S256, .i32⟩
  | 27 => ⟨S256, .i32⟩
  | 28 => ⟨S256x1, .i32⟩
  | 29 => ⟨S256, .i32⟩
  | 30 => ⟨S_, .i32⟩
  | 31 => ⟨S_, .i32⟩
  | 32 => ⟨S256, .i32⟩
  | 33 => ⟨S256, .i32⟩
  | 34 => ⟨S256, .i32⟩
  | 35 => ⟨S_, .i32⟩
  | 36 => ⟨S256, .i32⟩
  | 37 => ⟨S256, .i1⟩
  | 38 => ⟨S256, .i32⟩
  | 39 => ⟨S256, .i32⟩
  | 40 => ⟨S_, .i32⟩
  | 41 => ⟨S256, .i32⟩
  | 42 => ⟨S256, .i1⟩
  | 43 => ⟨S256, .i1⟩
  | 44 => ⟨S_, .i32⟩
  | 45 => ⟨S256, .i32⟩
  | 46 => ⟨S256, .i32⟩
  | 47 => ⟨S256, .i32⟩
  | 48 => ⟨S1x256, .i32⟩
  | 49 => ⟨S256x256, .i32⟩
  | 50 => ⟨S256x256, .i32⟩
  | 51 => ⟨S256x256, .i1⟩
  | 52 => ⟨S_, .i32⟩
  | 53 => ⟨S1x256, .i32⟩
  | 54 => ⟨S1x256, .i1⟩
  | 55 => ⟨S256x256, .i1⟩
  | 56 => ⟨S256x256, .i1⟩
  | 57 => ⟨S256x256, .i32⟩
  | 58 => ⟨S256x256, .i32⟩
  | 59 => ⟨S256x256, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S256x256, .i32⟩
  | 67 => ⟨S256x256, .i32⟩
  | 68 => ⟨S_, .i32⟩
  | 69 => ⟨S256x256, .i32⟩
  | 70 => ⟨S256x256, .i1⟩
  | 71 => ⟨S_, .i32⟩
  | 72 => ⟨S256x256, .i32⟩
  | 73 => ⟨S256x256, .i1⟩
  | 74 => ⟨S_, .i32⟩
  | 75 => ⟨S_, .i1⟩
  | 76 => ⟨S256x256, .i1⟩
  | 77 => ⟨S256x256, .i1⟩
  | 78 => ⟨S256x256, .i1⟩
  | 79 => ⟨S256x256, .i32⟩
  | 80 => ⟨S256x256, .i32⟩
  | 81 => ⟨S256x256, .i32⟩
  | 82 => ⟨S_, .i32⟩
  | 83 => ⟨S256x256, .i32⟩
  | 84 => ⟨S256x256, .i1⟩
  | 85 => ⟨S256x256, .i1⟩
  | 86 => ⟨S2x32x256x256, .f32⟩
  | 87 => ⟨S2x32x256x256, .bf16⟩
  | 88 => ⟨S2x32x256x256, .f32⟩
  | 89 => ⟨S_, .f32⟩
  | 90 => ⟨S2x32x256x256, .f32⟩
  | 91 => ⟨S2x32x256x256, .f32⟩
  | 92 => ⟨S1x1x256x256, .i1⟩
  | 93 => ⟨S1x1x256x256, .f32⟩
  | 94 => ⟨S2x32x256x256, .i1⟩
  | 95 => ⟨S2x32x256x256, .f32⟩
  | 96 => ⟨S2x32x256x256, .f32⟩
  | 97 => ⟨S_, .f32⟩
  | 98 => ⟨S2x32x256, .f32⟩
  | 99 => ⟨S2x32x256x1, .f32⟩
  | 100 => ⟨S2x32x256x256, .f32⟩
  | 101 => ⟨S2x32x256x256, .f32⟩
  | 102 => ⟨S2x32x256x256, .f32⟩
  | 103 => ⟨S_, .i1⟩
  | 104 => ⟨S256, .i1⟩
  | 105 => ⟨S1x1x256x1, .i1⟩
  | 106 => ⟨S_, .f32⟩
  | 107 => ⟨S2x32x256, .f32⟩
  | 108 => ⟨S2x32x256x1, .f32⟩
  | 109 => ⟨S_, .f32⟩
  | 110 => ⟨S_, .f32⟩
  | 111 => ⟨S2x32x256x1, .i1⟩
  | 112 => ⟨S2x32x256x1, .f32⟩
  | 113 => ⟨S2x32x256x1, .f32⟩
  | 114 => ⟨S2x32x256x256, .f32⟩
  | 115 => ⟨S2x32x256x256, .f32⟩
  | 116 => ⟨S1x1x256x1, .i1⟩
  | 117 => ⟨S_, .f32⟩
  | 118 => ⟨S_, .f32⟩
  | 119 => ⟨S2x32x256x256, .i1⟩
  | 120 => ⟨S2x32x256x256, .f32⟩
  | 121 => ⟨S2x32x256x256, .f32⟩
  | 122 => ⟨S2x256x32x64, .f32⟩
  | 123 => ⟨S2x32x64x256, .f32⟩
  | 124 => ⟨S2x256x32x64, .f32⟩
  | 125 => ⟨S2x256x2048, .f32⟩
  | 126 => ⟨S2048x512, .f32⟩
  | 127 => ⟨S2x256x512, .f32⟩
  | _ => ⟨S2x256x512, .bf16⟩

abbrev hbmTy0_1 (i : Nat) : BufTy := match i % 128 with
  | 0 => ⟨S2x256x512, .bf16⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | .local _ .vmem, ⟨0, _⟩ => ⟨S2x256x512, .bf16⟩
  | .local _ .vmem, ⟨1, _⟩ => ⟨S256x256, .f32⟩
  | _, _ => ⟨S2x256x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_1 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_c_2 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v20 : Ref sig .tc := ⟨.hbm, 81, rfl⟩
abbrev main_c_3 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_cst : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_call3_v0 : Ref sig .tc := ⟨.hbm, 94, rfl⟩
abbrev main_call3_v1 : Ref sig .tc := ⟨.hbm, 95, rfl⟩
abbrev main_v31 : Ref sig .tc := ⟨.hbm, 96, rfl⟩
abbrev main_cst_4 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_c_5 : Ref sig .tc := ⟨.hbm, 103, rfl⟩
abbrev main_v37 : Ref sig .tc := ⟨.hbm, 104, rfl⟩
abbrev main_v38 : Ref sig .tc := ⟨.hbm, 105, rfl⟩
abbrev main_cst_6 : Ref sig .tc := ⟨.hbm, 106, rfl⟩
abbrev main_v39 : Ref sig .tc := ⟨.hbm, 107, rfl⟩
abbrev main_v40 : Ref sig .tc := ⟨.hbm, 108, rfl⟩
abbrev main_cst_7 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_cst_8 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Schedule.lean ====
/-
# The exchange of partial results between the eight devices, as rounds

Every device computes a partial result (8 chunks of 64 rows), sends chunk `p` to device `p`, adds up the eight
partials of its own chunk, and sends the sum to everybody. The cells of the exchange:

* the barrier semaphore of a device: one unit from each of the seven other devices. The unit paid by `p` hands over
  `p`'s landing slot and `p`'s rows of the result that belong to the cell's owner, and that the two receive cells
  of `p` which the owner will credit are open;
* `dcell 0 j c`: the send cell of device `c`'s copy of chunk `j` (gives the chunk's slot back);
* `dcell 1 j c`: the receive cell of device `c` for device `j`'s partial (gives the slot back, holding `j`'s partial
  of chunk `c`);
* `dcell 2 j c`: the send cell of device `c`'s `j`-th copy of its sum (gives one share of the source back);
* `dcell 3 j c`: the receive cell of device `c` for device `j`'s sum (gives the rows of `j` back, holding `j`'s sum).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Writes
public import Idealize.ShloMosaic.Lib.Transfers
public import Idealize.ShloMosaic.Lib.Tactic

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's, whose duties are named by devices -/

/-- The book of the rounds on all semaphores. -/
abbrev UB : Type := URounds (GSem nD τ sig) (Dev nD)
/-- The pipeline's ghost state and that book. -/
abbrev UU : Type := UR sig nD τ × UB

local notation "𝕄" => MT nD τ sig Unit (Elt F) ℕ UU ℕ

/-- Where the pipeline's ghost state lies, -/
abbrev EP : Emb (UR sig nD τ) (MT nD τ sig Unit (Elt F) ℕ UU ℕ) := embL
/-- and where the book does. -/
abbrev ER : Emb UB (MT nD τ sig Unit (Elt F) ℕ UU ℕ) := embR

/-! ## Who talks to whom -/

/-- The device `k + 1` steps after `c`. -/
def up (c : Dev nD) (k : ℕ) : Dev nD := ⟨(c.val + k + 1) % 8, Nat.mod_lt _ (by decide)⟩
/-- The device `k + 1` steps before `c`. -/
def dn (c : Dev nD) (k : ℕ) : Dev nD := ⟨(c.val + 15 - k) % 8, Nat.mod_lt _ (by decide)⟩
/-- The number of the `k`-th copy of the sum. -/
def hp (k : ℕ) : Fin 8 := ⟨(k + 1) % 8, Nat.mod_lt _ (by decide)⟩

/-- No device is its own peer, counted upwards -/
theorem up_ne (c : Dev nD) (k : Fin 7) : up c k ≠ c := by revert c k; decide
/-- or downwards, -/
theorem dn_ne (c : Dev nD) (k : Fin 7) : dn c k ≠ c := by revert c k; decide
/-- and no distance is zero. -/
theorem hp_ne (k : Fin 7) : hp k ≠ 0 := by revert k; decide

/-! ## The cells -/

/-- The barrier semaphore, -/
abbrev barS : Sem sig := sig.barrier 0 rfl
/-- and the one of a device. -/
abbrev barCell (c : Dev nD) : GSem nD τ sig := ((c : Thread nD τ), .reg barS)
/-- Semaphore `j` of the kernel's semaphore array `κ`. -/
def dsm (κ : Fin 4) (j : Fin 8) : DmaSem sig := ⟨6 + 8 * κ.val + j.val, by have := κ.isLt; have := j.isLt; show _ < 38; omega⟩
/-- A copy semaphore of a device, by its kind and number. -/
abbrev dcell (κ : Fin 4) (j : Fin 8) (c : Dev nD) : GSem nD τ sig := ((c : Thread nD τ), .dma (dsm κ j))

/-- The array and the place in it of a semaphore of the kernel. -/
def kindOf (n : DmaSem sig) : ℕ := (n.val - 6) / 8
/-- The number of a copy semaphore among its kind. -/
def idxOf (n : DmaSem sig) : Fin 8 := ⟨(n.val - 6) % 8, Nat.mod_lt _ (by decide)⟩

/-- The kind of a copy semaphore is the kind it was named by, -/
theorem kindOf_dsm (κ : Fin 4) (j : Fin 8) : kindOf (dsm κ j) = κ.val := by revert κ j; decide
/-- and its number the number. -/
theorem idxOf_dsm (κ : Fin 4) (j : Fin 8) : idxOf (dsm κ j) = j := by revert κ j; decide
/-- None of them is one of the six that stage the windows. -/
theorem dsm_ge (κ : Fin 4) (j : Fin 8) : ¬ (dsm κ j).val < 6 := by revert κ j; decide

/-! ## The memory the copies move -/

/-- The chunks to send, -/
abbrev sendM : Memref sig .tc .vmem S8x64x512 .bf16 := Memref.whole cc0_scratch0
/-- the chunks received, -/
abbrev recvM : Memref sig .tc .vmem S8x64x512 .bf16 := Memref.whole cc0_scratch1
/-- the finished chunk, -/
abbrev bcM : Memref sig .tc .vmem S64x512 .bf16 := Memref.whole cc0_scratch2
/-- and the result. -/
abbrev outM : Memref sig .tc .vmem S512x512 .bf16 := Memref.whole cc0_stg5_0

/-- A slot lies inside its buffer, -/
theorem slotIn (j : Fin 8) : ∀ a : Fin 3, (![j.val, 0, 0] : Fin 3 → ℕ) a + S1x64x512.size a ≤ S8x64x512.size a := by
  revert j; decide
/-- and so do the rows of a chunk. -/
theorem rowsIn (j : Fin 8) : ∀ a : Fin 2, (![64 * j.val, 0] : Fin 2 → ℕ) a + S64x512.size a ≤ S512x512.size a := by
  revert j; decide

set_option backward.proofsInPublic true in
/-- Slot `j` of a buffer of eight chunks, rows `64 j …` of the result. -/
abbrev slotR (j : Fin 8) : Rect S8x64x512 := Rect.unit (s := S8x64x512) ![j.val, 0, 0] S1x64x512.size (slotIn j)
set_option backward.proofsInPublic true in
/-- The rows of a chunk in the result. -/
abbrev rowsR (j : Fin 8) : Rect S512x512 := Rect.unit (s := S512x512) ![64 * j.val, 0] S64x512.size (rowsIn j)

/-- The chunk to send to a device, -/
abbrev sendSl (j : Fin 8) : Memref sig .tc .vmem S1x64x512 .bf16 := sendM.slice (slotR j) (fun _ => rfl)
/-- the slot for the chunk of a device, -/
abbrev recvSl (j : Fin 8) : Memref sig .tc .vmem S1x64x512 .bf16 := recvM.slice (slotR j) (fun _ => rfl)
/-- and the rows of a device in the result. -/
abbrev outSl (j : Fin 8) : Memref sig .tc .vmem S64x512 .bf16 := outM.slice (rowsR j) (fun _ => rfl)

/-- What one copy credits. -/
abbrev N : ℕ := bcM.view.dmaCredit
/-- A copy pays something. -/
theorem N_pos : 0 < N := View.dmaCredit_pos _ (by decide)

/-- The share of the sum's buffer the copy numbered `j` reads with. -/
def shr (j : Fin 8) : PosShare TreeShare := Transfers.dealOf fullShare ((Finset.univ : Finset (Fin 8)).erase 0) j

/-- What device `p` sends of its partial: chunk by chunk. -/
abbrev Part (F : FTy → Type) : Type := Dev nD → Fin 8 → S1x64x512.Idx → Elt F .bf16
/-- The sums, device by device. -/
abbrev Sum (F : FTy → Type) : Type := Dev nD → S64x512.Idx → Elt F .bf16

/-! ## The schedule -/

section Sched

variable (P : Part F) (A : Sum F)

/-- Paid to device `c`'s barrier cell by device `p`. -/
def barPay (p c : Dev nD) : sProp 𝕄 :=
  iprop(((∃ v, owns (p : Thread nD τ) (recvSl c) fullShare v) ∗ (∃ v, owns (p : Thread nD τ) (outSl c) fullShare v))
    ∗ reached ER (dcell 1 c p) 0 ∗ reached ER (dcell 3 c p) 0)

/-- Paid to the DMA cell of array `κ`, place `j`, of device `c`. -/
def dmaPay (κ : ℕ) (j : Fin 8) (c : Dev nD) : sProp 𝕄 :=
  if κ = 0 then iprop(∃ v, owns (c : Thread nD τ) (sendSl j) fullShare v)
  else if κ = 1 then owns (c : Thread nD τ) (recvSl j) fullShare (P j c)
  else if κ = 2 then owns (c : Thread nD τ) bcM (shr j) (A c)
  else owns (c : Thread nD τ) (outSl j) fullShare (A j)

/-- Which DMA cells are credited: all but the ones a device would use with itself. -/
def dmaDuty (κ : ℕ) (j : Fin 8) (c : Dev nD) : Finset (Dev nD) :=
  if κ = 2 then (if j = 0 then ∅ else {0}) else (if j = c then ∅ else {0})

/-- Who pays on a device's semaphore: all others on the barrier, one payer on a copy's. -/
def dutyOf (c : Dev nD) : SemLoc sig → Finset (Dev nD)
  | .reg s => if s = barS then Finset.univ.erase c else ∅
  | .dma n => if n.val < 6 then ∅ else dmaDuty (kindOf n) (idxOf n) c

/-- What a payment hands over, -/
def payOf (c d : Dev nD) : SemLoc sig → sProp 𝕄
  | .reg s => barPay d c
  | .dma n => if n.val < 6 then iprop(emp) else dmaPay P A (kindOf n) (idxOf n) c

/-- and how much it is. -/
def amtOf : SemLoc sig → ℕ
  | .reg s => 1
  | .dma n => N

/-- Every payment is positive. -/
theorem amtOf_pos (s : SemLoc sig) : 0 < amtOf s := by
  cases s with
  | reg s => exact Nat.one_pos
  | dma n => exact N_pos

/-- The schedule: one round on every semaphore. -/
def rd : Rounds.Schedule (GSem nD τ sig) (Dev nD) 𝕄 where
  duties g r := if r = 0 ∧ g.1.2 = .tc then dutyOf g.1.1 g.2 else ∅
  unitless _ := False
  amount g _ _ := amtOf g.2
  payload g _ d := payOf P A g.1.1 d g.2
  amount_pos g _ _ _ := amtOf_pos g.2

/-- What the barrier hands over can be kept in an invariant, -/
instance barPay_storable (p c : Dev nD) : BI.Storable (upEmb : UEmb _ 𝕄) (barPay (F := F) p c) := by unfold barPay; infer_instance
/-- and so can what a landing hands over, -/
instance dmaPay_storable (κ : ℕ) (j : Fin 8) (c : Dev nD) : BI.Storable (upEmb : UEmb _ 𝕄) (dmaPay P A κ j c) := by
  unfold dmaPay; (repeat' split) <;> infer_instance
/-- hence every payment. -/
instance rd_payload_storable (g : GSem nD τ sig) (r : ℕ) (d : Dev nD) :
    BI.Storable (upEmb : UEmb _ 𝕄) ((rd P A).payload g r d) := by
  show BI.Storable upEmb (payOf P A g.1.1 d g.2)
  unfold payOf
  (repeat' split) <;> infer_instance

variable (c : Dev nD)

/-- All others pay on the barrier, -/
theorem duties_bar : (rd P A).duties (barCell c) 0 = Finset.univ.erase c := by
  dsimp only [rd]; rw [if_pos ⟨rfl, rfl⟩]; show (if barS = barS then Finset.univ.erase c else ∅) = _; rw [if_pos rfl]
/-- the copy's payer on a copy semaphore, -/
theorem duties_dcell (κ : Fin 4) (j : Fin 8) : (rd P A).duties (dcell κ j c) 0 = dmaDuty κ.val j c := by
  dsimp only [rd]; rw [if_pos ⟨rfl, rfl⟩]; dsimp only [dutyOf]; rw [if_neg (dsm_ge κ j), kindOf_dsm, idxOf_dsm]
/-- and nobody in a later round. -/
theorem duties_later (g : GSem nD τ sig) : ∀ r, 1 ≤ r → (rd P A).duties g r = ∅ :=
  fun r hr => by dsimp only [rd]; rw [if_neg (fun h => by omega)]

/-- A semaphore of another device's number has one payer, -/
theorem dmaDuty_of_ne {κ : ℕ} {j : Fin 8} (hκ : κ ≠ 2) (h : j ≠ c) : dmaDuty κ j c = {0} := by
  unfold dmaDuty; rw [if_neg hκ, if_neg h]
/-- as has that of a distance that is not zero. -/
theorem dmaDuty_two {j : Fin 8} (h : j ≠ 0) : dmaDuty 2 j c = {0} := by
  unfold dmaDuty; rw [if_pos rfl, if_neg h]

/-- A signal pays one, -/
theorem amount_bar (d : Dev nD) : (rd P A).amount (barCell c) 0 d = 1 := rfl
/-- a copy the size of a chunk. -/
theorem amount_dcell (κ : Fin 4) (j : Fin 8) (d : Dev nD) : (rd P A).amount (dcell κ j c) 0 d = N := rfl

/-- The barrier expects seven, -/
theorem expect_bar : (rd P A).expect (barCell c) 0 = 7 := by
  unfold Schedule.expect Schedule.amountOf; rw [duties_bar]
  rw [Finset.sum_congr rfl (fun d _ => amount_bar P A c d), Finset.sum_const, Finset.card_erase_of_mem (Finset.mem_univ c)]
  rfl
/-- and a copy semaphore one chunk. -/
theorem expect_dcell (κ : Fin 4) (j : Fin 8) (h : dmaDuty κ.val j c = {0}) : (rd P A).expect (dcell κ j c) 0 = N := by
  unfold Schedule.expect Schedule.amountOf; rw [duties_dcell, h, Finset.sum_singleton, amount_dcell]

/-- What a signal hands over, -/
theorem payload_bar (d : Dev nD) : (rd P A).payload (barCell c) 0 d = barPay d c := rfl
/-- and what a copy does. -/
theorem payload_dcell (κ : Fin 4) (j : Fin 8) (d : Dev nD) : (rd P A).payload (dcell κ j c) 0 d = dmaPay P A κ.val j c := by
  dsimp only [rd, payOf]; rw [if_neg (dsm_ge κ j), kindOf_dsm, idxOf_dsm]

/-- The whole round of a copy semaphore hands over that one thing. -/
theorem rest_dcell (κ : Fin 4) (j : Fin 8) (h : dmaDuty κ.val j c = {0}) :
    bigSep ((rd P A).duties (dcell κ j c) 0 \ ∅) (fun d => (rd P A).payload (dcell κ j c) 0 d) = dmaPay P A κ.val j c := by
  rw [Finset.sdiff_empty, duties_dcell, h, bigSep_singleton, payload_dcell]

end Sched

/-! ## Families over the other devices, hop by hop -/

/-- The other devices are the seven peers counted upwards, -/
theorem others_up (c : Dev nD) : (Finset.univ : Finset (Dev nD)).erase c = (Finset.univ : Finset (Fin 7)).image fun k : Fin 7 => up c k := by
  revert c; decide
/-- or downwards, -/
theorem others_dn (c : Dev nD) : (Finset.univ : Finset (Dev nD)).erase c = (Finset.univ : Finset (Fin 7)).image fun k : Fin 7 => dn c k := by
  revert c; decide
/-- and the numbers but zero are the seven distances. -/
theorem others_hp : (Finset.univ : Finset (Fin 8)).erase 0 = (Finset.univ : Finset (Fin 7)).image fun k : Fin 7 => hp k := by decide

/-- Peers at different distances differ, upwards -/
theorem up_inj (c : Dev nD) : Function.Injective fun k : Fin 7 => up c k := by revert c; decide
/-- and downwards, -/
theorem dn_inj (c : Dev nD) : Function.Injective fun k : Fin 7 => dn c k := by revert c; decide
/-- and so do the distances. -/
theorem hp_inj : Function.Injective fun k : Fin 7 => hp k := by decide

/-- A family of seven, written out. -/
theorem bigSep_fin7 (Φ : ℕ → sProp 𝕄) :
    bigSep (Finset.univ : Finset (Fin 7)) (fun k => Φ k) = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) (fun k : Fin 7 => Φ k)

/-- A family over the seven other devices, in the order of the hops upwards, -/
theorem bigSep_up (c : Dev nD) (Φ : Dev nD → sProp 𝕄) :
    bigSep ((Finset.univ : Finset (Dev nD)).erase c) Φ = bigSep (Finset.univ : Finset (Fin 7)) fun k => Φ (up c k) := by
  rw [others_up, bigSep_image_of_injOn (up_inj c).injOn]
/-- downwards, -/
theorem bigSep_dn (c : Dev nD) (Φ : Dev nD → sProp 𝕄) :
    bigSep ((Finset.univ : Finset (Dev nD)).erase c) Φ = bigSep (Finset.univ : Finset (Fin 7)) fun k => Φ (dn c k) := by
  rw [others_dn, bigSep_image_of_injOn (dn_inj c).injOn]
/-- and over the seven copies of the sum. -/
theorem bigSep_hp (Φ : Fin 8 → sProp 𝕄) :
    bigSep ((Finset.univ : Finset (Fin 8)).erase 0) Φ = bigSep (Finset.univ : Finset (Fin 7)) fun k => Φ (hp k) := by
  rw [others_hp, bigSep_image_of_injOn hp_inj.injOn]

/-! ## What a device owes, payment by payment; the levels -/

/-- The cell of the payment made when `r` more are to follow: first the seven barrier units, then the seven partials, then
    the seven sums. -/
def payCell (c : Dev nD) (r : ℕ) : GSem nD τ sig :=
  if r < 7 then dcell 3 c (up c (6 - r)) else if r < 14 then dcell 1 c (up c (13 - r)) else barCell (up c (20 - r))
/-- The amount of a payment, in the order in which they are owed. -/
def payAmt (r : ℕ) : ℕ := if r < 14 then N else 1
/-- What device `c` owes with `r` payments to go. -/
def owe (c : Dev nD) : ℕ → CellTallies nD τ sig Unit
  | 0 => 0
  | r + 1 => owe c r + tallyAt (payCell c r) () (payAmt r)

/-- The one level name lies on the semaphores of the cores. -/
def L (g : GSem nD τ sig) : Finset Unit := if g.1.2 = .tc then {()} else ∅
/-- Barrier cells at 1, receive cells of the partials at 2, of the sums at 3, the rest at 0. -/
def lvOf : SemLoc sig → ℕ
  | .reg _ => 1
  | .dma n => if n.val < 6 then 0 else if kindOf n = 1 then 2 else if kindOf n = 3 then 3 else 0
/-- The level of a semaphore. -/
def lv (g : GSem nD τ sig) (_ : Unit) : ℕ := lvOf g.2

/-- Elsewhere there is none. -/
theorem L_of_ne (g : GSem nD τ sig) (h : g.1.2 ≠ .tc) : L g = ∅ := if_neg h
/-- On a core there is the one. -/
theorem L_tc (c : Dev nD) (sm : SemLoc sig) : L ((c : Thread nD τ), sm) = {()} := if_pos rfl

/-- The landings of the first exchange are below those of the second; what a device pays itself is at the bottom. -/
theorem lv_dcell (κ : Fin 4) (j : Fin 8) (c : Dev nD) (u : Unit) :
    lv (dcell κ j c) u = if κ = 1 then 2 else if κ = 3 then 3 else 0 := by
  show (if (dsm κ j).val < 6 then 0 else if kindOf (dsm κ j) = 1 then 2 else if kindOf (dsm κ j) = 3 then 3 else 0) = _
  rw [if_neg (dsm_ge κ j), kindOf_dsm]
  revert κ; decide

/-- A payment's semaphore has the level name, -/
theorem payCell_tc (c : Dev nD) (r : ℕ) : () ∈ L (payCell c r) := by
  unfold payCell; (repeat' split) <;> (rw [L_tc]; exact Finset.mem_singleton_self _)
/-- and this level. -/
theorem lv_payCell (c : Dev nD) (r : ℕ) (u : Unit) : lv (payCell c r) u = if r < 7 then 3 else if r < 14 then 2 else 1 := by
  unfold payCell; (repeat' split)
  · exact lv_dcell 3 c _ u
  · exact lv_dcell 1 c _ u
  · rfl

/-- A cell owed on with `r` payments to go is the cell of one of them. -/
theorem owe_pos (c : Dev nD) (r : ℕ) {g : GSem nD τ sig} {u : Unit} (h : 0 < owe c r g u) : ∃ i < r, g = payCell c i := by
  induction r with
  | zero => exact absurd h (Nat.lt_irrefl 0)
  | succ r ih =>
    unfold owe at h
    rw [Pi.add_apply, Finsupp.add_apply] at h
    rcases Nat.add_pos_iff_pos_or_pos.mp h with h | h
    · obtain ⟨i, hi, e⟩ := ih h; exact ⟨i, by omega, e⟩
    · rw [tallyAt_apply] at h
      split at h
      · next hg => exact ⟨r, by omega, hg.1⟩
      · exact absurd h (Nat.lt_irrefl 0)

/-- Waiting on a cell below every cell still owed on. -/
theorem mayWait (c : Dev nD) (sm : SemLoc sig) (r : ℕ) (h : ∀ i < r, lv ((c : Thread nD τ), sm) () < lv (payCell c i) ()) :
    (levAts L lv : sProp 𝕄) ⊢ MayWait (c : Thread nD τ) sm () (owe c r) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := owe_pos c r hg; exact payCell_tc c i)
    (fun p hp => by rw [Finset.mem_singleton.mp hp])
    (fun g u hg => by obtain ⟨i, hi, rfl⟩ := owe_pos c r hg; exact h i hi)

end Cert.Talk

end
-- ==== Proof.Steps.lean ====
/-
# The steps of the exchange, one lemma per operation of the kernel

Each is the rule of the rounds library at the cell it uses, with the resources the hop hands over and gets back.
-/
module

public import proofs.«01_k».proof.Proof.Schedule

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a measure. -/
abbrev 𝒱₀ : Variants := Variants.none

/-! ## What every step may consult -/

/-- Different copy semaphores have different names. -/
theorem dsm_inj : Function.Injective fun kj : Fin 4 × Fin 8 => dsm kj.1 kj.2 := by decide

/-- The barrier semaphores, one on each device, -/
def barEmb : Dev nD ↪ GSem nD τ sig := ⟨fun c => barCell c, fun _ _ h => congrArg (fun g : GSem nD τ sig => g.1.1) h⟩
/-- and the copy semaphores, 32 on each, -/
def scEmb : Dev nD × (Fin 4 × Fin 8) ↪ GSem nD τ sig :=
  ⟨fun ck => dcell ck.2.1 ck.2.2 ck.1, fun a b h =>
    Prod.ext (congrArg (fun g : GSem nD τ sig => g.1.1) h)
      (dsm_inj (SemLoc.dma.inj (congrArg Prod.snd h)))⟩
/-- as a set, -/
abbrev barCells : Finset (GSem nD τ sig) := Finset.univ.map barEmb
/-- and as a set. -/
abbrev scCells : Finset (GSem nD τ sig) := Finset.univ.map scEmb

/-- A barrier semaphore is among the cells, -/
theorem bar_mem (c : Dev nD) : barCell c ∈ (barCells ∪ scCells : Finset (GSem nD τ sig)) :=
  Finset.mem_union_left _ (Finset.mem_map_of_mem barEmb (Finset.mem_univ c))
/-- and so is a copy semaphore. -/
theorem dcell_mem (κ : Fin 4) (j : Fin 8) (c : Dev nD) : dcell κ j c ∈ (barCells ∪ scCells : Finset (GSem nD τ sig)) :=
  Finset.mem_union_right _ (Finset.mem_map_of_mem scEmb (Finset.mem_univ (c, (κ, j))))

section Ctx

variable (P : Part F) (A : Sum F) (K : GSem nD τ sig → ℕ) (c : Dev nD)

/-- The records from the launch: every cell's invariant, round 0 of every barrier cell reached. -/
def records : sProp 𝕄 :=
  iprop((bigSep (barCells ∪ scCells) fun g => cellInv ER (rd P A) (K g) g) ∗ bigSep barCells fun g => reached ER g 0)
/-- The records are kept when used, -/
instance records_persistent : BI.Persistent (records P A K) := by unfold records; infer_instance

/-- With the own DMA cells open, and the levels. -/
def ctx : sProp 𝕄 :=
  iprop(records P A K ∗ (bigSep (Finset.univ : Finset (Fin 4 × Fin 8)) fun kj => reached ER (dcell kj.1 kj.2 c) 0) ∗ levAts L lv)
/-- and so is what a device knows. -/
instance ctx_persistent : BI.Persistent (ctx P A K c) := by unfold ctx; infer_instance

/-- The records hold the invariant of each cell, -/
theorem records_inv {g : GSem nD τ sig} (hg : g ∈ (barCells ∪ scCells : Finset (GSem nD τ sig))) :
    (bigSep (barCells ∪ scCells) fun g => (cellInv ER (rd P A) (K g) g : sProp 𝕄)) ⊢ cellInv ER (rd P A) (K g) g := bigSep_elim hg
/-- and that the barrier has reached its round, -/
theorem records_bar (d : Dev nD) : (bigSep barCells fun g => (reached ER g 0 : sProp 𝕄)) ⊢ reached ER (barCell d) 0 :=
  bigSep_elim (Finset.mem_map_of_mem barEmb (Finset.mem_univ d))
/-- as have the own copy semaphores. -/
theorem opened_reached (κ : Fin 4) (j : Fin 8) :
    (bigSep (Finset.univ : Finset (Fin 4 × Fin 8)) fun kj => (reached ER (dcell kj.1 kj.2 c) 0 : sProp 𝕄)) ⊢ reached ER (dcell κ j c) 0 :=
  bigSep_elim (Finset.mem_univ (κ, j))

/-- A device knows the invariant of every barrier, -/
theorem ctx_inv_bar (d : Dev nD) : ctx P A K c ⊢ cellInv ER (rd P A) (K (barCell d)) (barCell d) := by
  unfold ctx records; iintro ⟨⟨H, -⟩, -⟩; iapply (records_inv P A K (bar_mem d)); iexact H
/-- that of every copy semaphore, -/
theorem ctx_inv (κ : Fin 4) (j : Fin 8) (d : Dev nD) : ctx P A K c ⊢ cellInv ER (rd P A) (K (dcell κ j d)) (dcell κ j d) := by
  unfold ctx records; iintro ⟨⟨H, -⟩, -⟩; iapply (records_inv P A K (dcell_mem κ j d)); iexact H
/-- that every barrier has reached its round, -/
theorem ctx_reached_bar (d : Dev nD) : ctx P A K c ⊢ reached ER (barCell d) 0 := by
  unfold ctx records; iintro ⟨⟨-, H⟩, -⟩; iapply (records_bar (F := F) d); iexact H
/-- that its own copy semaphores have, -/
theorem ctx_reached (κ : Fin 4) (j : Fin 8) : ctx P A K c ⊢ reached ER (dcell κ j c) 0 := by
  unfold ctx; iintro ⟨-, H, -⟩; iapply (opened_reached (F := F) c κ j); iexact H
/-- and the levels. -/
theorem ctx_lev : ctx P A K c ⊢ (levAts L lv : sProp 𝕄) := by
  unfold ctx; iintro ⟨-, -, H⟩; iexact H

/-- Owing what is left when `r` payments are to go. -/
def ow (r : ℕ) : sProp 𝕄 := iprop(∃ W, owes (c : Thread nD τ) (owe c r) W)

end Ctx

/-! ## Copies through squeezed views -/

/-- What a copy between two re-indexed views leaves under the destination's own view. -/
theorem read_copy {sig : RefSig} {κ κ' : Kind} {sp sp' : Space} {s s' : Shape} {e : EltTy} {Val : EltTy → Type}
    (v : View sig κ sp s e) (w : View sig κ' sp' s e) (h : s'.numel = s.numel) (f : v.ty.Contents Val) (g : w.ty.Contents Val) :
    w.read Val ((w.reshape s' h).write Val g ((v.reshape s' h).read Val f) Finset.univ) = v.read Val f := by
  rw [View.write_reshape_univ, View.read_write_univ]
  funext x
  show v.read Val f (Shape.reshapeEquiv h ((Shape.reshapeEquiv h).symm x)) = _
  rw [Equiv.apply_symm_apply]

/-! ## The steps -/

/-- To owe one more payment. -/
theorem owe_succ (c : Dev nD) (r : ℕ) : owe c (r + 1) = owe c r + tallyAt (payCell c r) () (payAmt r) := rfl

variable (P : Part F) (A : Sum F) (K : GSem nD τ sig → ℕ) (c : Dev nD) {α : Type}

/-- Signal the device `k + 1` steps up: its slot and its rows of ours go the other way later; ours of its go now. -/
theorem step_signal (k r : ℕ) (hk : k < 7) (hr : r + k = 20) {d : Dev nD} (hd : d = up c k) {n : ℕ} (hn : n = 1)
    {rest : PUnit.{1} → Prog (TpuEff nD τ sig (Elt F) Λ₀ .tc) α} {Q : α → sProp 𝕄} :
    iprop(ctx P A K c ∗ dutyTok ER (barCell (up c k)) 0 c ∗ (∃ v, owns (c : Thread nD τ) (recvSl (up c k)) fullShare v)
        ∗ (∃ v, owns (c : Thread nD τ) (outSl (up c k)) fullShare v) ∗ ow c (r + 1))
      ⊢ iprop((ow c r -∗ wp frame (wpE (defs₀ (F := F)) 𝒱₀ (c : Thread nD τ) none) Set.univ (rest ⟨⟩) Q)
        -∗ wp frame (wpE (defs₀ (F := F)) 𝒱₀ (c : Thread nD τ) none) Set.univ (.op (.semSignal (d : Thread nD τ) barS n) rest) Q) := by
  subst hd hn
  have hcell : payCell c r = barCell (up c k) := by
    unfold payCell; rw [if_neg (by omega), if_neg (by omega)]; congr 1; congr 1; omega
  have hamt : payAmt r = 1 := by unfold payAmt; rw [if_neg (by omega)]
  unfold ow
  iintro ⟨#Hc, Ht, Hs, Ho, ⟨%W, HO⟩⟩ Hk
  iapply (Rounds.wp_signal 𝒱₀ ER (rd P A) (c : Thread nD τ) none (dst := (up c k : Thread nD τ)) (sem := barS) (r := 0) (d := c)
      (κ := K (barCell (up c k)))
      (by rw [duties_bar]; exact Finset.mem_erase.mpr ⟨(up_ne c ⟨k, hk⟩).symm, Finset.mem_univ _⟩)
      (amount_bar P A (up c k) c) () (O₀ := owe c (r + 1)) (owe c r) (by rw [owe_succ, hcell, hamt])) $$ [HO Ht Hs Ho]
  · isplitr; · iapply (ctx_inv_bar P A K c (up c k)); iexact Hc
    isplitl [HO]; · iexact HO
    isplitl [Ht]; · iexact Ht
    isplitl [Hs Ho]
    · rw [payload_bar]; unfold barPay
      isplitl [Hs Ho]; · isplitl [Hs] <;> iassumption
      isplitr
      · iapply (ctx_reached P A K c 1 (up c k)); iexact Hc
      · iapply (ctx_reached P A K c 3 (up c k)); iexact Hc
    · iapply (ctx_reached_bar P A K c (up c k)); iexact Hc
  iintro HO; iapply Hk; iexists W; iexact HO

/-- What the barrier wait brings, for the hop `k`. -/
def got (k : ℕ) : sProp 𝕄 :=
  iprop(((∃ v, owns (up c k : Thread nD τ) (recvSl c) fullShare v) ∗ (∃ v, owns (up c k : Thread nD τ) (outSl c) fullShare v))
    ∗ reached ER (dcell 1 c (up c k)) 0 ∗ reached ER (dcell 3 c (up c k)) 0)

/-- Wait for the seven others. -/
theorem step_barrier {n : ℕ} (hn : n = 7) {rest : PUnit.{1} → Prog (TpuEff nD τ sig (Elt F) Λ₀ .tc) α} {Q : α → sProp 𝕄} :
    iprop(ctx P A K c ∗ cred (tallyAt (barCell c) () 7) ∗ atPos ER (barCell c) 0 ∅ 0 ∗ ow c 14)
      ⊢ iprop((((got c 0 ∗ got c 1 ∗ got c 2 ∗ got c 3 ∗ got c 4 ∗ got c 5 ∗ got c 6) ∗ atPos ER (barCell c) 1 ∅ 0 ∗ ow c 14)
          -∗ wp frame (wpE (defs₀ (F := F)) 𝒱₀ (c : Thread nD τ) none) Set.univ (rest ⟨⟩) Q)
        -∗ wp frame (wpE (defs₀ (F := F)) 𝒱₀ (c : Thread nD τ) none) Set.univ (.op (.semWait barS n) rest) Q) := by
  subst hn
  unfold ow
  iintro ⟨#Hc, Hcr, Hat, ⟨%W, HO⟩⟩ Hk
  iapply (Rounds.wp_wait_rest_token 𝒱₀ ER (rd P A) (c : Thread nD τ) none (κ := K (barCell c))
      (wpE_semWait_eq 𝒱₀ (c : Thread nD τ) none Set.univ) (Set.mem_univ _) () (O := owe c 14) (W := W) (R := 0) (m := 0) (T := ∅)
      ((Nat.zero_add 7).trans (expect_bar P A c).symm)) $$ [Hcr HO Hat]
  · isplitr; · iapply (ctx_inv_bar P A K c c); iexact Hc
    isplitl [Hcr]; · iexact Hcr
    isplitl [HO]; · iexact HO
    isplitr
    · iapply (mayWait c (.reg barS) 14 (fun i hi => by
        rw [lv_payCell]
        show 1 < _
        (repeat' split) <;> omega))
      iapply (ctx_lev P A K c); iexact Hc
    iexact Hat
  iintro ⟨HO, Hat, -, Hpay⟩
  iapply Hk
  isplitl [Hpay]
  · ihave Hp := (Entails.of_eq ((congrArg (fun s => bigSep s fun d => (rd P A).payload (barCell c) 0 d)
        ((congrArg (· \ ∅) (duties_bar P A c)).trans Finset.sdiff_empty)).trans
      ((bigSep_up c fun d => (rd P A).payload (barCell c) 0 d).trans (bigSep_fin7 fun k => (rd P A).payload (barCell c) 0 (up c k))))) $$ Hpay
    iexact Hp
  isplitl [Hat]; · iexact Hat
  iexists _; iexact HO

/-- Copy chunk `up c k` of the partial to its device. -/
theorem step_send1 (k r : ℕ) (hk : k < 7) (hr : r + k = 13) {d : Dev nD} (hd : d = up c k)
    {s1 s2 : DmaSem sig} (h1 : s1 = dsm 0 (up c k)) (h2 : s2 = dsm 1 c)
    {o6 o5 : Fin 3 → ℕ} (ho6 : o6 = ![(up c k).val, 0, 0]) (ho5 : o5 = ![c.val, 0, 0])
    {i6 : ∀ a : Fin 3, o6 a + S1x64x512.size a ≤ S8x64x512.size a} {i5 : ∀ a : Fin 3, o5 a + S1x64x512.size a ≤ S8x64x512.size a}
    {u6 : ∀ a, (Rect.unit (s := S8x64x512) o6 S1x64x512.size i6).stride a = 1} {u5 : ∀ a, (Rect.unit (s := S8x64x512) o5 S1x64x512.size i5).stride a = 1}
    {hq : S1x64x512.Squeezes S64x512}
    {hsc : ((recvM.slice (Rect.unit (s := S8x64x512) o5 S1x64x512.size i5) u5).squeeze S64x512 hq).view.ref.isScScratch = false}
    {hw6 : ((sendM.slice (Rect.unit (s := S8x64x512) o6 S1x64x512.size i6) u6).squeeze S64x512 hq).view.WordExact}
    {hw5 : ((recvM.slice (Rect.unit (s := S8x64x512) o5 S1x64x512.size i5) u5).squeeze S64x512 hq).view.WordExact}
    {hty : DmaTarget.Typed .vmem (.dma s2) (.remote (Dev.tc d) ((recvM.slice (Rect.unit (s := S8x64x512) o5 S1x64x512.size i5) u5).squeeze S64x512 hq) (.dma s1) hsc)}
    {rest : PUnit.{1} → Prog (TpuEff nD τ sig (Elt F) Λ₀ .tc) α} {Q : α → sProp 𝕄} :
    iprop(ctx P A K c ∗ owns (c : Thread nD τ) (sendSl (up c k)) fullShare (P c (up c k))
        ∗ (∃ v, owns (up c k : Thread nD τ) (recvSl c) fullShare v) ∗ reached ER (dcell 1 c (up c k)) 0
        ∗ dutyTok ER (dcell 0 (up c k) c) 0 0 ∗ dutyTok ER (dcell 1 c (up c k)) 0 0 ∗ ow c (r + 1))
      ⊢ iprop(((cred (tallyAt (dcell 0 (up c k) c) () N) ∗ ow c r)
          -∗ wp frame (wpE (defs₀ (F := F)) 𝒱₀ (c : Thread nD τ) none) Set.univ (rest ⟨⟩) Q)
        -∗ wp frame (wpE (defs₀ (F := F)) 𝒱₀ (c : Thread nD τ) none) Set.univ
          (.op (.enqueueDma ((sendM.slice (Rect.unit (s := S8x64x512) o6 S1x64x512.size i6) u6).squeeze S64x512 hq)
            (.remote (Dev.tc d) ((recvM.slice (Rect.unit (s := S8x64x512) o5 S1x64x512.size i5) u5).squeeze S64x512 hq) (.dma s1) hsc) (.dma s2) hw6 hw5 hty) rest) Q) := by
  subst hd h1 h2 ho6 ho5
  have hcell : payCell c r = dcell 1 c (up c k) := by
    unfold payCell; rw [if_neg (by omega), if_pos (by omega)]; congr 1; congr 1; omega
  have hamt : payAmt r = N := by unfold payAmt; rw [if_pos (by omega)]
  have hne : up c k ≠ c := up_ne c ⟨k, hk⟩
  unfold ow
  iintro ⟨#Hc, Hsrc, ⟨%v, Hdst⟩, #Hr, Ht1, Ht2, ⟨%W, HO⟩⟩ Hk
  unfold owns
  icases Hsrc with ⟨%fs, %hfs, Hsrc⟩
  icases Hdst with ⟨%fd, %hfd, Hdst⟩
  iapply (Rounds.wp_send_pointsTo 𝒱₀ ER (rd P A) (c : Thread nD τ) none (c' := (up c k : Thread nD τ))
      (src := (sendSl (up c k)).squeeze S64x512 hq) (dst := (recvSl c).squeeze S64x512 hq)
      (sS := .dma (dsm 0 (up c k))) (sem := .dma (dsm 1 c)) (q := fullShare) (fs := fs) (fd := fd)
      (κ₁ := K (dcell 0 (up c k) c)) (κ₂ := K (dcell 1 c (up c k)))
      (r₁ := 0) (r₂ := 0) (d₁ := 0) (d₂ := 0)
      (by rw [duties_dcell, dmaDuty_of_ne c (by decide) hne]; exact Finset.mem_singleton_self _)
      (by rw [duties_dcell, dmaDuty_of_ne (up c k) (by decide) hne.symm]; exact Finset.mem_singleton_self _)
      () () N rfl (amount_dcell P A c 0 _ 0) (amount_dcell P A (up c k) 1 _ 0) (O₀ := owe c (r + 1)) (owe c r) (by rw [owe_succ, hcell, hamt]) (W := W)
      (by
        rw [payload_dcell]
        show _ ⊢ iprop(∃ v, owns (c : Thread nD τ) (sendSl (up c k)) fullShare v)
        rw [View.set_reshape]
        iintro H; iexists _
        iapply (owns_intro (c : Thread nD τ) (sendSl (up c k)) fullShare fs); iexact H)
      (by
        rw [payload_dcell]
        show _ ⊢ owns (up c k : Thread nD τ) (recvSl c) fullShare (P c (up c k))
        rw [View.set_reshape]
        refine (owns_intro (up c k : Thread nD τ) (recvSl c) fullShare _).trans (Entails.of_eq (congrArg _ ?_))
        exact (read_copy (Val := Elt F) (sendSl (up c k)).view (recvSl c).view hq.numel_eq fs fd).trans hfs)) $$ [Hsrc Hdst Ht1 Ht2 HO]
  · isplitr; · iapply (ctx_inv P A K c 0 (up c k) c); iexact Hc
    isplitr; · iapply (ctx_inv P A K c 1 c (up c k)); iexact Hc
    isplitl [Hsrc]; · rw [View.set_reshape]; iexact Hsrc
    isplitl [Hdst]; · rw [View.set_reshape]; iexact Hdst
    isplitl [HO]; · iexact HO
    isplitl [Ht1]; · iexact Ht1
    isplitr; · iapply (ctx_reached P A K c 0 (up c k)); iexact Hc
    isplitl [Ht2]; · iexact Ht2
    iexact Hr
  iintro ⟨Hcr, HO⟩
  iapply Hk
  isplitl [Hcr]; · iexact Hcr
  iexists W; iexact HO

/-- Copy the own sum to the device `k + 1` steps up, with the share of copy `k + 1`. -/
theorem step_send2 (k r : ℕ) (hk : k < 7) (hr : r + k = 6) {d : Dev nD} (hd : d = up c k)
    {s1 s2 : DmaSem sig} (h1 : s1 = dsm 2 (hp k)) (h2 : s2 = dsm 3 c)
    {o : Fin 2 → ℕ} (ho : o = ![64 * c.val, 0])
    {i : ∀ a : Fin 2, o a + S64x512.size a ≤ S512x512.size a} {u : ∀ a, (Rect.unit (s := S512x512) o S64x512.size i).stride a = 1}
    {hsc : (outM.slice (Rect.unit (s := S512x512) o S64x512.size i) u).view.ref.isScScratch = false}
    {hw1 : bcM.view.WordExact} {hw2 : (outM.slice (Rect.unit (s := S512x512) o S64x512.size i) u).view.WordExact}
    {hty : DmaTarget.Typed .vmem (.dma s2) (.remote (Dev.tc d) (outM.slice (Rect.unit (s := S512x512) o S64x512.size i) u) (.dma s1) hsc)}
    {rest : PUnit.{1} → Prog (TpuEff nD τ sig (Elt F) Λ₀ .tc) α} {Q : α → sProp 𝕄} :
    iprop(ctx P A K c ∗ owns (c : Thread nD τ) bcM (shr (hp k)) (A c)
        ∗ (∃ v, owns (up c k : Thread nD τ) (outSl c) fullShare v) ∗ reached ER (dcell 3 c (up c k)) 0
        ∗ dutyTok ER (dcell 2 (hp k) c) 0 0 ∗ dutyTok ER (dcell 3 c (up c k)) 0 0 ∗ ow c (r + 1))
      ⊢ iprop(((cred (tallyAt (dcell 2 (hp k) c) () N) ∗ ow c r)
          -∗ wp frame (wpE (defs₀ (F := F)) 𝒱₀ (c : Thread nD τ) none) Set.univ (rest ⟨⟩) Q)
        -∗ wp frame (wpE (defs₀ (F := F)) 𝒱₀ (c : Thread nD τ) none) Set.univ
          (.op (.enqueueDma bcM (.remote (Dev.tc d) (outM.slice (Rect.unit (s := S512x512) o S64x512.size i) u) (.dma s1) hsc) (.dma s2) hw1 hw2 hty) rest) Q) := by
  subst hd h1 h2 ho
  have hcell : payCell c r = dcell 3 c (up c k) := by
    unfold payCell; rw [if_pos (by omega)]; congr 1; congr 1; omega
  have hamt : payAmt r = N := by unfold payAmt; rw [if_pos (by omega)]
  have hne : up c k ≠ c := up_ne c ⟨k, hk⟩
  have hpne : hp k ≠ 0 := hp_ne ⟨k, hk⟩
  unfold ow
  iintro ⟨#Hc, Hsrc, ⟨%v, Hdst⟩, #Hr, Ht1, Ht2, ⟨%W, HO⟩⟩ Hk
  unfold owns
  icases Hsrc with ⟨%fs, %hfs, Hsrc⟩
  icases Hdst with ⟨%fd, %hfd, Hdst⟩
  iapply (Rounds.wp_send_pointsTo 𝒱₀ ER (rd P A) (c : Thread nD τ) none (c' := (up c k : Thread nD τ))
      (src := bcM) (dst := outSl c)
      (sS := .dma (dsm 2 (hp k))) (sem := .dma (dsm 3 c)) (q := shr (hp k)) (fs := fs) (fd := fd)
      (κ₁ := K (dcell 2 (hp k) c)) (κ₂ := K (dcell 3 c (up c k)))
      (r₁ := 0) (r₂ := 0) (d₁ := 0) (d₂ := 0)
      (by rw [duties_dcell]; show _ ∈ dmaDuty 2 _ _; rw [dmaDuty_two c hpne]; exact Finset.mem_singleton_self _)
      (by rw [duties_dcell, dmaDuty_of_ne (up c k) (by decide) hne.symm]; exact Finset.mem_singleton_self _)
      () () N rfl (amount_dcell P A c 2 _ 0) (amount_dcell P A (up c k) 3 _ 0) (O₀ := owe c (r + 1)) (owe c r) (by rw [owe_succ, hcell, hamt]) (W := W)
      (by
        rw [payload_dcell]
        show _ ⊢ owns (c : Thread nD τ) bcM (shr (hp k)) (A c)
        rw [← hfs]
        exact owns_intro (c : Thread nD τ) bcM (shr (hp k)) fs)
      (by
        rw [payload_dcell]
        show _ ⊢ owns (up c k : Thread nD τ) (outSl c) fullShare (A c)
        refine (owns_intro (up c k : Thread nD τ) (outSl c) fullShare _).trans (Entails.of_eq (congrArg _ ?_))
        exact (View.read_write_univ (v := (outSl c).view) fd (bcM.view.read (Elt F) fs)).trans hfs)) $$ [Hsrc Hdst Ht1 Ht2 HO]
  · isplitr; · iapply (ctx_inv P A K c 2 (hp k) c); iexact Hc
    isplitr; · iapply (ctx_inv P A K c 3 c (up c k)); iexact Hc
    isplitl [Hsrc]; · iexact Hsrc
    isplitl [Hdst]; · iexact Hdst
    isplitl [HO]; · iexact HO
    isplitl [Ht1]; · iexact Ht1
    isplitr; · iapply (ctx_reached P A K c 2 (hp k)); iexact Hc
    isplitl [Ht2]; · iexact Ht2
    iexact Hr
  iintro ⟨Hcr, HO⟩
  iapply Hk
  isplitl [Hcr]; · iexact Hcr
  iexists W; iexact HO

/-- Wait on an own DMA cell that is below everything still owed: its payload comes. -/
theorem step_wait (κ : Fin 4) (j : Fin 8) (r : ℕ) (hd : dmaDuty κ.val j c = {0}) (hlv : ∀ i < r, lv (dcell κ j c) () < lv (payCell c i) ())
    {sm : DmaSem sig} (hsm : sm = dsm κ j) {sp sp' : Space} {s s' : Shape} {e e' : EltTy} {κ' : Kind}
    {src : Memref sig .tc sp' s' e'} {dst : Memref sig κ' sp s e} {h1 : src.view.WordExact} {h2 : dst.view.WordExact} (hN : dst.view.dmaCredit = N)
    {rest : PUnit.{1} → Prog (TpuEff nD τ sig (Elt F) Λ₀ .tc) α} {Q : α → sProp 𝕄} :
    iprop(ctx P A K c ∗ cred (tallyAt (dcell κ j c) () N) ∗ atPos ER (dcell κ j c) 0 ∅ 0 ∗ ow c r)
      ⊢ iprop(((dmaPay P A κ.val j c ∗ atPos ER (dcell κ j c) 1 ∅ 0 ∗ ow c r)
          -∗ wp frame (wpE (defs₀ (F := F)) 𝒱₀ (c : Thread nD τ) none) Set.univ (rest ⟨⟩) Q)
        -∗ wp frame (wpE (defs₀ (F := F)) 𝒱₀ (c : Thread nD τ) none) Set.univ (.op (.waitDma2 sm src dst h1 h2) rest) Q) := by
  subst hsm
  unfold ow
  iintro ⟨#Hc, Hcr, Hat, ⟨%W, HO⟩⟩ Hk
  iapply (Rounds.wp_wait_rest_token 𝒱₀ ER (rd P A) (c : Thread nD τ) none (κ := K (dcell κ j c))
      (wpE_waitDma2_eq 𝒱₀ (c : Thread nD τ) none Set.univ) (Set.mem_univ _) () (O := owe c r) (W := W) (R := 0) (m := 0) (T := ∅)
      (by rw [Nat.zero_add, hN, expect_dcell P A c κ j hd])) $$ [Hcr HO Hat]
  · isplitr; · iapply (ctx_inv P A K c κ j c); iexact Hc
    isplitl [Hcr]; · rw [hN]; iexact Hcr
    isplitl [HO]; · iexact HO
    isplitr
    · iapply (mayWait c (.dma (dsm κ j)) r hlv)
      iapply (ctx_lev P A K c); iexact Hc
    iexact Hat
  iintro ⟨HO, Hat, -, Hpay⟩
  iapply Hk
  isplitl [Hpay]
  · ihave Hp := (Entails.of_eq (rest_dcell P A c κ j hd)) $$ Hpay
    iexact Hp
  isplitl [Hat]; · iexact Hat
  iexists _; iexact HO

end Cert.Talk

end
-- ==== Proof.Moves.lean ====
/-
# Loads and stores of the kernel, and its waits by name

The kernel addresses its buffers and semaphores by printed offsets; the lemmas here read them as slots, rows and cells.
-/
module

public import proofs.«01_k».proof.Proof.Steps

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Semaphores -/

/-- A semaphore lies inside its array. -/
theorem semIn (j : Fin 8) : ∀ a : Fin 1, (![j.val] : Fin 1 → ℕ) a + S1.size a ≤ S8.size a := by revert j; decide

/-- The printed semaphores by name: of the first sends, -/
theorem sem_slice0 : ∀ j : Fin 8, ((cc0_scratch3.slice (Rect.unit (s := S8) ![j.val] S1.size (semIn j))).squeeze S_ squeezes_S1_S_).sem = dsm 0 j := by
  decide +kernel
/-- at any offset that is equal, -/
theorem sem_at0 (j : Fin 8) {o : Fin 1 → ℕ} (ho : o = ![j.val]) {h : ∀ a, o a + S1.size a ≤ S8.size a} {hq : S1.Squeezes S_} :
    ((cc0_scratch3.slice (Rect.unit (s := S8) o S1.size h)).squeeze S_ hq).sem = dsm 0 j := by
  subst ho; exact sem_slice0 j
/-- of the first landings, -/
theorem sem_slice1 : ∀ j : Fin 8, ((cc0_scratch4.slice (Rect.unit (s := S8) ![j.val] S1.size (semIn j))).squeeze S_ squeezes_S1_S_).sem = dsm 1 j := by
  decide +kernel
/-- at any offset that is equal, -/
theorem sem_at1 (j : Fin 8) {o : Fin 1 → ℕ} (ho : o = ![j.val]) {h : ∀ a, o a + S1.size a ≤ S8.size a} {hq : S1.Squeezes S_} :
    ((cc0_scratch4.slice (Rect.unit (s := S8) o S1.size h)).squeeze S_ hq).sem = dsm 1 j := by
  subst ho; exact sem_slice1 j
/-- of the second sends, -/
theorem sem_slice2 : ∀ j : Fin 8, ((cc0_scratch5.slice (Rect.unit (s := S8) ![j.val] S1.size (semIn j))).squeeze S_ squeezes_S1_S_).sem = dsm 2 j := by
  decide +kernel
/-- at any offset that is equal, -/
theorem sem_at2 (j : Fin 8) {o : Fin 1 → ℕ} (ho : o = ![j.val]) {h : ∀ a, o a + S1.size a ≤ S8.size a} {hq : S1.Squeezes S_} :
    ((cc0_scratch5.slice (Rect.unit (s := S8) o S1.size h)).squeeze S_ hq).sem = dsm 2 j := by
  subst ho; exact sem_slice2 j
/-- of the second landings, -/
theorem sem_slice3 : ∀ j : Fin 8, ((cc0_scratch6.slice (Rect.unit (s := S8) ![j.val] S1.size (semIn j))).squeeze S_ squeezes_S1_S_).sem = dsm 3 j := by
  decide +kernel
/-- at any offset that is equal. -/
theorem sem_at3 (j : Fin 8) {o : Fin 1 → ℕ} (ho : o = ![j.val]) {h : ∀ a, o a + S1.size a ≤ S8.size a} {hq : S1.Squeezes S_} :
    ((cc0_scratch6.slice (Rect.unit (s := S8) o S1.size h)).squeeze S_ hq).sem = dsm 3 j := by
  subst ho; exact sem_slice3 j

/-! ## Loads and stores -/

section Mem

variable (c : Dev nD) {α : Type}

/-- Load exactly what a slice holds. -/
theorem load_slice {cs : CoreSpace} {s : Shape} {e : EltTy} {m : Memref sig .tc cs s e} {r : Rect s} {hr : ∀ a, r.stride a = 1}
    {q : PosShare TreeShare} {X : r.shape.Idx → Elt F e} {hl : m.view.LoadsAt r.toLoadRect}
    {rest : (r.shape.Idx → Elt F e) → Prog (TpuEff nD τ sig (Elt F) Λ₀ .tc) α} {Q : α → sProp 𝕄} :
    (owns (c : Thread nD τ) (m.slice r hr) q X : sProp 𝕄)
      ⊢ iprop((owns (c : Thread nD τ) (m.slice r hr) q X -∗ wp frame (wpE (defs₀ (F := F)) 𝒱₀ (c : Thread nD τ) none) Set.univ (rest X) Q)
        -∗ wp frame (wpE (defs₀ (F := F)) 𝒱₀ (c : Thread nD τ) none) Set.univ (.op (.load m r.toLoadRect hl) rest) Q) := by
  unfold owns
  iintro ⟨%f, %hf, H⟩ Hk
  subst hf
  iapply (wp_load_rect 𝒱₀ (c : Thread nD τ) none Set.univ (m := m) (r := r) (q := q) (f := f) (Finset.Subset.refl _)) $$ H
  iintro H; iapply Hk; iexists f; isplitr; · ipureintro; rfl
  iexact H

/-- Load a part of what a memref holds. -/
theorem load_part {cs : CoreSpace} {s : Shape} {e : EltTy} {m : Memref sig .tc cs s e} {r : Rect s}
    {q : PosShare TreeShare} {X : s.Idx → Elt F e} {hl : m.view.LoadsAt r.toLoadRect}
    {rest : (r.shape.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE (defs₀ (F := F)) 𝒱₀ (c : Thread nD τ) none) Set.univ (rest fun y => X (r.emb y)) Q)
        -∗ wp frame (wpE (defs₀ (F := F)) 𝒱₀ (c : Thread nD τ) none) Set.univ (.op (.load m r.toLoadRect hl) rest) Q) := by
  unfold owns
  iintro ⟨%f, %hf, H⟩ Hk
  subst hf
  iapply (wp_load_rect 𝒱₀ (c : Thread nD τ) none Set.univ (m := m) (r := r) (q := q) (f := f) (S := m.view.set)
    ((View.set_slice m.view r).le.trans (m.view.setOn_subset_set _))) $$ H
  iintro H; iapply Hk; iexists f; isplitr; · ipureintro; rfl
  iexact H

/-- The same, with a name for what is loaded. -/
theorem load_as {cs : CoreSpace} {s : Shape} {e : EltTy} {m : Memref sig .tc cs s e} {r : Rect s}
    {q : PosShare TreeShare} {X : s.Idx → Elt F e} {Y : r.shape.Idx → Elt F e} (hY : (fun y => X (r.emb y)) = Y) {hl : m.view.LoadsAt r.toLoadRect}
    {rest : (r.shape.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE (defs₀ (F := F)) 𝒱₀ (c : Thread nD τ) none) Set.univ (rest Y) Q)
        -∗ wp frame (wpE (defs₀ (F := F)) 𝒱₀ (c : Thread nD τ) none) Set.univ (.op (.load m r.toLoadRect hl) rest) Q) := by
  subst hY; exact load_part (F := F) c

/-- Load of a rectangle that a slice holds part of no more: whatever is there, it stays. -/
theorem load_any {cs : CoreSpace} {s : Shape} {e : EltTy} {m : Memref sig .tc cs s e} {r : Rect s} {hr : ∀ a, r.stride a = 1}
    {q : PosShare TreeShare} {hl : m.view.LoadsAt r.toLoadRect}
    {rest : (r.shape.Idx → Elt F e) → Prog (TpuEff nD τ sig (Elt F) Λ₀ .tc) α} {Q : α → sProp 𝕄} :
    (iprop(∃ v, owns (c : Thread nD τ) (m.slice r hr) q v) : sProp 𝕄)
      ⊢ iprop((∀ v, (∃ v, owns (c : Thread nD τ) (m.slice r hr) q v) -∗ wp frame (wpE (defs₀ (F := F)) 𝒱₀ (c : Thread nD τ) none) Set.univ (rest v) Q)
        -∗ wp frame (wpE (defs₀ (F := F)) 𝒱₀ (c : Thread nD τ) none) Set.univ (.op (.load m r.toLoadRect hl) rest) Q) := by
  iintro ⟨%v, H⟩ Hk
  iapply (load_slice (F := F) c (m := m) (r := r) (hr := hr) (q := q) (X := v)) $$ H
  iintro H; iapply Hk; iexists v; iexact H

/-- Store into a slice. -/
theorem store_slice {cs : CoreSpace} {s : Shape} {e : EltTy} {m : Memref sig .tc cs s e} {r : Rect s} {hr : ∀ a, r.stride a = 1}
    {w : r.shape.Idx → Elt F e} {hx : (m.access r).Stores Finset.univ} {hm : (Finset.univ : Finset r.shape.Idx) = Finset.univ ∨ ∀ a, r.stride a = 1}
    {rest : PUnit.{1} → Prog (TpuEff nD τ sig (Elt F) Λ₀ .tc) α} {Q : α → sProp 𝕄} :
    (iprop(∃ v, owns (c : Thread nD τ) (m.slice r hr) fullShare v) : sProp 𝕄)
      ⊢ iprop((owns (c : Thread nD τ) (m.slice r hr) fullShare w -∗ wp frame (wpE (defs₀ (F := F)) 𝒱₀ (c : Thread nD τ) none) Set.univ (rest ⟨⟩) Q)
        -∗ wp frame (wpE (defs₀ (F := F)) 𝒱₀ (c : Thread nD τ) none) Set.univ (.op (.store m r w Finset.univ hx hm) rest) Q) := by
  unfold owns
  iintro ⟨%v, %f, %hf, H⟩ Hk
  iapply (wp_store 𝒱₀ (c : Thread nD τ) none Set.univ (m := m) (r := r) (w := w) (Mk := Finset.univ) (hx := hx) (hm := hm) (S := (m.slice r hr).view.set) (f := f)
    (Finset.Subset.refl _)) $$ H
  iintro H; iapply Hk; iexists _; isplitr
  · ipureintro; exact View.read_write_univ (v := m.access r) f w
  iexact H

/-- Load a slice, throw the load away and store into the slice. -/
theorem fill_slice {cs : CoreSpace} {s : Shape} {e : EltTy} {m : Memref sig .tc cs s e} {r : Rect s} {hr : ∀ a, r.stride a = 1}
    {w : r.shape.Idx → Elt F e} {hl : m.view.LoadsAt r.toLoadRect} {hx : (m.access r).Stores Finset.univ}
    {hm : (Finset.univ : Finset r.shape.Idx) = Finset.univ ∨ ∀ a, r.stride a = 1}
    {rest : PUnit.{1} → Prog (TpuEff nD τ sig (Elt F) Λ₀ .tc) α} {Q : α → sProp 𝕄} :
    (iprop(∃ v, owns (c : Thread nD τ) (m.slice r hr) fullShare v) : sProp 𝕄)
      ⊢ iprop((owns (c : Thread nD τ) (m.slice r hr) fullShare w -∗ wp frame (wpE (defs₀ (F := F)) 𝒱₀ (c : Thread nD τ) none) Set.univ (rest ⟨⟩) Q)
        -∗ wp frame (wpE (defs₀ (F := F)) 𝒱₀ (c : Thread nD τ) none) Set.univ
          (.op (.load m r.toLoadRect hl) fun _ => .op (.store m r w Finset.univ hx hm) rest) Q) := by
  iintro H Hk
  iapply (load_any (F := F) c (m := m) (r := r) (hr := hr) (q := fullShare)) $$ H
  iintro %v H
  iapply (store_slice (F := F) c (m := m) (r := r) (hr := hr) (w := w)) $$ H
  iexact Hk

/-- Slot `j` of a buffer of eight chunks, and the rows of chunk `j`, as memrefs. -/
abbrev slotOf (m : Memref sig .tc .vmem S8x64x512 .bf16) (j : Fin 8) : Memref sig .tc .vmem S1x64x512 .bf16 := m.slice (slotR j) fun _ => rfl
/-- The rows of a chunk in an array. -/
abbrev rowsOf (m : Memref sig .tc .vmem S512x512 .bf16) (j : Fin 8) : Memref sig .tc .vmem S64x512 .bf16 := m.slice (rowsR j) fun _ => rfl

/-- A slot by its printed offset. -/
theorem slot_eq (j : Fin 8) {o : Fin 3 → ℕ} (ho : o = ![j.val, 0, 0]) (h : ∀ a : Fin 3, o a + S1x64x512.size a ≤ S8x64x512.size a) :
    Rect.unit (s := S8x64x512) o S1x64x512.size h = slotR j := by subst ho; rfl
/-- The printed rows are those of the chunk. -/
theorem rows_eq (j : Fin 8) {o : Fin 2 → ℕ} (ho : o = ![64 * j.val, 0]) (h : ∀ a : Fin 2, o a + S64x512.size a ≤ S512x512.size a) :
    Rect.unit (s := S512x512) o S64x512.size h = rowsR j := by subst ho; rfl

/-- Load slot `j`. -/
theorem load_slot {m : Memref sig .tc .vmem S8x64x512 .bf16} (j : Fin 8) {o : Fin 3 → ℕ} (ho : o = ![j.val, 0, 0])
    {h : ∀ a : Fin 3, o a + S1x64x512.size a ≤ S8x64x512.size a} {X : S1x64x512.Idx → Elt F .bf16}
    {hl : m.view.LoadsAt (Rect.unit (s := S8x64x512) o S1x64x512.size h).toLoadRect}
    {rest : (S1x64x512.Idx → Elt F .bf16) → Prog (TpuEff nD τ sig (Elt F) Λ₀ .tc) α} {Q : α → sProp 𝕄} :
    (owns (c : Thread nD τ) (slotOf m j) fullShare X : sProp 𝕄)
      ⊢ iprop((owns (c : Thread nD τ) (slotOf m j) fullShare X -∗ wp frame (wpE (defs₀ (F := F)) 𝒱₀ (c : Thread nD τ) none) Set.univ (rest X) Q)
        -∗ wp frame (wpE (defs₀ (F := F)) 𝒱₀ (c : Thread nD τ) none) Set.univ (.op (.load m (Rect.unit (s := S8x64x512) o S1x64x512.size h).toLoadRect hl) rest) Q) := by
  subst ho; exact load_slice (F := F) c (m := m) (r := slotR j)

/-- Fill slot `j`: the kernel loads it first and throws the load away. -/
theorem fill_slot {m : Memref sig .tc .vmem S8x64x512 .bf16} (j : Fin 8) {o : Fin 3 → ℕ} (ho : o = ![j.val, 0, 0])
    {h : ∀ a : Fin 3, o a + S1x64x512.size a ≤ S8x64x512.size a} {w : S1x64x512.Idx → Elt F .bf16} (X : S1x64x512.Idx → Elt F .bf16) (hw : w = X)
    {hl : m.view.LoadsAt (Rect.unit (s := S8x64x512) o S1x64x512.size h).toLoadRect}
    {hx : (m.access (Rect.unit (s := S8x64x512) o S1x64x512.size h)).Stores Finset.univ}
    {hm : (Finset.univ : Finset (Rect.unit (s := S8x64x512) o S1x64x512.size h).shape.Idx) = Finset.univ ∨ ∀ a, (Rect.unit (s := S8x64x512) o S1x64x512.size h).stride a = 1}
    {rest : PUnit.{1} → Prog (TpuEff nD τ sig (Elt F) Λ₀ .tc) α} {Q : α → sProp 𝕄} :
    (iprop(∃ v, owns (c : Thread nD τ) (slotOf m j) fullShare v) : sProp 𝕄)
      ⊢ iprop((owns (c : Thread nD τ) (slotOf m j) fullShare X -∗ wp frame (wpE (defs₀ (F := F)) 𝒱₀ (c : Thread nD τ) none) Set.univ (rest ⟨⟩) Q)
        -∗ wp frame (wpE (defs₀ (F := F)) 𝒱₀ (c : Thread nD τ) none) Set.univ
          (.op (.load m (Rect.unit (s := S8x64x512) o S1x64x512.size h).toLoadRect hl) fun _ =>
            .op (.store m (Rect.unit (s := S8x64x512) o S1x64x512.size h) w Finset.univ hx hm) rest) Q) := by
  subst hw
  subst ho
  exact fill_slice (F := F) c (m := m) (r := slotR j) (hr := fun _ => rfl)

/-- Fill the rows of chunk `j` of the result. -/
theorem fill_rows {m : Memref sig .tc .vmem S512x512 .bf16} (j : Fin 8) {o : Fin 2 → ℕ} (ho : o = ![64 * j.val, 0])
    {h : ∀ a : Fin 2, o a + S64x512.size a ≤ S512x512.size a} {w : S64x512.Idx → Elt F .bf16} (X : S64x512.Idx → Elt F .bf16) (hw : w = X)
    {hl : m.view.LoadsAt (Rect.unit (s := S512x512) o S64x512.size h).toLoadRect}
    {hx : (m.access (Rect.unit (s := S512x512) o S64x512.size h)).Stores Finset.univ}
    {hm : (Finset.univ : Finset (Rect.unit (s := S512x512) o S64x512.size h).shape.Idx) = Finset.univ ∨ ∀ a, (Rect.unit (s := S512x512) o S64x512.size h).stride a = 1}
    {rest : PUnit.{1} → Prog (TpuEff nD τ sig (Elt F) Λ₀ .tc) α} {Q : α → sProp 𝕄} :
    (iprop(∃ v, owns (c : Thread nD τ) (rowsOf m j) fullShare v) : sProp 𝕄)
      ⊢ iprop((owns (c : Thread nD τ) (rowsOf m j) fullShare X -∗ wp frame (wpE (defs₀ (F := F)) 𝒱₀ (c : Thread nD τ) none) Set.univ (rest ⟨⟩) Q)
        -∗ wp frame (wpE (defs₀ (F := F)) 𝒱₀ (c : Thread nD τ) none) Set.univ
          (.op (.load m (Rect.unit (s := S512x512) o S64x512.size h).toLoadRect hl) fun _ =>
            .op (.store m (Rect.unit (s := S512x512) o S64x512.size h) w Finset.univ hx hm) rest) Q) := by
  subst hw
  subst ho
  exact fill_slice (F := F) c (m := m) (r := rowsR j) (hr := fun _ => rfl)

/-- Fill the buffer of the sum. -/
theorem fill_sum {h : ∀ a : Fin 2, (![0, 0] : Fin 2 → ℕ) a + S64x512.size a ≤ S64x512.size a} {w : S64x512.Idx → Elt F .bf16} (X : S64x512.Idx → Elt F .bf16) (hw : w = X)
    {hl : bcM.view.LoadsAt (Rect.unit (s := S64x512) ![0, 0] S64x512.size h).toLoadRect}
    {hx : (bcM.access (Rect.unit (s := S64x512) ![0, 0] S64x512.size h)).Stores Finset.univ}
    {hm : (Finset.univ : Finset (Rect.unit (s := S64x512) ![0, 0] S64x512.size h).shape.Idx) = Finset.univ ∨ ∀ a, (Rect.unit (s := S64x512) ![0, 0] S64x512.size h).stride a = 1}
    {rest : PUnit.{1} → Prog (TpuEff nD τ sig (Elt F) Λ₀ .tc) α} {Q : α → sProp 𝕄} :
    (iprop(∃ v, owns (c : Thread nD τ) bcM fullShare v) : sProp 𝕄)
      ⊢ iprop((owns (c : Thread nD τ) bcM fullShare X -∗ wp frame (wpE (defs₀ (F := F)) 𝒱₀ (c : Thread nD τ) none) Set.univ (rest ⟨⟩) Q)
        -∗ wp frame (wpE (defs₀ (F := F)) 𝒱₀ (c : Thread nD τ) none) Set.univ
          (.op (.load bcM (Rect.unit (s := S64x512) ![0, 0] S64x512.size h).toLoadRect hl) fun _ =>
            .op (.store bcM (Rect.unit (s := S64x512) ![0, 0] S64x512.size h) w Finset.univ hx hm) rest) Q) := by
  subst hw
  iintro ⟨%v, H⟩ Hk
  iapply (load_part (F := F) c (m := bcM) (r := Rect.unit (s := S64x512) ![0, 0] S64x512.size h)) $$ H
  iintro H
  ihave H := (Entails.of_eq (owns_whole (c : Thread nD τ) cc0_scratch2 fullShare v)) $$ H
  iapply (wp_store 𝒱₀ (c : Thread nD τ) none Set.univ (m := bcM) (r := Rect.unit (s := S64x512) ![0, 0] S64x512.size h) (w := w) (Mk := Finset.univ)
    (hx := hx) (hm := hm) (f := v) (S := Finset.univ) (Finset.subset_univ _)) $$ H
  iintro H
  iapply Hk
  have hx' : ((bcM.access (Rect.unit (s := S64x512) ![0, 0] S64x512.size h)).write (Elt F) v w Finset.univ) = w :=
    Memref.write_access_unit_zero_univ (Elt F) cc0_scratch2 (by funext a; fin_cases a <;> rfl) h v w
  rw [hx']
  iapply (Entails.of_eq (owns_whole (c : Thread nD τ) cc0_scratch2 fullShare w).symm)
  iexact H

end Mem

/-! ## The waits by name -/

section Waits

variable (P : Part F) (A : Sum F) (K : GSem nD τ sig → ℕ) (c : Dev nD) {α : Type}

/-- What a wait on the own cell consumes, and what stays after it. -/
def tk (κ : Fin 4) (j : Fin 8) : sProp 𝕄 := iprop(cred (tallyAt (dcell κ j c) () N) ∗ atPos ER (dcell κ j c) 0 ∅ 0)
/-- A copy semaphore past its round. -/
def fin (κ : Fin 4) (j : Fin 8) : sProp 𝕄 := atPos ER (dcell κ j c) 1 ∅ 0

variable {sm : DmaSem sig} {sp sp' : Space} {s s' : Shape} {e e' : EltTy} {κ' : Kind}
    {src : Memref sig .tc sp' s' e'} {dst : Memref sig κ' sp s e} {h1 : src.view.WordExact} {h2 : dst.view.WordExact}
    {rest : PUnit.{1} → Prog (TpuEff nD τ sig (Elt F) Λ₀ .tc) α}

/-- Every copy credits the same: what a wait counts by is a chunk of one of the four buffers. -/
theorem credit_send {o : Fin 3 → ℕ} {h : ∀ a : Fin 3, o a + S1x64x512.size a ≤ S8x64x512.size a} {u : ∀ a, (Rect.unit (s := S8x64x512) o S1x64x512.size h).stride a = 1}
    {hq : S1x64x512.Squeezes S64x512} : ((sendM.slice (Rect.unit (s := S8x64x512) o S1x64x512.size h) u).squeeze S64x512 hq).view.dmaCredit = N := rfl
/-- A copy pays a chunk into a slot, -/
theorem credit_recv {o : Fin 3 → ℕ} {h : ∀ a : Fin 3, o a + S1x64x512.size a ≤ S8x64x512.size a} {u : ∀ a, (Rect.unit (s := S8x64x512) o S1x64x512.size h).stride a = 1}
    {hq : S1x64x512.Squeezes S64x512} : ((recvM.slice (Rect.unit (s := S8x64x512) o S1x64x512.size h) u).squeeze S64x512 hq).view.dmaCredit = N := rfl
/-- into the rows of the result, -/
theorem credit_out {o : Fin 2 → ℕ} {h : ∀ a : Fin 2, o a + S64x512.size a ≤ S512x512.size a} {u : ∀ a, (Rect.unit (s := S512x512) o S64x512.size h).stride a = 1} :
    (outM.slice (Rect.unit (s := S512x512) o S64x512.size h) u).view.dmaCredit = N := rfl
/-- and from the finished chunk. -/
theorem credit_sum : bcM.view.dmaCredit = N := rfl

/-- Wait for the chunk from the device `k + 1` steps down. -/
theorem wait_recv (k : ℕ) (hk : k < 7) (hsm : sm = dsm 1 (dn c k)) (hN : dst.view.dmaCredit = N) {Q : α → sProp 𝕄} :
    iprop(ctx P A K c ∗ tk c 1 (dn c k) ∗ ow c 7)
      ⊢ iprop(((owns (c : Thread nD τ) (recvSl (dn c k)) fullShare (P (dn c k) c) ∗ fin c 1 (dn c k) ∗ ow c 7)
          -∗ wp frame (wpE (defs₀ (F := F)) 𝒱₀ (c : Thread nD τ) none) Set.univ (rest ⟨⟩) Q)
        -∗ wp frame (wpE (defs₀ (F := F)) 𝒱₀ (c : Thread nD τ) none) Set.univ (.op (.waitDma2 sm src dst h1 h2) rest) Q) := by
  unfold tk fin
  iintro ⟨#Hc, ⟨Hcr, Hat⟩, HO⟩ Hk
  iapply (step_wait P A K c 1 (dn c k) 7 (dmaDuty_of_ne c (by decide) (dn_ne c ⟨k, hk⟩))
    (fun i hi => by rw [lv_dcell, lv_payCell, if_pos hi]; decide) hsm hN) $$ [Hcr Hat HO]
  · isplitr; · iexact Hc
    isplitl [Hcr]; · iexact Hcr
    isplitl [Hat] <;> iassumption
  iexact Hk

/-- Wait for the own chunk to the device `k + 1` steps up to have been read. -/
theorem wait_sent (k : ℕ) (hk : k < 7) (hsm : sm = dsm 0 (up c k)) (hN : dst.view.dmaCredit = N) {Q : α → sProp 𝕄} :
    iprop(ctx P A K c ∗ tk c 0 (up c k) ∗ ow c 7)
      ⊢ iprop((((∃ v, owns (c : Thread nD τ) (sendSl (up c k)) fullShare v) ∗ fin c 0 (up c k) ∗ ow c 7)
          -∗ wp frame (wpE (defs₀ (F := F)) 𝒱₀ (c : Thread nD τ) none) Set.univ (rest ⟨⟩) Q)
        -∗ wp frame (wpE (defs₀ (F := F)) 𝒱₀ (c : Thread nD τ) none) Set.univ (.op (.waitDma2 sm src dst h1 h2) rest) Q) := by
  unfold tk fin
  iintro ⟨#Hc, ⟨Hcr, Hat⟩, HO⟩ Hk
  iapply (step_wait P A K c 0 (up c k) 7 (dmaDuty_of_ne c (by decide) (up_ne c ⟨k, hk⟩))
    (fun i hi => by rw [lv_dcell, lv_payCell, if_pos hi]; decide) hsm hN) $$ [Hcr Hat HO]
  · isplitr; · iexact Hc
    isplitl [Hcr]; · iexact Hcr
    isplitl [Hat] <;> iassumption
  iexact Hk

/-- Wait for the sum of the device `k + 1` steps down. -/
theorem wait_rows (k : ℕ) (hk : k < 7) (hsm : sm = dsm 3 (dn c k)) (hN : dst.view.dmaCredit = N) {Q : α → sProp 𝕄} :
    iprop(ctx P A K c ∗ tk c 3 (dn c k) ∗ ow c 0)
      ⊢ iprop(((owns (c : Thread nD τ) (outSl (dn c k)) fullShare (A (dn c k)) ∗ fin c 3 (dn c k) ∗ ow c 0)
          -∗ wp frame (wpE (defs₀ (F := F)) 𝒱₀ (c : Thread nD τ) none) Set.univ (rest ⟨⟩) Q)
        -∗ wp frame (wpE (defs₀ (F := F)) 𝒱₀ (c : Thread nD τ) none) Set.univ (.op (.waitDma2 sm src dst h1 h2) rest) Q) := by
  unfold tk fin
  iintro ⟨#Hc, ⟨Hcr, Hat⟩, HO⟩ Hk
  iapply (step_wait P A K c 3 (dn c k) 0 (dmaDuty_of_ne c (by decide) (dn_ne c ⟨k, hk⟩))
    (fun i hi => absurd hi (Nat.not_lt_zero _)) hsm hN) $$ [Hcr Hat HO]
  · isplitr; · iexact Hc
    isplitl [Hcr]; · iexact Hcr
    isplitl [Hat] <;> iassumption
  iexact Hk

/-- Wait for copy `k + 1` of the own sum to have been read. -/
theorem wait_shared (k : ℕ) (hk : k < 7) (hsm : sm = dsm 2 (hp k)) (hN : dst.view.dmaCredit = N) {Q : α → sProp 𝕄} :
    iprop(ctx P A K c ∗ tk c 2 (hp k) ∗ ow c 0)
      ⊢ iprop(((owns (c : Thread nD τ) bcM (shr (hp k)) (A c) ∗ fin c 2 (hp k) ∗ ow c 0)
          -∗ wp frame (wpE (defs₀ (F := F)) 𝒱₀ (c : Thread nD τ) none) Set.univ (rest ⟨⟩) Q)
        -∗ wp frame (wpE (defs₀ (F := F)) 𝒱₀ (c : Thread nD τ) none) Set.univ (.op (.waitDma2 sm src dst h1 h2) rest) Q) := by
  unfold tk fin
  iintro ⟨#Hc, ⟨Hcr, Hat⟩, HO⟩ Hk
  iapply (step_wait P A K c 2 (hp k) 0 (dmaDuty_two c (hp_ne ⟨k, hk⟩))
    (fun i hi => absurd hi (Nat.not_lt_zero _)) hsm hN) $$ [Hcr Hat HO]
  · isplitr; · iexact Hc
    isplitl [Hcr]; · iexact Hcr
    isplitl [Hat] <;> iassumption
  iexact Hk

end Waits

end Cert.Talk

end
-- ==== Proof.Hops.lean ====
/-
# The hops with what each needs, bundled
-/
module

public import proofs.«01_k».proof.Proof.Moves

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- To signal the device `k + 1` steps up; -/
def sigR (c : Dev nD) (k : ℕ) : sProp 𝕄 :=
  iprop(dutyTok ER (barCell (up c k)) 0 c ∗ (∃ v, owns (c : Thread nD τ) (recvSl (up c k)) fullShare v)
    ∗ (∃ v, owns (c : Thread nD τ) (outSl (up c k)) fullShare v))
/-- to send it a chunk: the slot and the two cells' tokens, -/
def to1 (c : Dev nD) (k : ℕ) : sProp 𝕄 :=
  iprop((∃ v, owns (up c k : Thread nD τ) (recvSl c) fullShare v) ∗ reached ER (dcell 1 c (up c k)) 0)
/-- What a copy of the first exchange needs, -/
def d1 (c : Dev nD) (k : ℕ) : sProp 𝕄 :=
  iprop(dutyTok ER (dcell 0 (up c k) c) 0 0 ∗ dutyTok ER (dcell 1 c (up c k)) 0 0 ∗ atPos ER (dcell 0 (up c k) c) 0 ∅ 0)
/-- to send it the sum. -/
def to2 (c : Dev nD) (k : ℕ) : sProp 𝕄 :=
  iprop((∃ v, owns (up c k : Thread nD τ) (outSl c) fullShare v) ∗ reached ER (dcell 3 c (up c k)) 0)
/-- and what one of the second needs. -/
def d2 (c : Dev nD) (k : ℕ) : sProp 𝕄 :=
  iprop(dutyTok ER (dcell 2 (hp k) c) 0 0 ∗ dutyTok ER (dcell 3 c (up c k)) 0 0 ∗ atPos ER (dcell 2 (hp k) c) 0 ∅ 0)

/-- What a peer's signal brought: a slot for the first exchange and rows for the second. -/
theorem got_split (c : Dev nD) (k : ℕ) : got c k ⊢ (iprop(to1 c k ∗ to2 c k) : sProp 𝕄) := by
  unfold got to1 to2
  iintro ⟨⟨H1, H2⟩, H3, H4⟩
  isplitl [H1 H3]
  · isplitl [H1] <;> iassumption
  isplitl [H2] <;> iassumption

variable (P : Part F) (A : Sum F) (K : GSem nD τ sig → ℕ) (c : Dev nD) {α : Type}

/-- One signal to a peer: it hands over the own slot and rows for that peer, and one payment less is owed. -/
theorem hop_signal (k r : ℕ) (hk : k < 7) (hr : r + k = 20) {d : Dev nD} (hd : d = up c k) {n : ℕ} (hn : n = 1)
    {rest : PUnit.{1} → Prog (TpuEff nD τ sig (Elt F) Λ₀ .tc) α} {Q : α → sProp 𝕄} :
    iprop(ctx P A K c ∗ sigR c k ∗ ow c (r + 1))
      ⊢ iprop((ow c r -∗ wp frame (wpE (defs₀ (F := F)) 𝒱₀ (c : Thread nD τ) none) Set.univ (rest ⟨⟩) Q)
        -∗ wp frame (wpE (defs₀ (F := F)) 𝒱₀ (c : Thread nD τ) none) Set.univ (.op (.semSignal (d : Thread nD τ) barS n) rest) Q) := by
  unfold sigR
  iintro ⟨#Hc, ⟨H1, H2, H3⟩, HO⟩ Hk
  iapply (step_signal P A K c k r hk hr hd hn) $$ [H1 H2 H3 HO]
  · isplitr; · iexact Hc
    isplitl [H1]; · iexact H1
    isplitl [H2]; · iexact H2
    isplitl [H3] <;> iassumption
  iexact Hk

/-- One copy of the first exchange, into the peer's slot. -/
theorem hop_send1 (k r : ℕ) (hk : k < 7) (hr : r + k = 13) {d : Dev nD} (hd : d = up c k)
    {s1 s2 : DmaSem sig} (h1 : s1 = dsm 0 (up c k)) (h2 : s2 = dsm 1 c)
    {o6 o5 : Fin 3 → ℕ} (ho6 : o6 = ![(up c k).val, 0, 0]) (ho5 : o5 = ![c.val, 0, 0])
    {i6 : ∀ a : Fin 3, o6 a + S1x64x512.size a ≤ S8x64x512.size a} {i5 : ∀ a : Fin 3, o5 a + S1x64x512.size a ≤ S8x64x512.size a}
    {u6 : ∀ a, (Rect.unit (s := S8x64x512) o6 S1x64x512.size i6).stride a = 1} {u5 : ∀ a, (Rect.unit (s := S8x64x512) o5 S1x64x512.size i5).stride a = 1}
    {hq : S1x64x512.Squeezes S64x512}
    {hsc : ((recvM.slice (Rect.unit (s := S8x64x512) o5 S1x64x512.size i5) u5).squeeze S64x512 hq).view.ref.isScScratch = false}
    {hw6 : ((sendM.slice (Rect.unit (s := S8x64x512) o6 S1x64x512.size i6) u6).squeeze S64x512 hq).view.WordExact}
    {hw5 : ((recvM.slice (Rect.unit (s := S8x64x512) o5 S1x64x512.size i5) u5).squeeze S64x512 hq).view.WordExact}
    {hty : DmaTarget.Typed .vmem (.dma s2) (.remote (Dev.tc d) ((recvM.slice (Rect.unit (s := S8x64x512) o5 S1x64x512.size i5) u5).squeeze S64x512 hq) (.dma s1) hsc)}
    {rest : PUnit.{1} → Prog (TpuEff nD τ sig (Elt F) Λ₀ .tc) α} {Q : α → sProp 𝕄} :
    iprop(ctx P A K c ∗ owns (c : Thread nD τ) (sendSl (up c k)) fullShare (P c (up c k)) ∗ to1 c k ∗ d1 c k ∗ ow c (r + 1))
      ⊢ iprop(((tk c 0 (up c k) ∗ ow c r)
          -∗ wp frame (wpE (defs₀ (F := F)) 𝒱₀ (c : Thread nD τ) none) Set.univ (rest ⟨⟩) Q)
        -∗ wp frame (wpE (defs₀ (F := F)) 𝒱₀ (c : Thread nD τ) none) Set.univ
          (.op (.enqueueDma ((sendM.slice (Rect.unit (s := S8x64x512) o6 S1x64x512.size i6) u6).squeeze S64x512 hq)
            (.remote (Dev.tc d) ((recvM.slice (Rect.unit (s := S8x64x512) o5 S1x64x512.size i5) u5).squeeze S64x512 hq) (.dma s1) hsc) (.dma s2) hw6 hw5 hty) rest) Q) := by
  unfold to1 d1 tk
  iintro ⟨#Hc, Hs, ⟨H1, H2⟩, ⟨H3, H4, H5⟩, HO⟩ Hk
  iapply (step_send1 P A K c k r hk hr hd h1 h2 ho6 ho5) $$ [Hs H1 H2 H3 H4 HO]
  · isplitr; · iexact Hc
    isplitl [Hs]; · iexact Hs
    isplitl [H1]; · iexact H1
    isplitl [H2]; · iexact H2
    isplitl [H3]; · iexact H3
    isplitl [H4] <;> iassumption
  iintro ⟨H1, H2⟩
  iapply Hk
  isplitl [H1 H5]
  · isplitl [H1] <;> iassumption
  iexact H2

/-- One copy of the second exchange, into the peer's rows. -/
theorem hop_send2 (k r : ℕ) (hk : k < 7) (hr : r + k = 6) {d : Dev nD} (hd : d = up c k)
    {s1 s2 : DmaSem sig} (h1 : s1 = dsm 2 (hp k)) (h2 : s2 = dsm 3 c)
    {o : Fin 2 → ℕ} (ho : o = ![64 * c.val, 0])
    {i : ∀ a : Fin 2, o a + S64x512.size a ≤ S512x512.size a} {u : ∀ a, (Rect.unit (s := S512x512) o S64x512.size i).stride a = 1}
    {hsc : (outM.slice (Rect.unit (s := S512x512) o S64x512.size i) u).view.ref.isScScratch = false}
    {hw1 : bcM.view.WordExact} {hw2 : (outM.slice (Rect.unit (s := S512x512) o S64x512.size i) u).view.WordExact}
    {hty : DmaTarget.Typed .vmem (.dma s2) (.remote (Dev.tc d) (outM.slice (Rect.unit (s := S512x512) o S64x512.size i) u) (.dma s1) hsc)}
    {rest : PUnit.{1} → Prog (TpuEff nD τ sig (Elt F) Λ₀ .tc) α} {Q : α → sProp 𝕄} :
    iprop(ctx P A K c ∗ owns (c : Thread nD τ) bcM (shr (hp k)) (A c) ∗ to2 c k ∗ d2 c k ∗ ow c (r + 1))
      ⊢ iprop(((tk c 2 (hp k) ∗ ow c r)
          -∗ wp frame (wpE (defs₀ (F := F)) 𝒱₀ (c : Thread nD τ) none) Set.univ (rest ⟨⟩) Q)
        -∗ wp frame (wpE (defs₀ (F := F)) 𝒱₀ (c : Thread nD τ) none) Set.univ
          (.op (.enqueueDma bcM (.remote (Dev.tc d) (outM.slice (Rect.unit (s := S512x512) o S64x512.size i) u) (.dma s1) hsc) (.dma s2) hw1 hw2 hty) rest) Q) := by
  unfold to2 d2 tk
  iintro ⟨#Hc, Hs, ⟨H1, H2⟩, ⟨H3, H4, H5⟩, HO⟩ Hk
  iapply (step_send2 P A K c k r hk hr hd h1 h2 ho) $$ [Hs H1 H2 H3 H4 HO]
  · isplitr; · iexact Hc
    isplitl [Hs]; · iexact Hs
    isplitl [H1]; · iexact H1
    isplitl [H2]; · iexact H2
    isplitl [H3]; · iexact H3
    isplitl [H4] <;> iassumption
  iintro ⟨H1, H2⟩
  iapply Hk
  isplitl [H1 H5]
  · isplitl [H1] <;> iassumption
  iexact H2

/-! ## The printed offsets and devices -/

section Printed

variable (c : Dev nD)

/-- The device that the kernel computes is the peer. -/
theorem to_up (k i : ℕ) (hi : i = k + 1) {n : ℕ} (h : n = (c.val + i) % 8) (hlt : n < nD) : (⟨n, hlt⟩ : Dev nD) = up c k := by
  subst hi; exact Fin.ext h
/-- The printed places are those of the peers: the send semaphore of the first exchange, -/
theorem off3 (k : Fin 7) : k0_off3 c (BitVec.ofNat 32 (1 + k.val)) = ![(up c k).val] := by
  rw [k0_off3_eq]; rfl
/-- its chunk, -/
theorem off6 (k : Fin 7) : k0_off6 c (BitVec.ofNat 32 (1 + k.val)) = ![(up c k).val, 0, 0] := by
  rw [k0_off6_eq]; rfl
/-- the receive semaphore, -/
theorem off8 (k : Fin 7) : k0_off8 c (BitVec.ofNat 32 k.val) = ![(dn c k).val] := by
  rw [k0_off8_eq]; rfl
/-- the landing slot, -/
theorem off9 (k : Fin 7) : k0_off9 c (BitVec.ofNat 32 k.val) = ![(dn c k).val, 0, 0] := by
  rw [k0_off9_eq]; rfl
/-- and the slot that is read. -/
theorem off10 (k : Fin 7) : k0_off10 c (BitVec.ofNat 32 k.val) = ![(dn c k).val, 0, 0] := by
  rw [k0_off10_eq]; rfl

end Printed

end Cert.Talk

end
-- ==== Proof.Values.lean ====
/-
# What each device computes, as the printed program's own terms

Device `c` holds four of the thirty-two heads. `heads` is its attention output, `part` the eight chunks of that output's
product with its rows of `Wo`, and `total` the sum of one chunk over the eight devices, in the order the kernel adds them.
-/
module

public import proofs.«01_k».proof.Proof.Schedule

@[expose] public section

noncomputable section

namespace Cert.Talk

open Cert.KernelIdeal Cert.KernelIdeal.Gen
open Idealize.ShloMosaic
open Idealize.ShloMosaic.TcCoe

variable {F : FTy → Type} [FloatOps F]

/-- What the five inputs of one device hold. -/
structure Ins (F : FTy → Type) where
  x : S512x512.Idx → Elt F .bf16
  wq : S512x256.Idx → Elt F .bf16
  k : S2x256x2048.Idx → Elt F .bf16
  v : S2x256x2048.Idx → Elt F .bf16
  wo : S256x512.Idx → Elt F .bf16

namespace Ins

variable (I : Ins F) (c : Dev nD)

/-- The loads: the whole of `Wq`, `x` and `Wo`, and the own heads of `K` and `V` for either batch. -/
def lq : S512x256.Idx → Elt F .bf16 := fun y => I.wq ((Rect.unit (s := S512x256) ![0, 0] S512x256.size inb_S512x256_S512x256_0_0).emb y)
/-- The hidden states as loaded, -/
def lx : S512x512.Idx → Elt F .bf16 := fun y => I.x ((Rect.unit (s := S512x512) ![0, 0] S512x512.size inb_S512x512_S512x512_0_0).emb y)
/-- the output weights as loaded, -/
def lo : S256x512.Idx → Elt F .bf16 := fun y => I.wo ((Rect.unit (s := S256x512) ![0, 0] S256x512.size inb_S256x512_S256x512_0_0).emb y)
/-- and the own columns of the keys and values, of the first batch -/
def lk1 : S1x256x256.Idx → Elt F .bf16 := fun y => I.k ((Rect.unit (s := S2x256x2048) (k0_off1 c) S1x256x256.size (k0_off1_inb c)).emb y)
/-- (the values) -/
def lv1 : S1x256x256.Idx → Elt F .bf16 := fun y => I.v ((Rect.unit (s := S2x256x2048) (k0_off1 c) S1x256x256.size (k0_off1_inb c)).emb y)
/-- and of the second -/
def lk2 : S1x256x256.Idx → Elt F .bf16 := fun y => I.k ((Rect.unit (s := S2x256x2048) (k0_off2 c) S1x256x256.size (k0_off2_inb c)).emb y)
/-- (the values). -/
def lv2 : S1x256x256.Idx → Elt F .bf16 := fun y => I.v ((Rect.unit (s := S2x256x2048) (k0_off2 c) S1x256x256.size (k0_off2_inb c)).emb y)

/-- The first batch's attention output, heads 0 to 3, and the second's. -/
abbrev q : FVec F S512x256 .bf16 := k0_pay1 I.lq I.lx
/-- The first head of the first batch, -/
abbrev head0 : FVec F S256x64 .bf16 := k0_pay9 (k0_pay4 I.lq I.lx) (k0_pay5 (I.lk1 c)) (k0_pay6 (I.lv1 c)) (k0_pay7 (I.lv1 c)) (k0_pay8 I.lq I.lx (I.lk1 c))
/-- the own keys of that batch, -/
abbrev kb1 : FVec F S256x256 .bf16 := k0_pay2 (I.lk1 c)
/-- the own values, -/
abbrev vb1 : FVec F S256x256 .bf16 := k0_pay3 (I.lv1 c)
/-- the second head, -/
abbrev head1 : FVec F S256x64 .bf16 :=
  k0_pay16 (k0_pay10 I.q) (k0_pay11 (I.kb1 c)) (k0_pay12 (I.vb1 c)) (k0_pay13 (I.vb1 c)) (k0_pay14 I.q (I.kb1 c)) (k0_pay15 I.q (I.kb1 c))
/-- the third, -/
abbrev head2 : FVec F S256x64 .bf16 :=
  k0_pay23 (k0_pay19 (I.vb1 c)) (k0_pay20 I.q (I.kb1 c) (I.vb1 c)) (k0_pay21 I.q) (k0_pay22 (I.kb1 c))
/-- and the four beside each other. -/
abbrev all1 : FVec F S256x256 .bf16 :=
  k0_pay30 (I.head0 c) (I.head1 c) (I.head2 c) (k0_pay27 I.q (I.kb1 c) (I.vb1 c)) (k0_pay28 (I.vb1 c)) (k0_pay29 I.q (I.kb1 c))
/-- The own keys of the second batch, -/
abbrev kb2 : FVec F S256x256 .bf16 := k0_pay31 (I.lk2 c)
/-- the own values, -/
abbrev vb2 : FVec F S256x256 .bf16 := k0_pay32 (I.lv2 c)
/-- its first head -/
abbrev head4 : FVec F S256x64 .bf16 := k0_pay39 (k0_pay36 I.q (I.lk2 c) (I.lv2 c)) (k0_pay37 (I.lv2 c)) (k0_pay38 I.q (I.lk2 c))
/-- and its second. -/
abbrev head5 : FVec F S256x64 .bf16 :=
  k0_pay47 (k0_pay43 I.q (I.kb2 c) (I.vb2 c)) (k0_pay44 (I.vb2 c)) (k0_pay45 I.q (I.kb2 c)) (k0_pay46 I.q (I.kb2 c))
/-- The own heads' attention output, both batches' rows. -/
abbrev heads : FVec F S512x256 .bf16 :=
  k0_pay55 I.q (I.all1 c) (I.kb2 c) (I.vb2 c) (I.head4 c) (I.head5 c) (k0_pay51 I.q (I.kb2 c) (I.vb2 c)) (k0_pay53 I.q (I.kb2 c) (I.vb2 c))
    (k0_pay54 I.q (I.kb2 c))

/-- Chunk `j` of the product with the own rows of `Wo`. -/
def chunk (j : Fin 8) : S1x64x512.Idx → Elt F .bf16 :=
  ![k0_pay57 (I.heads c) I.lo, k0_pay58 (I.heads c) I.lo, k0_pay59 (I.heads c) I.lo, k0_pay60 (I.heads c) I.lo, k0_pay61 (I.heads c) I.lo,
    k0_pay62 (I.heads c) I.lo, k0_pay63 (k0_pay56 (I.heads c) I.lo), k0_pay64 (k0_pay56 (I.heads c) I.lo)] j

end Ins

/-- All the devices' chunks, -/
def part (J : Dev nD → Ins F) : Part F := fun c j => (J c).chunk c j

/-- and the sum of chunk `c`, as device `c` forms it. -/
def total (P : Part F) : Sum F := fun c =>
  k0_pay69 (k0_pay67 (k0_pay66 (k0_pay65 (P c c) (P (dn c 0) c)) (P (dn c 1) c) (P (dn c 2) c)) (P (dn c 3) c) (P (dn c 4) c)) (P (dn c 5) c) (P (dn c 6) c)

end Cert.Talk

end
-- ==== Proof.Body1.lean ====
/-
# The barrier, the loads and the local work
-/
module

public import proofs.«01_k».proof.Proof.Hops
public import proofs.«01_k».proof.Proof.Values

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Part F) (A : Sum F) (K : GSem nD τ sig → ℕ) (c : Dev nD)

variable (I : Ins F)

/-- The first four signals. -/
theorem run1   {Q : (Σ' (d0 : Dev nD) (v2 : BitVec 32) (v4 : BitVec 32) (v6 : BitVec 32) (v8 : BitVec 32) (v10 : BitVec 32) (v12 : BitVec 32) (v14 : BitVec 32) (v16 : BitVec 32), Sems sig S_) → sProp 𝕄} :
    iprop(ctx P A K c ∗ (sigR c 0 ∗ ow c 21 ∗ sigR c 1 ∗ sigR c 2 ∗ sigR c 3))
      ⊢ iprop((∀ v2 v4 v6 v8 v10 v12 v14 v16, (ow c 17) -∗ Q ⟨c, v2, v4, v6, v8, v10, v12, v14, v16, SemArray.scalar barS⟩)
        -∗ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 ) Q) := by
  rw [k0_part1_eq_skeleton]; unfold k0_part1_skel
  simp only [semSignalWord, semWaitWord, Prog.lift, Prog.bind_op, Prog.bind_ret, Prog.pure_eq_ret, wp_deviceId]
  iintro ⟨#Hc, ⟨S0, HO, S1, S2, S3⟩⟩ Hk
  iapply (hop_signal P A K c 0 20 (by decide) (by decide) (to_up c 0 1 (by decide) (k0_dev1_eq c) _) (by decide)) $$ [S0 HO]
  · isplitr; · iexact Hc
    isplitl [S0]; · iexact S0
    iexact HO
  iintro HO
  iapply (hop_signal P A K c 1 19 (by decide) (by decide) (to_up c 1 2 (by decide) (k0_dev2_eq c) _) (by decide)) $$ [S1 HO]
  · isplitr; · iexact Hc
    isplitl [S1]; · iexact S1
    iexact HO
  iintro HO
  iapply (hop_signal P A K c 2 18 (by decide) (by decide) (to_up c 2 3 (by decide) (k0_dev3_eq c) _) (by decide)) $$ [S2 HO]
  · isplitr; · iexact Hc
    isplitl [S2]; · iexact S2
    iexact HO
  iintro HO
  iapply (hop_signal P A K c 3 17 (by decide) (by decide) (to_up c 3 4 (by decide) (k0_dev4_eq c) _) (by decide)) $$ [S3 HO]
  · isplitr; · iexact Hc
    isplitl [S3]; · iexact S3
    iexact HO
  iintro HO
  rw [wp_ret]
  imodintro
  ispecialize Hk $$ %_
  ispecialize Hk $$ %_
  ispecialize Hk $$ %_
  ispecialize Hk $$ %_
  ispecialize Hk $$ %_
  ispecialize Hk $$ %_
  ispecialize Hk $$ %_
  ispecialize Hk $$ %_
  iapply Hk
  iexact HO

/-- The other three, the wait for all seven, and the first loads. -/
theorem run2 (v2 v12 v14 v16 : BitVec 32)  {Q : (Σ' (v32 : BitVec 32) (v38 : FVec F S512x256 .bf16) (v41 : FVec F S256x256 .bf16) (v44 : FVec F S256x256 .bf16) (v45 : FVec F S256x64 .bf16) (v46 : FVec F S256x64 .bf16) (v47 : FVec F S256x64 .bf16) (v56 : FVec F S128x64 .bf16), FVec F S128x128 .f32) → sProp 𝕄} :
    iprop(ctx P A K c ∗ (sigR c 4 ∗ ow c 17 ∗ sigR c 5 ∗ sigR c 6 ∗ cred (tallyAt (barCell c) () 7) ∗ atPos ER (barCell c) 0 ∅ 0 ∗ owns (c : Thread nD τ) (Memref.whole cc0_stg1_0) fullShare I.wq ∗ owns (c : Thread nD τ) (Memref.whole cc0_stg0_0) fullShare I.x ∗ owns (c : Thread nD τ) (Memref.whole cc0_stg2_0) fullShare I.k ∗ owns (c : Thread nD τ) (Memref.whole cc0_stg3_0) fullShare I.v))
      ⊢ iprop((∀ v32, ((got c 0 ∗ got c 1 ∗ got c 2 ∗ got c 3 ∗ got c 4 ∗ got c 5 ∗ got c 6) ∗ atPos ER (barCell c) 1 ∅ 0 ∗ ow c 14 ∗ owns (c : Thread nD τ) (Memref.whole cc0_stg1_0) fullShare I.wq ∗ owns (c : Thread nD τ) (Memref.whole cc0_stg0_0) fullShare I.x ∗ owns (c : Thread nD τ) (Memref.whole cc0_stg2_0) fullShare I.k ∗ owns (c : Thread nD τ) (Memref.whole cc0_stg3_0) fullShare I.v) -∗ Q ⟨v32, I.q, I.kb1 c, I.vb1 c, k0_pay4 I.lq I.lx, k0_pay5 (I.lk1 c), k0_pay6 (I.lv1 c), k0_pay7 (I.lv1 c), k0_pay8 I.lq I.lx (I.lk1 c)⟩)
        -∗ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v12 v14 v16 (SemArray.scalar barS)) Q) := by
  rw [k0_part2_eq_skeleton]; unfold k0_part2_skel
  simp only [semSignalWord, semWaitWord, Prog.lift, Prog.bind_op, Prog.bind_ret, Prog.pure_eq_ret, wp_deviceId]
  iintro ⟨#Hc, ⟨S4, HO, S5, S6, HB, HBA, I1, I0, I2, I3⟩⟩ Hk
  iapply (hop_signal P A K c 4 16 (by decide) (by decide) (to_up c 4 5 (by decide) (k0_dev5_eq c) _) (by decide)) $$ [S4 HO]
  · isplitr; · iexact Hc
    isplitl [S4]; · iexact S4
    iexact HO
  iintro HO
  iapply (hop_signal P A K c 5 15 (by decide) (by decide) (to_up c 5 6 (by decide) (k0_dev6_eq c) _) (by decide)) $$ [S5 HO]
  · isplitr; · iexact Hc
    isplitl [S5]; · iexact S5
    iexact HO
  iintro HO
  iapply (hop_signal P A K c 6 14 (by decide) (by decide) (to_up c 6 7 (by decide) (k0_dev7_eq c) _) (by decide)) $$ [S6 HO]
  · isplitr; · iexact Hc
    isplitl [S6]; · iexact S6
    iexact HO
  iintro HO
  iapply (step_barrier P A K c (by decide)) $$ [HB HBA HO]
  · isplitr; · iexact Hc
    isplitl [HB]; · iexact HB
    isplitl [HBA]; · iexact HBA
    iexact HO
  iintro ⟨HG, HBA, HO⟩
  iapply (load_as (F := F) c (Y := I.lq) rfl) $$ I1
  iintro I1
  iapply (load_as (F := F) c (Y := I.lx) rfl) $$ I0
  iintro I0
  iapply (load_as (F := F) c (Y := I.lk1 c) rfl) $$ I2
  iintro I2
  iapply (load_as (F := F) c (Y := I.lv1 c) rfl) $$ I3
  iintro I3
  rw [wp_ret]
  imodintro
  ispecialize Hk $$ %_
  iapply Hk
  isplitl [HG]; · iexact HG
  isplitl [HBA]; · iexact HBA
  isplitl [HO]; · iexact HO
  isplitl [I1]; · iexact I1
  isplitl [I0]; · iexact I0
  isplitl [I2]; · iexact I2
  iexact I3

/-- The second batch's loads. -/
theorem run6 (v32 : BitVec 32) (v38 : FVec F S512x256 .bf16) (v87 v130 v173 : FVec F S256x64 .bf16) (v197 : FVec F S128x64 .f32) (v200 : FVec F S192x64 .bf16) (v204 : FVec F S128x192 .f32)  {Q : (Σ' (v217 : FVec F S256x256 .bf16) (v220 : FVec F S256x256 .bf16) (v223 : FVec F S256x256 .bf16) (v247 : FVec F S128x64 .f32) (v250 : FVec F S192x64 .bf16), FVec F S128x192 .f32) → sProp 𝕄} :
    iprop(ctx P A K c ∗ (owns (c : Thread nD τ) (Memref.whole cc0_stg2_0) fullShare I.k ∗ owns (c : Thread nD τ) (Memref.whole cc0_stg3_0) fullShare I.v))
      ⊢ iprop(((owns (c : Thread nD τ) (Memref.whole cc0_stg2_0) fullShare I.k ∗ owns (c : Thread nD τ) (Memref.whole cc0_stg3_0) fullShare I.v) -∗ Q ⟨k0_pay30 v87 v130 v173 v197 v200 v204, I.kb2 c, I.vb2 c, k0_pay36 v38 (I.lk2 c) (I.lv2 c), k0_pay37 (I.lv2 c), k0_pay38 v38 (I.lk2 c)⟩)
        -∗ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v32 v38 v87 v130 v173 v197 v200 v204) Q) := by
  rw [k0_part6_eq_skeleton]; unfold k0_part6_skel
  simp only [semSignalWord, semWaitWord, Prog.lift, Prog.bind_op, Prog.bind_ret, Prog.pure_eq_ret, wp_deviceId]
  iintro ⟨#Hc, ⟨I2, I3⟩⟩ Hk
  iapply (load_as (F := F) c (Y := I.lk2 c) rfl) $$ I2
  iintro I2
  iapply (load_as (F := F) c (Y := I.lv2 c) rfl) $$ I3
  iintro I3
  rw [wp_ret]
  imodintro
  iapply Hk
  isplitl [I2]; · iexact I2
  iexact I3

/-- The first six chunks of the product. -/
theorem run10   {Q : FVec F S512x512 .f32 → sProp 𝕄} :
    iprop(ctx P A K c ∗ (owns (c : Thread nD τ) (Memref.whole cc0_stg4_0) fullShare I.wo ∗ (∃ v, owns (c : Thread nD τ) (sendSl 0) fullShare v) ∗ (∃ v, owns (c : Thread nD τ) (sendSl 1) fullShare v) ∗ (∃ v, owns (c : Thread nD τ) (sendSl 2) fullShare v) ∗ (∃ v, owns (c : Thread nD τ) (sendSl 3) fullShare v) ∗ (∃ v, owns (c : Thread nD τ) (sendSl 4) fullShare v) ∗ (∃ v, owns (c : Thread nD τ) (sendSl 5) fullShare v)))
      ⊢ iprop(((owns (c : Thread nD τ) (Memref.whole cc0_stg4_0) fullShare I.wo ∗ owns (c : Thread nD τ) (sendSl 0) fullShare (I.chunk c 0) ∗ owns (c : Thread nD τ) (sendSl 1) fullShare (I.chunk c 1) ∗ owns (c : Thread nD τ) (sendSl 2) fullShare (I.chunk c 2) ∗ owns (c : Thread nD τ) (sendSl 3) fullShare (I.chunk c 3) ∗ owns (c : Thread nD τ) (sendSl 4) fullShare (I.chunk c 4) ∗ owns (c : Thread nD τ) (sendSl 5) fullShare (I.chunk c 5)) -∗ Q (k0_pay56 (I.heads c) I.lo))
        -∗ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (I.heads c)) Q) := by
  rw [k0_part10_eq_skeleton]; unfold k0_part10_skel
  simp only [semSignalWord, semWaitWord, Prog.lift, Prog.bind_op, Prog.bind_ret, Prog.pure_eq_ret, wp_deviceId]
  iintro ⟨#Hc, ⟨I4, V0, V1, V2, V3, V4, V5⟩⟩ Hk
  iapply (load_as (F := F) c (Y := I.lo) rfl) $$ I4
  iintro I4
  iapply (fill_slot (F := F) c (m := sendM) 0 rfl (I.chunk c 0) rfl) $$ V0
  iintro V0
  iapply (fill_slot (F := F) c (m := sendM) 1 rfl (I.chunk c 1) rfl) $$ V1
  iintro V1
  iapply (fill_slot (F := F) c (m := sendM) 2 rfl (I.chunk c 2) rfl) $$ V2
  iintro V2
  iapply (fill_slot (F := F) c (m := sendM) 3 rfl (I.chunk c 3) rfl) $$ V3
  iintro V3
  iapply (fill_slot (F := F) c (m := sendM) 4 rfl (I.chunk c 4) rfl) $$ V4
  iintro V4
  iapply (fill_slot (F := F) c (m := sendM) 5 rfl (I.chunk c 5) rfl) $$ V5
  iintro V5
  rw [wp_ret]
  imodintro
  iapply Hk
  isplitl [I4]; · iexact I4
  isplitl [V0]; · iexact V0
  isplitl [V1]; · iexact V1
  isplitl [V2]; · iexact V2
  isplitl [V3]; · iexact V3
  isplitl [V4]; · iexact V4
  iexact V5

/-- Pure arithmetic. -/
theorem run3 (v38 : FVec F S512x256 .bf16) (v41 : FVec F S256x256 .bf16) (v44 : FVec F S256x256 .bf16) (v45 : FVec F S256x64 .bf16) (v46 : FVec F S256x64 .bf16) (v47 : FVec F S256x64 .bf16) (v56 : FVec F S128x64 .bf16) (v59 : FVec F S128x128 .f32) {Q : (Σ' (v87 : FVec F S256x64 .bf16) (v88 : FVec F S256x64 .bf16) (v89 : FVec F S256x64 .bf16) (v90 : FVec F S256x64 .bf16) (v99 : FVec F S128x64 .bf16) (v103 : FVec F S128x128 .f32), FVec F S128x1 .f32) → sProp 𝕄} :
    Q ⟨k0_pay9 v45 v46 v47 v56 v59, k0_pay10 v38, k0_pay11 v41, k0_pay12 v44, k0_pay13 v44, k0_pay14 v38 v41, k0_pay15 v38 v41⟩ ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v38 v41 v44 v45 v46 v47 v56 v59) Q := by
  rw [k0_part3_eq_skeleton]; unfold k0_part3_skel
  rw [Prog.pure_eq_ret, wp_ret]
  iintro H; imodintro; iexact H

/-- Pure arithmetic. -/
theorem run4 (v38 : FVec F S512x256 .bf16) (v41 : FVec F S256x256 .bf16) (v44 : FVec F S256x256 .bf16) (v88 : FVec F S256x64 .bf16) (v89 : FVec F S256x64 .bf16) (v90 : FVec F S256x64 .bf16) (v99 : FVec F S128x64 .bf16) (v103 : FVec F S128x128 .f32) (v107 : FVec F S128x1 .f32) {Q : (Σ' (v130 : FVec F S256x64 .bf16) (v133 : FVec F S256x64 .bf16) (v154 : FVec F S128x64 .f32) (v155 : FVec F S128x64 .bf16), FVec F S192x64 .bf16) → sProp 𝕄} :
    Q ⟨k0_pay16 v88 v89 v90 v99 v103 v107, k0_pay19 v44, k0_pay20 v38 v41 v44, k0_pay21 v38, k0_pay22 v41⟩ ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v38 v41 v44 v88 v89 v90 v99 v103 v107) Q := by
  rw [k0_part4_eq_skeleton]; unfold k0_part4_skel
  rw [Prog.pure_eq_ret, wp_ret]
  iintro H; imodintro; iexact H

/-- Pure arithmetic. -/
theorem run5 (v38 : FVec F S512x256 .bf16) (v41 : FVec F S256x256 .bf16) (v44 : FVec F S256x256 .bf16) (v133 : FVec F S256x64 .bf16) (v154 : FVec F S128x64 .f32) (v155 : FVec F S128x64 .bf16) (v156 : FVec F S192x64 .bf16) {Q : (Σ' (v173 : FVec F S256x64 .bf16) (v197 : FVec F S128x64 .f32) (v200 : FVec F S192x64 .bf16), FVec F S128x192 .f32) → sProp 𝕄} :
    Q ⟨k0_pay23 v133 v154 v155 v156, k0_pay27 v38 v41 v44, k0_pay28 v44, k0_pay29 v38 v41⟩ ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v38 v41 v44 v133 v154 v155 v156) Q := by
  rw [k0_part5_eq_skeleton]; unfold k0_part5_skel
  rw [Prog.pure_eq_ret, wp_ret]
  iintro H; imodintro; iexact H

/-- Pure arithmetic. -/
theorem run7 (v38 : FVec F S512x256 .bf16) (v220 : FVec F S256x256 .bf16) (v223 : FVec F S256x256 .bf16) (v247 : FVec F S128x64 .f32) (v250 : FVec F S192x64 .bf16) (v251 : FVec F S128x192 .f32) {Q : (Σ' (v266 : FVec F S256x64 .bf16) (v290 : FVec F S128x64 .f32) (v293 : FVec F S192x64 .bf16) (v297 : FVec F S128x192 .f32), FVec F S128x1 .f32) → sProp 𝕄} :
    Q ⟨k0_pay39 v247 v250 v251, k0_pay43 v38 v220 v223, k0_pay44 v223, k0_pay45 v38 v220, k0_pay46 v38 v220⟩ ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v38 v220 v223 v247 v250 v251) Q := by
  rw [k0_part7_eq_skeleton]; unfold k0_part7_skel
  rw [Prog.pure_eq_ret, wp_ret]
  iintro H; imodintro; iexact H

/-- Pure arithmetic. -/
theorem run8 (v38 : FVec F S512x256 .bf16) (v220 : FVec F S256x256 .bf16) (v223 : FVec F S256x256 .bf16) (v290 : FVec F S128x64 .f32) (v293 : FVec F S192x64 .bf16) (v297 : FVec F S128x192 .f32) (v299 : FVec F S128x1 .f32) {Q : (Σ' (v309 : FVec F S256x64 .bf16) (v333 : FVec F S128x64 .f32) (v346 : FVec F S128x64 .f32), FVec F S128x64 .f32) → sProp 𝕄} :
    Q ⟨k0_pay47 v290 v293 v297 v299, k0_pay51 v38 v220 v223, k0_pay53 v38 v220 v223, k0_pay54 v38 v220⟩ ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v38 v220 v223 v290 v293 v297 v299) Q := by
  rw [k0_part8_eq_skeleton]; unfold k0_part8_skel
  rw [Prog.pure_eq_ret, wp_ret]
  iintro H; imodintro; iexact H

/-- Pure arithmetic. -/
theorem run9 (v38 : FVec F S512x256 .bf16) (v217 : FVec F S256x256 .bf16) (v220 : FVec F S256x256 .bf16) (v223 : FVec F S256x256 .bf16) (v266 : FVec F S256x64 .bf16) (v309 : FVec F S256x64 .bf16) (v333 : FVec F S128x64 .f32) (v346 : FVec F S128x64 .f32) (v347 : FVec F S128x64 .f32) {Q : (FVec F S512x256 .bf16) → sProp 𝕄} :
    Q (k0_pay55 v38 v217 v220 v223 v266 v309 v333 v346 v347) ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v38 v217 v220 v223 v266 v309 v333 v346 v347) Q := by
  rw [k0_part9_eq_skeleton]; unfold k0_part9_skel
  rw [Prog.pure_eq_ret, wp_ret]
  iintro H; imodintro; iexact H

end Cert.Talk

end
-- ==== Proof.Body2.lean ====
/-
# The exchange: the scatter of the partial products, the sum, the broadcast of the sum
-/
module

public import proofs.«01_k».proof.Proof.Hops
public import proofs.«01_k».proof.Proof.Values

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Part F) (A : Sum F) (K : GSem nD τ sig → ℕ) (c : Dev nD)

variable (I : Ins F)

/-- The eight filled slots, the own one first and then in the order of the hops. -/
theorem slots_up (hP : ∀ j, P c j = I.chunk c j) :
    (iprop(owns (c : Thread nD τ) (sendSl 0) fullShare (I.chunk c 0) ∗ owns (c : Thread nD τ) (sendSl 1) fullShare (I.chunk c 1) ∗ owns (c : Thread nD τ) (sendSl 2) fullShare (I.chunk c 2) ∗ owns (c : Thread nD τ) (sendSl 3) fullShare (I.chunk c 3) ∗ owns (c : Thread nD τ) (sendSl 4) fullShare (I.chunk c 4) ∗ owns (c : Thread nD τ) (sendSl 5) fullShare (I.chunk c 5) ∗ owns (c : Thread nD τ) (sendSl 6) fullShare (I.chunk c 6) ∗ owns (c : Thread nD τ) (sendSl 7) fullShare (I.chunk c 7)) : sProp 𝕄) ⊢ iprop(owns (c : Thread nD τ) (sendSl c) fullShare (P c c) ∗ owns (c : Thread nD τ) (sendSl (up c 0)) fullShare (P c (up c 0)) ∗ owns (c : Thread nD τ) (sendSl (up c 1)) fullShare (P c (up c 1)) ∗ owns (c : Thread nD τ) (sendSl (up c 2)) fullShare (P c (up c 2)) ∗ owns (c : Thread nD τ) (sendSl (up c 3)) fullShare (P c (up c 3)) ∗ owns (c : Thread nD τ) (sendSl (up c 4)) fullShare (P c (up c 4)) ∗ owns (c : Thread nD τ) (sendSl (up c 5)) fullShare (P c (up c 5)) ∗ owns (c : Thread nD τ) (sendSl (up c 6)) fullShare (P c (up c 6))) := by
  have e : ∀ j : Fin 8, (owns (c : Thread nD τ) (sendSl j) fullShare (I.chunk c j) : sProp 𝕄) = owns (c : Thread nD τ) (sendSl j) fullShare (P c j) :=
    fun j => by rw [hP]
  rw [e 0, e 1, e 2, e 3, e 4, e 5, e 6, e 7]
  refine (Entails.of_eq (bigSep_univ_eq_bigSepL [(0 : Fin 8), 1, 2, 3, 4, 5, 6, 7] (by decide) (by decide)
    (fun j : Fin 8 => (owns (c : Thread nD τ) (sendSl j) fullShare (P c j) : sProp 𝕄))).symm).trans ?_
  rw [BI.bigSep_erase (Finset.mem_univ c), bigSep_up, bigSep_fin7 (fun k => owns (c : Thread nD τ) (sendSl (up c k)) fullShare (P c (up c k)))]
  exact Entails.rfl

/-- The last two chunks, and the first two copies. -/
theorem run11 (v4 v6 v8 : BitVec 32) (hP : ∀ j, P c j = I.chunk c j) {Q : PUnit.{1} → sProp 𝕄} :
    iprop(ctx P A K c ∗ (owns (c : Thread nD τ) (sendSl 0) fullShare (I.chunk c 0) ∗ owns (c : Thread nD τ) (sendSl 1) fullShare (I.chunk c 1) ∗ owns (c : Thread nD τ) (sendSl 2) fullShare (I.chunk c 2) ∗ owns (c : Thread nD τ) (sendSl 3) fullShare (I.chunk c 3) ∗ owns (c : Thread nD τ) (sendSl 4) fullShare (I.chunk c 4) ∗ owns (c : Thread nD τ) (sendSl 5) fullShare (I.chunk c 5) ∗ (∃ v, owns (c : Thread nD τ) (sendSl 6) fullShare v) ∗ (∃ v, owns (c : Thread nD τ) (sendSl 7) fullShare v) ∗ to1 c 0 ∗ d1 c 0 ∗ ow c 14 ∗ to1 c 1 ∗ d1 c 1))
      ⊢ iprop(((owns (c : Thread nD τ) (sendSl c) fullShare (P c c) ∗ owns (c : Thread nD τ) (sendSl (up c 2)) fullShare (P c (up c 2)) ∗ owns (c : Thread nD τ) (sendSl (up c 3)) fullShare (P c (up c 3)) ∗ owns (c : Thread nD τ) (sendSl (up c 4)) fullShare (P c (up c 4)) ∗ owns (c : Thread nD τ) (sendSl (up c 5)) fullShare (P c (up c 5)) ∗ owns (c : Thread nD τ) (sendSl (up c 6)) fullShare (P c (up c 6)) ∗ tk c 0 (up c 0) ∗ tk c 0 (up c 1) ∗ ow c 12) -∗ Q ⟨⟩)
        -∗ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v4 v6 v8 (k0_pay56 (I.heads c) I.lo)) Q) := by
  rw [k0_part11_eq_skeleton]; unfold k0_part11_skel
  simp only [semSignalWord, semWaitWord, Prog.lift, Prog.bind_op, Prog.bind_ret, Prog.pure_eq_ret, wp_deviceId]
  iintro ⟨#Hc, ⟨V0, V1, V2, V3, V4, V5, V6, V7, T0, D0, HO, T1, D1⟩⟩ Hk
  iapply (fill_slot (F := F) c (m := sendM) 6 rfl (I.chunk c 6) rfl) $$ V6
  iintro V6
  iapply (fill_slot (F := F) c (m := sendM) 7 rfl (I.chunk c 7) rfl) $$ V7
  iintro V7
  ihave HV := (slots_up P c I hP) $$ [V0 V1 V2 V3 V4 V5 V6 V7]
  · isplitl [V0]; · iexact V0
    isplitl [V1]; · iexact V1
    isplitl [V2]; · iexact V2
    isplitl [V3]; · iexact V3
    isplitl [V4]; · iexact V4
    isplitl [V5]; · iexact V5
    isplitl [V6]; · iexact V6
    iexact V7
  icases HV with ⟨VC, U0, U1, U2, U3, U4, U5, U6⟩
  iapply (hop_send1 P A K c 0 13 (by decide) (by decide) (to_up c 0 1 (by decide) (k0_dev8_eq c) _) (sem_at0 (up c 0) (off3 c 0)) (sem_at1 c (k0_off4_eq c)) (off6 c 0) (k0_off5_eq c)) $$ [U0 T0 D0 HO]
  · isplitr; · iexact Hc
    isplitl [U0]; · iexact U0
    isplitl [T0]; · iexact T0
    isplitl [D0]; · iexact D0
    iexact HO
  iintro ⟨K0, HO⟩
  iapply (hop_send1 P A K c 1 12 (by decide) (by decide) (to_up c 1 2 (by decide) (k0_dev9_eq c) _) (sem_at0 (up c 1) (off3 c 1)) (sem_at1 c (k0_off4_eq c)) (off6 c 1) (k0_off5_eq c)) $$ [U1 T1 D1 HO]
  · isplitr; · iexact Hc
    isplitl [U1]; · iexact U1
    isplitl [T1]; · iexact T1
    isplitl [D1]; · iexact D1
    iexact HO
  iintro ⟨K1, HO⟩
  rw [wp_ret]
  imodintro
  iapply Hk
  isplitl [VC]; · iexact VC
  isplitl [U2]; · iexact U2
  isplitl [U3]; · iexact U3
  isplitl [U4]; · iexact U4
  isplitl [U5]; · iexact U5
  isplitl [U6]; · iexact U6
  isplitl [K0]; · iexact K0
  isplitl [K1]; · iexact K1
  iexact HO

/-- Four more copies. -/
theorem run12 (v10 v12 v14 : BitVec 32)  {Q : PUnit.{1} → sProp 𝕄} :
    iprop(ctx P A K c ∗ (owns (c : Thread nD τ) (sendSl (up c 2)) fullShare (P c (up c 2)) ∗ to1 c 2 ∗ d1 c 2 ∗ ow c 12 ∗ owns (c : Thread nD τ) (sendSl (up c 3)) fullShare (P c (up c 3)) ∗ to1 c 3 ∗ d1 c 3 ∗ owns (c : Thread nD τ) (sendSl (up c 4)) fullShare (P c (up c 4)) ∗ to1 c 4 ∗ d1 c 4 ∗ owns (c : Thread nD τ) (sendSl (up c 5)) fullShare (P c (up c 5)) ∗ to1 c 5 ∗ d1 c 5))
      ⊢ iprop(((tk c 0 (up c 2) ∗ tk c 0 (up c 3) ∗ tk c 0 (up c 4) ∗ tk c 0 (up c 5) ∗ ow c 8) -∗ Q ⟨⟩)
        -∗ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v10 v12 v14) Q) := by
  rw [k0_part12_eq_skeleton]; unfold k0_part12_skel
  simp only [semSignalWord, semWaitWord, Prog.lift, Prog.bind_op, Prog.bind_ret, Prog.pure_eq_ret, wp_deviceId]
  iintro ⟨#Hc, ⟨U2, T2, D2, HO, U3, T3, D3, U4, T4, D4, U5, T5, D5⟩⟩ Hk
  iapply (hop_send1 P A K c 2 11 (by decide) (by decide) (to_up c 2 3 (by decide) (k0_dev10_eq c) _) (sem_at0 (up c 2) (off3 c 2)) (sem_at1 c (k0_off4_eq c)) (off6 c 2) (k0_off5_eq c)) $$ [U2 T2 D2 HO]
  · isplitr; · iexact Hc
    isplitl [U2]; · iexact U2
    isplitl [T2]; · iexact T2
    isplitl [D2]; · iexact D2
    iexact HO
  iintro ⟨K2, HO⟩
  iapply (hop_send1 P A K c 3 10 (by decide) (by decide) (to_up c 3 4 (by decide) (k0_dev11_eq c) _) (sem_at0 (up c 3) (off3 c 3)) (sem_at1 c (k0_off4_eq c)) (off6 c 3) (k0_off5_eq c)) $$ [U3 T3 D3 HO]
  · isplitr; · iexact Hc
    isplitl [U3]; · iexact U3
    isplitl [T3]; · iexact T3
    isplitl [D3]; · iexact D3
    iexact HO
  iintro ⟨K3, HO⟩
  iapply (hop_send1 P A K c 4 9 (by decide) (by decide) (to_up c 4 5 (by decide) (k0_dev12_eq c) _) (sem_at0 (up c 4) (off3 c 4)) (sem_at1 c (k0_off4_eq c)) (off6 c 4) (k0_off5_eq c)) $$ [U4 T4 D4 HO]
  · isplitr; · iexact Hc
    isplitl [U4]; · iexact U4
    isplitl [T4]; · iexact T4
    isplitl [D4]; · iexact D4
    iexact HO
  iintro ⟨K4, HO⟩
  iapply (hop_send1 P A K c 5 8 (by decide) (by decide) (to_up c 5 6 (by decide) (k0_dev13_eq c) _) (sem_at0 (up c 5) (off3 c 5)) (sem_at1 c (k0_off4_eq c)) (off6 c 5) (k0_off5_eq c)) $$ [U5 T5 D5 HO]
  · isplitr; · iexact Hc
    isplitl [U5]; · iexact U5
    isplitl [T5]; · iexact T5
    isplitl [D5]; · iexact D5
    iexact HO
  iintro ⟨K5, HO⟩
  rw [wp_ret]
  imodintro
  iapply Hk
  isplitl [K2]; · iexact K2
  isplitl [K3]; · iexact K3
  isplitl [K4]; · iexact K4
  isplitl [K5]; · iexact K5
  iexact HO

/-- The last copy, and the first two terms of the sum. -/
theorem run13 (v2 v16 : BitVec 32)  {Q : (Σ' (v531 : FVec F S64x512 .f32) (v534 : BitVec 32), BitVec 32) → sProp 𝕄} :
    iprop(ctx P A K c ∗ (owns (c : Thread nD τ) (sendSl (up c 6)) fullShare (P c (up c 6)) ∗ to1 c 6 ∗ d1 c 6 ∗ ow c 8 ∗ owns (c : Thread nD τ) (sendSl c) fullShare (P c c) ∗ tk c 1 (dn c 0)))
      ⊢ iprop((∀ w, (tk c 0 (up c 6) ∗ owns (c : Thread nD τ) (sendSl c) fullShare (P c c) ∗ fin c 1 (dn c 0) ∗ ow c 7 ∗ owns (c : Thread nD τ) (recvSl (dn c 0)) fullShare (P (dn c 0) c)) -∗ Q ⟨k0_pay65 (P c c) (P (dn c 0) c), w, 8#32⟩)
        -∗ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v16) Q) := by
  rw [k0_part13_eq_skeleton]; unfold k0_part13_skel
  simp only [semSignalWord, semWaitWord, Prog.lift, Prog.bind_op, Prog.bind_ret, Prog.pure_eq_ret, wp_deviceId]
  iintro ⟨#Hc, ⟨U6, T6, D6, HO, VC, R0⟩⟩ Hk
  iapply (hop_send1 P A K c 6 7 (by decide) (by decide) (to_up c 6 7 (by decide) (k0_dev14_eq c) _) (sem_at0 (up c 6) (off3 c 6)) (sem_at1 c (k0_off4_eq c)) (off6 c 6) (k0_off5_eq c)) $$ [U6 T6 D6 HO]
  · isplitr; · iexact Hc
    isplitl [U6]; · iexact U6
    isplitl [T6]; · iexact T6
    isplitl [D6]; · iexact D6
    iexact HO
  iintro ⟨K6, HO⟩
  iapply (load_slot (F := F) c (m := sendM) c (k0_off7_eq c)) $$ VC
  iintro VC
  iapply (wait_recv P A K c 0 (by decide) (sem_at1 (dn c 0) (off8 c 0)) credit_recv) $$ [R0 HO]
  · isplitr; · iexact Hc
    isplitl [R0]; · iexact R0
    iexact HO
  iintro ⟨W0, F0, HO⟩
  iapply (load_slot (F := F) c (m := recvM) (dn c 0) (off10 c 0)) $$ W0
  iintro W0
  rw [wp_ret]
  imodintro
  ispecialize Hk $$ %_
  iapply Hk
  isplitl [K6]; · iexact K6
  isplitl [VC]; · iexact VC
  isplitl [F0]; · iexact F0
  isplitl [HO]; · iexact HO
  iexact W0

/-- Two more terms. -/
theorem run14 (v2 w w8 : BitVec 32) (a : FVec F S64x512 .f32)  {Q : (Σ' (v565 : FVec F S64x512 .f32) (v568 : BitVec 32), BitVec 32) → sProp 𝕄} :
    iprop(ctx P A K c ∗ (tk c 1 (dn c 1) ∗ ow c 7 ∗ tk c 1 (dn c 2)))
      ⊢ iprop((∀ w', (fin c 1 (dn c 1) ∗ owns (c : Thread nD τ) (recvSl (dn c 1)) fullShare (P (dn c 1) c) ∗ fin c 1 (dn c 2) ∗ ow c 7 ∗ owns (c : Thread nD τ) (recvSl (dn c 2)) fullShare (P (dn c 2) c)) -∗ Q ⟨k0_pay66 a (P (dn c 1) c) (P (dn c 2) c), w', 8#32⟩)
        -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 a w w8) Q) := by
  rw [k0_part14_eq_skeleton]; unfold k0_part14_skel
  simp only [semSignalWord, semWaitWord, Prog.lift, Prog.bind_op, Prog.bind_ret, Prog.pure_eq_ret, wp_deviceId]
  iintro ⟨#Hc, ⟨R1, HO, R2⟩⟩ Hk
  iapply (wait_recv P A K c 1 (by decide) (sem_at1 (dn c 1) (off8 c 1)) credit_recv) $$ [R1 HO]
  · isplitr; · iexact Hc
    isplitl [R1]; · iexact R1
    iexact HO
  iintro ⟨W1, F1, HO⟩
  iapply (load_slot (F := F) c (m := recvM) (dn c 1) (off10 c 1)) $$ W1
  iintro W1
  iapply (wait_recv P A K c 2 (by decide) (sem_at1 (dn c 2) (off8 c 2)) credit_recv) $$ [R2 HO]
  · isplitr; · iexact Hc
    isplitl [R2]; · iexact R2
    iexact HO
  iintro ⟨W2, F2, HO⟩
  iapply (load_slot (F := F) c (m := recvM) (dn c 2) (off10 c 2)) $$ W2
  iintro W2
  rw [wp_ret]
  imodintro
  ispecialize Hk $$ %_
  iapply Hk
  isplitl [F1]; · iexact F1
  isplitl [W1]; · iexact W1
  isplitl [F2]; · iexact F2
  isplitl [HO]; · iexact HO
  iexact W2

/-- Two more terms. -/
theorem run15 (v2 w w8 : BitVec 32) (a : FVec F S64x512 .f32)  {Q : (Σ' (v599 : FVec F S64x512 .f32) (v602 : BitVec 32), BitVec 32) → sProp 𝕄} :
    iprop(ctx P A K c ∗ (tk c 1 (dn c 3) ∗ ow c 7 ∗ tk c 1 (dn c 4)))
      ⊢ iprop((∀ w', (fin c 1 (dn c 3) ∗ owns (c : Thread nD τ) (recvSl (dn c 3)) fullShare (P (dn c 3) c) ∗ fin c 1 (dn c 4) ∗ ow c 7 ∗ owns (c : Thread nD τ) (recvSl (dn c 4)) fullShare (P (dn c 4) c)) -∗ Q ⟨k0_pay67 a (P (dn c 3) c) (P (dn c 4) c), w', 8#32⟩)
        -∗ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 a w w8) Q) := by
  rw [k0_part15_eq_skeleton]; unfold k0_part15_skel
  simp only [semSignalWord, semWaitWord, Prog.lift, Prog.bind_op, Prog.bind_ret, Prog.pure_eq_ret, wp_deviceId]
  iintro ⟨#Hc, ⟨R3, HO, R4⟩⟩ Hk
  iapply (wait_recv P A K c 3 (by decide) (sem_at1 (dn c 3) (off8 c 3)) credit_recv) $$ [R3 HO]
  · isplitr; · iexact Hc
    isplitl [R3]; · iexact R3
    iexact HO
  iintro ⟨W3, F3, HO⟩
  iapply (load_slot (F := F) c (m := recvM) (dn c 3) (off10 c 3)) $$ W3
  iintro W3
  iapply (wait_recv P A K c 4 (by decide) (sem_at1 (dn c 4) (off8 c 4)) credit_recv) $$ [R4 HO]
  · isplitr; · iexact Hc
    isplitl [R4]; · iexact R4
    iexact HO
  iintro ⟨W4, F4, HO⟩
  iapply (load_slot (F := F) c (m := recvM) (dn c 4) (off10 c 4)) $$ W4
  iintro W4
  rw [wp_ret]
  imodintro
  ispecialize Hk $$ %_
  iapply Hk
  isplitl [F3]; · iexact F3
  isplitl [W3]; · iexact W3
  isplitl [F4]; · iexact F4
  isplitl [HO]; · iexact HO
  iexact W4

/-- The last two terms, and the sum stored. -/
theorem run16 (v2 w w8 : BitVec 32) (a : FVec F S64x512 .f32) (hA : k0_pay69 a (P (dn c 5) c) (P (dn c 6) c) = A c) {Q : FVec F S64x512 .bf16 → sProp 𝕄} :
    iprop(ctx P A K c ∗ (tk c 1 (dn c 5) ∗ ow c 7 ∗ tk c 1 (dn c 6) ∗ (∃ v, owns (c : Thread nD τ) bcM fullShare v)))
      ⊢ iprop(((fin c 1 (dn c 5) ∗ owns (c : Thread nD τ) (recvSl (dn c 5)) fullShare (P (dn c 5) c) ∗ fin c 1 (dn c 6) ∗ ow c 7 ∗ owns (c : Thread nD τ) (recvSl (dn c 6)) fullShare (P (dn c 6) c) ∗ owns (c : Thread nD τ) bcM fullShare (A c)) -∗ Q (k0_pay68 a (P (dn c 5) c) (P (dn c 6) c)))
        -∗ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 a w w8) Q) := by
  rw [k0_part16_eq_skeleton]; unfold k0_part16_skel
  simp only [semSignalWord, semWaitWord, Prog.lift, Prog.bind_op, Prog.bind_ret, Prog.pure_eq_ret, wp_deviceId]
  iintro ⟨#Hc, ⟨R5, HO, R6, HS⟩⟩ Hk
  iapply (wait_recv P A K c 5 (by decide) (sem_at1 (dn c 5) (off8 c 5)) credit_recv) $$ [R5 HO]
  · isplitr; · iexact Hc
    isplitl [R5]; · iexact R5
    iexact HO
  iintro ⟨W5, F5, HO⟩
  iapply (load_slot (F := F) c (m := recvM) (dn c 5) (off10 c 5)) $$ W5
  iintro W5
  iapply (wait_recv P A K c 6 (by decide) (sem_at1 (dn c 6) (off8 c 6)) credit_recv) $$ [R6 HO]
  · isplitr; · iexact Hc
    isplitl [R6]; · iexact R6
    iexact HO
  iintro ⟨W6, F6, HO⟩
  iapply (load_slot (F := F) c (m := recvM) (dn c 6) (off10 c 6)) $$ W6
  iintro W6
  iapply (fill_sum (F := F) c (A c) hA) $$ HS
  iintro HS
  rw [wp_ret]
  imodintro
  iapply Hk
  isplitl [F5]; · iexact F5
  isplitl [W5]; · iexact W5
  isplitl [F6]; · iexact F6
  isplitl [HO]; · iexact HO
  isplitl [W6]; · iexact W6
  iexact HS

/-- The own rows of the result, and the first four chunks read. -/
theorem run17 (v2 : BitVec 32) (a : FVec F S64x512 .bf16) (hA : a = A c) {Q : PUnit.{1} → sProp 𝕄} :
    iprop(ctx P A K c ∗ ((∃ v, owns (c : Thread nD τ) (outSl c) fullShare v) ∗ tk c 0 (up c 0) ∗ ow c 7 ∗ tk c 0 (up c 1) ∗ tk c 0 (up c 2) ∗ tk c 0 (up c 3)))
      ⊢ iprop(((owns (c : Thread nD τ) (outSl c) fullShare (A c) ∗ (∃ v, owns (c : Thread nD τ) (sendSl (up c 0)) fullShare v) ∗ fin c 0 (up c 0) ∗ (∃ v, owns (c : Thread nD τ) (sendSl (up c 1)) fullShare v) ∗ fin c 0 (up c 1) ∗ (∃ v, owns (c : Thread nD τ) (sendSl (up c 2)) fullShare v) ∗ fin c 0 (up c 2) ∗ (∃ v, owns (c : Thread nD τ) (sendSl (up c 3)) fullShare v) ∗ fin c 0 (up c 3) ∗ ow c 7) -∗ Q ⟨⟩)
        -∗ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 a) Q) := by
  rw [k0_part17_eq_skeleton]; unfold k0_part17_skel
  simp only [semSignalWord, semWaitWord, Prog.lift, Prog.bind_op, Prog.bind_ret, Prog.pure_eq_ret, wp_deviceId]
  iintro ⟨#Hc, ⟨HR, K0, HO, K1, K2, K3⟩⟩ Hk
  iapply (fill_rows (F := F) c (m := outM) c (k0_off11_eq c) (A c) hA) $$ HR
  iintro HR
  iapply (wait_sent P A K c 0 (by decide) (sem_at0 (up c 0) (off3 c 0)) credit_send) $$ [K0 HO]
  · isplitr; · iexact Hc
    isplitl [K0]; · iexact K0
    iexact HO
  iintro ⟨U0, E0, HO⟩
  iapply (wait_sent P A K c 1 (by decide) (sem_at0 (up c 1) (off3 c 1)) credit_send) $$ [K1 HO]
  · isplitr; · iexact Hc
    isplitl [K1]; · iexact K1
    iexact HO
  iintro ⟨U1, E1, HO⟩
  iapply (wait_sent P A K c 2 (by decide) (sem_at0 (up c 2) (off3 c 2)) credit_send) $$ [K2 HO]
  · isplitr; · iexact Hc
    isplitl [K2]; · iexact K2
    iexact HO
  iintro ⟨U2, E2, HO⟩
  iapply (wait_sent P A K c 3 (by decide) (sem_at0 (up c 3) (off3 c 3)) credit_send) $$ [K3 HO]
  · isplitr; · iexact Hc
    isplitl [K3]; · iexact K3
    iexact HO
  iintro ⟨U3, E3, HO⟩
  rw [wp_ret]
  imodintro
  iapply Hk
  isplitl [HR]; · iexact HR
  isplitl [U0]; · iexact U0
  isplitl [E0]; · iexact E0
  isplitl [U1]; · iexact U1
  isplitl [E1]; · iexact E1
  isplitl [U2]; · iexact U2
  isplitl [E2]; · iexact E2
  isplitl [U3]; · iexact U3
  isplitl [E3]; · iexact E3
  iexact HO

/-- The other three chunks read, and the first copy of the sum. -/
theorem run18 (v2 : BitVec 32)  {Q : PUnit.{1} → sProp 𝕄} :
    iprop(ctx P A K c ∗ (tk c 0 (up c 4) ∗ ow c 7 ∗ tk c 0 (up c 5) ∗ tk c 0 (up c 6) ∗ owns (c : Thread nD τ) bcM (shr (hp 0)) (A c) ∗ to2 c 0 ∗ d2 c 0))
      ⊢ iprop((((∃ v, owns (c : Thread nD τ) (sendSl (up c 4)) fullShare v) ∗ fin c 0 (up c 4) ∗ (∃ v, owns (c : Thread nD τ) (sendSl (up c 5)) fullShare v) ∗ fin c 0 (up c 5) ∗ (∃ v, owns (c : Thread nD τ) (sendSl (up c 6)) fullShare v) ∗ fin c 0 (up c 6) ∗ tk c 2 (hp 0) ∗ ow c 6) -∗ Q ⟨⟩)
        -∗ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  rw [k0_part18_eq_skeleton]; unfold k0_part18_skel
  simp only [semSignalWord, semWaitWord, Prog.lift, Prog.bind_op, Prog.bind_ret, Prog.pure_eq_ret, wp_deviceId]
  iintro ⟨#Hc, ⟨K4, HO, K5, K6, B0, T0, D0⟩⟩ Hk
  iapply (wait_sent P A K c 4 (by decide) (sem_at0 (up c 4) (off3 c 4)) credit_send) $$ [K4 HO]
  · isplitr; · iexact Hc
    isplitl [K4]; · iexact K4
    iexact HO
  iintro ⟨U4, E4, HO⟩
  iapply (wait_sent P A K c 5 (by decide) (sem_at0 (up c 5) (off3 c 5)) credit_send) $$ [K5 HO]
  · isplitr; · iexact Hc
    isplitl [K5]; · iexact K5
    iexact HO
  iintro ⟨U5, E5, HO⟩
  iapply (wait_sent P A K c 6 (by decide) (sem_at0 (up c 6) (off3 c 6)) credit_send) $$ [K6 HO]
  · isplitr; · iexact Hc
    isplitl [K6]; · iexact K6
    iexact HO
  iintro ⟨U6, E6, HO⟩
  iapply (hop_send2 P A K c 0 6 (by decide) (by decide) (to_up c 0 1 (by decide) (k0_dev15_eq c) _) (sem_at2 (hp 0) rfl) (sem_at3 c (k0_off4_eq c)) (k0_off12_eq c)) $$ [B0 T0 D0 HO]
  · isplitr; · iexact Hc
    isplitl [B0]; · iexact B0
    isplitl [T0]; · iexact T0
    isplitl [D0]; · iexact D0
    iexact HO
  iintro ⟨K0, HO⟩
  rw [wp_ret]
  imodintro
  iapply Hk
  isplitl [U4]; · iexact U4
  isplitl [E4]; · iexact E4
  isplitl [U5]; · iexact U5
  isplitl [E5]; · iexact E5
  isplitl [U6]; · iexact U6
  isplitl [E6]; · iexact E6
  isplitl [K0]; · iexact K0
  iexact HO

/-- Four more copies of the sum. -/
theorem run19 (v2 : BitVec 32)  {Q : PUnit.{1} → sProp 𝕄} :
    iprop(ctx P A K c ∗ (owns (c : Thread nD τ) bcM (shr (hp 1)) (A c) ∗ to2 c 1 ∗ d2 c 1 ∗ ow c 6 ∗ owns (c : Thread nD τ) bcM (shr (hp 2)) (A c) ∗ to2 c 2 ∗ d2 c 2 ∗ owns (c : Thread nD τ) bcM (shr (hp 3)) (A c) ∗ to2 c 3 ∗ d2 c 3 ∗ owns (c : Thread nD τ) bcM (shr (hp 4)) (A c) ∗ to2 c 4 ∗ d2 c 4))
      ⊢ iprop(((tk c 2 (hp 1) ∗ tk c 2 (hp 2) ∗ tk c 2 (hp 3) ∗ tk c 2 (hp 4) ∗ ow c 2) -∗ Q ⟨⟩)
        -∗ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  rw [k0_part19_eq_skeleton]; unfold k0_part19_skel
  simp only [semSignalWord, semWaitWord, Prog.lift, Prog.bind_op, Prog.bind_ret, Prog.pure_eq_ret, wp_deviceId]
  iintro ⟨#Hc, ⟨B1, T1, D1, HO, B2, T2, D2, B3, T3, D3, B4, T4, D4⟩⟩ Hk
  iapply (hop_send2 P A K c 1 5 (by decide) (by decide) (to_up c 1 2 (by decide) (k0_dev16_eq c) _) (sem_at2 (hp 1) rfl) (sem_at3 c (k0_off4_eq c)) (k0_off12_eq c)) $$ [B1 T1 D1 HO]
  · isplitr; · iexact Hc
    isplitl [B1]; · iexact B1
    isplitl [T1]; · iexact T1
    isplitl [D1]; · iexact D1
    iexact HO
  iintro ⟨K1, HO⟩
  iapply (hop_send2 P A K c 2 4 (by decide) (by decide) (to_up c 2 3 (by decide) (k0_dev17_eq c) _) (sem_at2 (hp 2) rfl) (sem_at3 c (k0_off4_eq c)) (k0_off12_eq c)) $$ [B2 T2 D2 HO]
  · isplitr; · iexact Hc
    isplitl [B2]; · iexact B2
    isplitl [T2]; · iexact T2
    isplitl [D2]; · iexact D2
    iexact HO
  iintro ⟨K2, HO⟩
  iapply (hop_send2 P A K c 3 3 (by decide) (by decide) (to_up c 3 4 (by decide) (k0_dev18_eq c) _) (sem_at2 (hp 3) rfl) (sem_at3 c (k0_off4_eq c)) (k0_off12_eq c)) $$ [B3 T3 D3 HO]
  · isplitr; · iexact Hc
    isplitl [B3]; · iexact B3
    isplitl [T3]; · iexact T3
    isplitl [D3]; · iexact D3
    iexact HO
  iintro ⟨K3, HO⟩
  iapply (hop_send2 P A K c 4 2 (by decide) (by decide) (to_up c 4 5 (by decide) (k0_dev19_eq c) _) (sem_at2 (hp 4) rfl) (sem_at3 c (k0_off4_eq c)) (k0_off12_eq c)) $$ [B4 T4 D4 HO]
  · isplitr; · iexact Hc
    isplitl [B4]; · iexact B4
    isplitl [T4]; · iexact T4
    isplitl [D4]; · iexact D4
    iexact HO
  iintro ⟨K4, HO⟩
  rw [wp_ret]
  imodintro
  iapply Hk
  isplitl [K1]; · iexact K1
  isplitl [K2]; · iexact K2
  isplitl [K3]; · iexact K3
  isplitl [K4]; · iexact K4
  iexact HO

/-- The last two copies of the sum; the first sum in. -/
theorem run20 (v2 : BitVec 32)  {Q : BitVec 32 → sProp 𝕄} :
    iprop(ctx P A K c ∗ (owns (c : Thread nD τ) bcM (shr (hp 5)) (A c) ∗ to2 c 5 ∗ d2 c 5 ∗ ow c 2 ∗ owns (c : Thread nD τ) bcM (shr (hp 6)) (A c) ∗ to2 c 6 ∗ d2 c 6 ∗ tk c 3 (dn c 0)))
      ⊢ iprop((∀ w, (tk c 2 (hp 5) ∗ tk c 2 (hp 6) ∗ owns (c : Thread nD τ) (outSl (dn c 0)) fullShare (A (dn c 0)) ∗ fin c 3 (dn c 0) ∗ ow c 0) -∗ Q w)
        -∗ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  rw [k0_part20_eq_skeleton]; unfold k0_part20_skel
  simp only [semSignalWord, semWaitWord, Prog.lift, Prog.bind_op, Prog.bind_ret, Prog.pure_eq_ret, wp_deviceId]
  iintro ⟨#Hc, ⟨B5, T5, D5, HO, B6, T6, D6, R0⟩⟩ Hk
  iapply (hop_send2 P A K c 5 1 (by decide) (by decide) (to_up c 5 6 (by decide) (k0_dev20_eq c) _) (sem_at2 (hp 5) rfl) (sem_at3 c (k0_off4_eq c)) (k0_off12_eq c)) $$ [B5 T5 D5 HO]
  · isplitr; · iexact Hc
    isplitl [B5]; · iexact B5
    isplitl [T5]; · iexact T5
    isplitl [D5]; · iexact D5
    iexact HO
  iintro ⟨K5, HO⟩
  iapply (hop_send2 P A K c 6 0 (by decide) (by decide) (to_up c 6 7 (by decide) (k0_dev21_eq c) _) (sem_at2 (hp 6) rfl) (sem_at3 c (k0_off4_eq c)) (k0_off12_eq c)) $$ [B6 T6 D6 HO]
  · isplitr; · iexact Hc
    isplitl [B6]; · iexact B6
    isplitl [T6]; · iexact T6
    isplitl [D6]; · iexact D6
    iexact HO
  iintro ⟨K6, HO⟩
  iapply (wait_rows P A K c 0 (by decide) (sem_at3 (dn c 0) (off8 c 0)) credit_out) $$ [R0 HO]
  · isplitr; · iexact Hc
    isplitl [R0]; · iexact R0
    iexact HO
  iintro ⟨O0, F0, HO⟩
  rw [wp_ret]
  imodintro
  ispecialize Hk $$ %_
  iapply Hk
  isplitl [K5]; · iexact K5
  isplitl [K6]; · iexact K6
  isplitl [O0]; · iexact O0
  isplitl [F0]; · iexact F0
  iexact HO

/-- Three more sums in. -/
theorem run21 (v2 w : BitVec 32)  {Q : BitVec 32 → sProp 𝕄} :
    iprop(ctx P A K c ∗ (tk c 3 (dn c 1) ∗ ow c 0 ∗ tk c 3 (dn c 2) ∗ tk c 3 (dn c 3)))
      ⊢ iprop((∀ w', (owns (c : Thread nD τ) (outSl (dn c 1)) fullShare (A (dn c 1)) ∗ fin c 3 (dn c 1) ∗ owns (c : Thread nD τ) (outSl (dn c 2)) fullShare (A (dn c 2)) ∗ fin c 3 (dn c 2) ∗ owns (c : Thread nD τ) (outSl (dn c 3)) fullShare (A (dn c 3)) ∗ fin c 3 (dn c 3) ∗ ow c 0) -∗ Q w')
        -∗ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 w) Q) := by
  rw [k0_part21_eq_skeleton]; unfold k0_part21_skel
  simp only [semSignalWord, semWaitWord, Prog.lift, Prog.bind_op, Prog.bind_ret, Prog.pure_eq_ret, wp_deviceId]
  iintro ⟨#Hc, ⟨R1, HO, R2, R3⟩⟩ Hk
  iapply (wait_rows P A K c 1 (by decide) (sem_at3 (dn c 1) (off8 c 1)) credit_out) $$ [R1 HO]
  · isplitr; · iexact Hc
    isplitl [R1]; · iexact R1
    iexact HO
  iintro ⟨O1, F1, HO⟩
  iapply (wait_rows P A K c 2 (by decide) (sem_at3 (dn c 2) (off8 c 2)) credit_out) $$ [R2 HO]
  · isplitr; · iexact Hc
    isplitl [R2]; · iexact R2
    iexact HO
  iintro ⟨O2, F2, HO⟩
  iapply (wait_rows P A K c 3 (by decide) (sem_at3 (dn c 3) (off8 c 3)) credit_out) $$ [R3 HO]
  · isplitr; · iexact Hc
    isplitl [R3]; · iexact R3
    iexact HO
  iintro ⟨O3, F3, HO⟩
  rw [wp_ret]
  imodintro
  ispecialize Hk $$ %_
  iapply Hk
  isplitl [O1]; · iexact O1
  isplitl [F1]; · iexact F1
  isplitl [O2]; · iexact O2
  isplitl [F2]; · iexact F2
  isplitl [O3]; · iexact O3
  isplitl [F3]; · iexact F3
  iexact HO

/-- The last three sums in. -/
theorem run22 (v2 w : BitVec 32)  {Q : PUnit.{1} → sProp 𝕄} :
    iprop(ctx P A K c ∗ (tk c 3 (dn c 4) ∗ ow c 0 ∗ tk c 3 (dn c 5) ∗ tk c 3 (dn c 6)))
      ⊢ iprop(((owns (c : Thread nD τ) (outSl (dn c 4)) fullShare (A (dn c 4)) ∗ fin c 3 (dn c 4) ∗ owns (c : Thread nD τ) (outSl (dn c 5)) fullShare (A (dn c 5)) ∗ fin c 3 (dn c 5) ∗ owns (c : Thread nD τ) (outSl (dn c 6)) fullShare (A (dn c 6)) ∗ fin c 3 (dn c 6) ∗ ow c 0) -∗ Q ⟨⟩)
        -∗ wp frame (wpE (defs₀ (F := F)) 𝒱₀ (c : Thread nD τ) none) Set.univ (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 w) Q) := by
  rw [k0_part22_eq_skeleton]; unfold k0_part22_skel
  simp only [semSignalWord, semWaitWord, Prog.lift, Prog.bind_op, Prog.bind_ret, Prog.pure_eq_ret, wp_deviceId]
  iintro ⟨#Hc, ⟨R4, HO, R5, R6⟩⟩ Hk
  iapply (wait_rows P A K c 4 (by decide) (sem_at3 (dn c 4) (off8 c 4)) credit_out) $$ [R4 HO]
  · isplitr; · iexact Hc
    isplitl [R4]; · iexact R4
    iexact HO
  iintro ⟨O4, F4, HO⟩
  iapply (wait_rows P A K c 5 (by decide) (sem_at3 (dn c 5) (off8 c 5)) credit_out) $$ [R5 HO]
  · isplitr; · iexact Hc
    isplitl [R5]; · iexact R5
    iexact HO
  iintro ⟨O5, F5, HO⟩
  iapply (wait_rows P A K c 6 (by decide) (sem_at3 (dn c 6) (off8 c 6)) credit_out) $$ [R6 HO]
  · isplitr; · iexact Hc
    isplitl [R6]; · iexact R6
    iexact HO
  iintro ⟨O6, F6, HO⟩
  rw [wp_ret]
  imodintro
  iapply Hk
  isplitl [O4]; · iexact O4
  isplitl [F4]; · iexact F4
  isplitl [O5]; · iexact O5
  isplitl [F5]; · iexact F5
  isplitl [O6]; · iexact O6
  isplitl [F6]; · iexact F6
  iexact HO

end Cert.Talk

end
-- ==== Proof.Body.lean ====
/-
# One device's run of the body
-/
module

public import proofs.«01_k».proof.Proof.Body1
public import proofs.«01_k».proof.Proof.Body2
public import Idealize.ShloMosaic.Lib.Pipeline.Value

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Part F) (A : Sum F) (K : GSem nD τ sig → ℕ) (c : Dev nD)

/-- One hypothesis for the seven hops. -/
def seven (Φ : ℕ → sProp 𝕄) : sProp 𝕄 := iprop(Φ 0 ∗ Φ 1 ∗ Φ 2 ∗ Φ 3 ∗ Φ 4 ∗ Φ 5 ∗ Φ 6)
/-- Seven things as one family over the seven distances. -/
theorem seven_eq (Φ : ℕ → sProp 𝕄) : seven Φ = bigSep (Finset.univ : Finset (Fin 7)) fun k => Φ k := (bigSep_fin7 Φ).symm

/-- A program followed by another. -/
theorem seq {α β : Type} {p : Prog (TpuEff nD τ sig (Elt F) Λ₀ .tc) α} {f : α → Prog (TpuEff nD τ sig (Elt F) Λ₀ .tc) β} {Q : β → sProp 𝕄} :
    wp frame (wpE (defs₀ (F := F)) 𝒱₀ (c : Thread nD τ) none) Set.univ p (fun a => wp frame (wpE (defs₀ (F := F)) 𝒱₀ (c : Thread nD τ) none) Set.univ (f a) Q)
      ⊢ wp frame (wpE (defs₀ (F := F)) 𝒱₀ (c : Thread nD τ) none) Set.univ (p >>= f) Q := by
  rw [wp_bind]

/-- The sum's buffer is dealt among the seven copies and gathered again. -/
theorem deal_sum (X : S64x512.Idx → Elt F .bf16) :
    (owns (c : Thread nD τ) bcM fullShare X : sProp 𝕄) = seven fun k => owns (c : Thread nD τ) bcM (shr (hp k)) X := by
  rw [seven_eq, ← bigSep_hp fun j => owns (c : Thread nD τ) bcM (shr j) X]
  unfold shr
  rw [show (fun j => (owns (c : Thread nD τ) bcM (Transfers.dealOf fullShare ((Finset.univ : Finset (Fin 8)).erase 0) j) X : sProp 𝕄)) =
    fun j => ((c : Thread nD τ).loc cc0_scratch2) ↦{Transfers.dealOf fullShare ((Finset.univ : Finset (Fin 8)).erase 0) j} X from
      funext fun j => owns_whole _ _ _ _, ← Transfers.pointsTo_deal _ ⟨1, by decide⟩]
  exact owns_whole _ _ _ _

/-- The sum is stored twice, once through a reshape that changes nothing. -/
theorem pay_sum (a : FVec F S64x512 .f32) (u v : S1x64x512.Idx → Elt F .bf16) : k0_pay68 a u v = k0_pay69 a u v := by
  unfold k0_pay69; exact (shapeCast_self _ _).symm

variable (I : Ins F)

/-- What device `c` holds when the body starts, -/
def entry : sProp 𝕄 := iprop(owns (c : Thread nD τ) (Memref.whole cc0_stg0_0) fullShare I.x ∗ owns (c : Thread nD τ) (Memref.whole cc0_stg1_0) fullShare I.wq ∗ owns (c : Thread nD τ) (Memref.whole cc0_stg2_0) fullShare I.k ∗ owns (c : Thread nD τ) (Memref.whole cc0_stg3_0) fullShare I.v ∗ owns (c : Thread nD τ) (Memref.whole cc0_stg4_0) fullShare I.wo ∗ (∃ v, owns (c : Thread nD τ) bcM fullShare v) ∗ (∃ v, owns (c : Thread nD τ) (outSl c) fullShare v) ∗ ow c 21 ∗ cred (tallyAt (barCell c) () 7) ∗ atPos ER (barCell c) 0 ∅ 0 ∗ seven (fun k => sigR c k) ∗ seven (fun k => d1 c k) ∗ seven (fun k => d2 c k) ∗ seven (fun k => tk c 1 (dn c k)) ∗ seven (fun k => tk c 3 (dn c k)) ∗ ((∃ v, owns (c : Thread nD τ) (sendSl 0) fullShare v) ∗ (∃ v, owns (c : Thread nD τ) (sendSl 1) fullShare v) ∗ (∃ v, owns (c : Thread nD τ) (sendSl 2) fullShare v) ∗ (∃ v, owns (c : Thread nD τ) (sendSl 3) fullShare v) ∗ (∃ v, owns (c : Thread nD τ) (sendSl 4) fullShare v) ∗ (∃ v, owns (c : Thread nD τ) (sendSl 5) fullShare v) ∗ (∃ v, owns (c : Thread nD τ) (sendSl 6) fullShare v) ∗ (∃ v, owns (c : Thread nD τ) (sendSl 7) fullShare v)))
/-- when it ends but for the last copy of the sum, -/
def most : sProp 𝕄 := iprop(owns (c : Thread nD τ) (Memref.whole cc0_stg0_0) fullShare I.x ∗ owns (c : Thread nD τ) (Memref.whole cc0_stg1_0) fullShare I.wq ∗ owns (c : Thread nD τ) (Memref.whole cc0_stg2_0) fullShare I.k ∗ owns (c : Thread nD τ) (Memref.whole cc0_stg3_0) fullShare I.v ∗ owns (c : Thread nD τ) (Memref.whole cc0_stg4_0) fullShare I.wo ∗ owns (c : Thread nD τ) (sendSl c) fullShare (P c c) ∗ owns (c : Thread nD τ) (outSl c) fullShare (A c) ∗ atPos ER (barCell c) 1 ∅ 0 ∗ seven (fun k => iprop((∃ v, owns (c : Thread nD τ) (sendSl (up c k)) fullShare v))) ∗ seven (fun k => iprop(owns (c : Thread nD τ) (recvSl (dn c k)) fullShare (P (dn c k) c))) ∗ seven (fun k => iprop(owns (c : Thread nD τ) (outSl (dn c k)) fullShare (A (dn c k)))) ∗ seven (fun k => iprop(fin c 0 (up c k))) ∗ seven (fun k => iprop(fin c 1 (dn c k))) ∗ seven (fun k => iprop(fin c 3 (dn c k))))
/-- and when it ends. -/
def exit' : sProp 𝕄 := iprop(most P A c I ∗ owns (c : Thread nD τ) bcM fullShare (A c) ∗ seven (fun k => fin c 2 (hp k)) ∗ ow c 0)

/-- The body but for the last wait. -/
theorem run23 (hP : ∀ j, P c j = I.chunk c j) (hA : A c = total P c) {Q : Dev nD → sProp 𝕄} :
    iprop(ctx P A K c ∗ entry c I)
      ⊢ iprop(((most P A c I ∗ owns (c : Thread nD τ) bcM (shr (hp 0)) (A c) ∗ owns (c : Thread nD τ) bcM (shr (hp 1)) (A c) ∗ owns (c : Thread nD τ) bcM (shr (hp 2)) (A c) ∗ owns (c : Thread nD τ) bcM (shr (hp 3)) (A c) ∗ owns (c : Thread nD τ) bcM (shr (hp 4)) (A c) ∗ owns (c : Thread nD τ) bcM (shr (hp 5)) (A c) ∗ fin c 2 (hp 0) ∗ fin c 2 (hp 1) ∗ fin c 2 (hp 2) ∗ fin c 2 (hp 3) ∗ fin c 2 (hp 4) ∗ fin c 2 (hp 5) ∗ tk c 2 (hp 6) ∗ ow c 0) -∗ Q c)
        -∗ wp frame (wpE (defs₀ (F := F)) 𝒱₀ (c : Thread nD τ) none) Set.univ (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  unfold entry most
  rw [k0_part23_eq_skeleton]; unfold k0_part23_skel
  iintro ⟨#Hc, H1, H2, H3, H4, H5, H6, H7, H8, H9, H10, B0, B1, B2, B3, B4, B5⟩ Hk
  unfold seven
  icases B0 with ⟨H11, H12, H13, H14, H15, H16, H17⟩
  iapply seq
  iapply (run1 P A K c ) $$ [H11 H8 H12 H13 H14]
  · isplitr; · iexact Hc
    isplitl [H11]; · iexact H11
    isplitl [H8]; · iexact H8
    isplitl [H12]; · iexact H12
    isplitl [H13]; · iexact H13
    iexact H14
  iintro %v2 %v4 %v6 %v8 %v10 %v12 %v14 %v16
  iintro H18
  dsimp only
  iapply seq
  iapply (run2 P A K c I v2 v12 v14 v16) $$ [H15 H18 H16 H17 H9 H10 H2 H1 H3 H4]
  · isplitr; · iexact Hc
    isplitl [H15]; · iexact H15
    isplitl [H18]; · iexact H18
    isplitl [H16]; · iexact H16
    isplitl [H17]; · iexact H17
    isplitl [H9]; · iexact H9
    isplitl [H10]; · iexact H10
    isplitl [H2]; · iexact H2
    isplitl [H1]; · iexact H1
    isplitl [H3]; · iexact H3
    iexact H4
  iintro %v32
  iintro ⟨H19, H20, H21, H22, H23, H24, H25⟩
  dsimp only
  iapply seq
  iapply (run3 (F := F) c)
  dsimp only
  iapply seq
  iapply (run4 (F := F) c)
  dsimp only
  iapply seq
  iapply (run5 (F := F) c)
  dsimp only
  iapply seq
  iapply (run6 P A K c I v32 I.q (I.head0 c) (I.head1 c) (I.head2 c) _ _ _) $$ [H24 H25]
  · isplitr; · iexact Hc
    isplitl [H24]; · iexact H24
    iexact H25
  iintro ⟨H26, H27⟩
  dsimp only
  iapply seq
  iapply (run7 (F := F) c)
  dsimp only
  iapply seq
  iapply (run8 (F := F) c)
  dsimp only
  iapply seq
  iapply (run9 (F := F) c)
  dsimp only
  icases B5 with ⟨H28, H29, H30, H31, H32, H33, H34, H35⟩
  iapply seq
  iapply (run10 P A K c I) $$ [H5 H28 H29 H30 H31 H32 H33]
  · isplitr; · iexact Hc
    isplitl [H5]; · iexact H5
    isplitl [H28]; · iexact H28
    isplitl [H29]; · iexact H29
    isplitl [H30]; · iexact H30
    isplitl [H31]; · iexact H31
    isplitl [H32]; · iexact H32
    iexact H33
  iintro ⟨H36, H37, H38, H39, H40, H41, H42⟩
  dsimp only
  icases H19 with ⟨G0, G1, G2, G3, G4, G5, G6⟩
  ihave G0 := (got_split c 0) $$ G0
  icases G0 with ⟨H43, H44⟩
  ihave G1 := (got_split c 1) $$ G1
  icases G1 with ⟨H45, H46⟩
  ihave G2 := (got_split c 2) $$ G2
  icases G2 with ⟨H47, H48⟩
  ihave G3 := (got_split c 3) $$ G3
  icases G3 with ⟨H49, H50⟩
  ihave G4 := (got_split c 4) $$ G4
  icases G4 with ⟨H51, H52⟩
  ihave G5 := (got_split c 5) $$ G5
  icases G5 with ⟨H53, H54⟩
  ihave G6 := (got_split c 6) $$ G6
  icases G6 with ⟨H55, H56⟩
  icases B1 with ⟨H57, H58, H59, H60, H61, H62, H63⟩
  iapply seq
  iapply (run11 P A K c I v4 v6 v8 hP) $$ [H37 H38 H39 H40 H41 H42 H34 H35 H43 H57 H21 H45 H58]
  · isplitr; · iexact Hc
    isplitl [H37]; · iexact H37
    isplitl [H38]; · iexact H38
    isplitl [H39]; · iexact H39
    isplitl [H40]; · iexact H40
    isplitl [H41]; · iexact H41
    isplitl [H42]; · iexact H42
    isplitl [H34]; · iexact H34
    isplitl [H35]; · iexact H35
    isplitl [H43]; · iexact H43
    isplitl [H57]; · iexact H57
    isplitl [H21]; · iexact H21
    isplitl [H45]; · iexact H45
    iexact H58
  iintro ⟨H64, H65, H66, H67, H68, H69, H70, H71, H72⟩
  dsimp only
  iapply seq
  iapply (run12 P A K c v10 v12 v14) $$ [H65 H47 H59 H72 H66 H49 H60 H67 H51 H61 H68 H53 H62]
  · isplitr; · iexact Hc
    isplitl [H65]; · iexact H65
    isplitl [H47]; · iexact H47
    isplitl [H59]; · iexact H59
    isplitl [H72]; · iexact H72
    isplitl [H66]; · iexact H66
    isplitl [H49]; · iexact H49
    isplitl [H60]; · iexact H60
    isplitl [H67]; · iexact H67
    isplitl [H51]; · iexact H51
    isplitl [H61]; · iexact H61
    isplitl [H68]; · iexact H68
    isplitl [H53]; · iexact H53
    iexact H62
  iintro ⟨H73, H74, H75, H76, H77⟩
  dsimp only
  icases B3 with ⟨H78, H79, H80, H81, H82, H83, H84⟩
  iapply seq
  iapply (run13 P A K c v2 v16) $$ [H69 H55 H63 H77 H64 H78]
  · isplitr; · iexact Hc
    isplitl [H69]; · iexact H69
    isplitl [H55]; · iexact H55
    isplitl [H63]; · iexact H63
    isplitl [H77]; · iexact H77
    isplitl [H64]; · iexact H64
    iexact H78
  iintro %w1
  iintro ⟨H85, H86, H87, H88, H89⟩
  dsimp only
  iapply seq
  iapply (run14 P A K c v2 w1 8#32 (k0_pay65 (P c c) (P (dn c 0) c))) $$ [H79 H88 H80]
  · isplitr; · iexact Hc
    isplitl [H79]; · iexact H79
    isplitl [H88]; · iexact H88
    iexact H80
  iintro %w2
  iintro ⟨H90, H91, H92, H93, H94⟩
  dsimp only
  iapply seq
  iapply (run15 P A K c v2 w2 8#32 (k0_pay66 (k0_pay65 (P c c) (P (dn c 0) c)) (P (dn c 1) c) (P (dn c 2) c))) $$ [H81 H93 H82]
  · isplitr; · iexact Hc
    isplitl [H81]; · iexact H81
    isplitl [H93]; · iexact H93
    iexact H82
  iintro %w3
  iintro ⟨H95, H96, H97, H98, H99⟩
  dsimp only
  iapply seq
  iapply (run16 P A K c v2 w3 8#32 (k0_pay67 (k0_pay66 (k0_pay65 (P c c) (P (dn c 0) c)) (P (dn c 1) c) (P (dn c 2) c)) (P (dn c 3) c) (P (dn c 4) c)) hA.symm) $$ [H83 H98 H84 H6]
  · isplitr; · iexact Hc
    isplitl [H83]; · iexact H83
    isplitl [H98]; · iexact H98
    isplitl [H84]; · iexact H84
    iexact H6
  iintro ⟨H100, H101, H102, H103, H104, H105⟩
  dsimp only
  iapply seq
  iapply (run17 P A K c v2 _ ((pay_sum _ _ _).trans hA.symm)) $$ [H7 H70 H103 H71 H73 H74]
  · isplitr; · iexact Hc
    isplitl [H7]; · iexact H7
    isplitl [H70]; · iexact H70
    isplitl [H103]; · iexact H103
    isplitl [H71]; · iexact H71
    isplitl [H73]; · iexact H73
    iexact H74
  iintro ⟨H106, H107, H108, H109, H110, H111, H112, H113, H114, H115⟩
  dsimp only
  ihave H105 := (Entails.of_eq (deal_sum c (A c))) $$ H105
  unfold seven
  icases H105 with ⟨H116, H117, H118, H119, H120, H121, H122⟩
  icases B2 with ⟨H123, H124, H125, H126, H127, H128, H129⟩
  iapply seq
  iapply (run18 P A K c v2) $$ [H75 H115 H76 H85 H116 H44 H123]
  · isplitr; · iexact Hc
    isplitl [H75]; · iexact H75
    isplitl [H115]; · iexact H115
    isplitl [H76]; · iexact H76
    isplitl [H85]; · iexact H85
    isplitl [H116]; · iexact H116
    isplitl [H44]; · iexact H44
    iexact H123
  iintro ⟨H130, H131, H132, H133, H134, H135, H136, H137⟩
  dsimp only
  iapply seq
  iapply (run19 P A K c v2) $$ [H117 H46 H124 H137 H118 H48 H125 H119 H50 H126 H120 H52 H127]
  · isplitr; · iexact Hc
    isplitl [H117]; · iexact H117
    isplitl [H46]; · iexact H46
    isplitl [H124]; · iexact H124
    isplitl [H137]; · iexact H137
    isplitl [H118]; · iexact H118
    isplitl [H48]; · iexact H48
    isplitl [H125]; · iexact H125
    isplitl [H119]; · iexact H119
    isplitl [H50]; · iexact H50
    isplitl [H126]; · iexact H126
    isplitl [H120]; · iexact H120
    isplitl [H52]; · iexact H52
    iexact H127
  iintro ⟨H138, H139, H140, H141, H142⟩
  dsimp only
  icases B4 with ⟨H143, H144, H145, H146, H147, H148, H149⟩
  iapply seq
  iapply (run20 P A K c v2) $$ [H121 H54 H128 H142 H122 H56 H129 H143]
  · isplitr; · iexact Hc
    isplitl [H121]; · iexact H121
    isplitl [H54]; · iexact H54
    isplitl [H128]; · iexact H128
    isplitl [H142]; · iexact H142
    isplitl [H122]; · iexact H122
    isplitl [H56]; · iexact H56
    isplitl [H129]; · iexact H129
    iexact H143
  iintro %w4
  iintro ⟨H150, H151, H152, H153, H154⟩
  dsimp only
  iapply seq
  iapply (run21 P A K c v2 w4) $$ [H144 H154 H145 H146]
  · isplitr; · iexact Hc
    isplitl [H144]; · iexact H144
    isplitl [H154]; · iexact H154
    isplitl [H145]; · iexact H145
    iexact H146
  iintro %w5
  iintro ⟨H155, H156, H157, H158, H159, H160, H161⟩
  dsimp only
  iapply seq
  iapply (run22 P A K c v2 w5) $$ [H147 H161 H148 H149]
  · isplitr; · iexact Hc
    isplitl [H147]; · iexact H147
    isplitl [H161]; · iexact H161
    isplitl [H148]; · iexact H148
    iexact H149
  iintro ⟨H162, H163, H164, H165, H166, H167, H168⟩
  dsimp only
  simp only [Prog.lift, Prog.bind_op, Prog.bind_ret, Prog.pure_eq_ret]
  iapply (wait_shared P A K c 0 (by decide) (sem_at2 (hp 0) rfl) credit_sum) $$ [H136 H168]
  · isplitr; · iexact Hc
    isplitl [H136]; · iexact H136
    iexact H168
  iintro ⟨H169, H170, H171⟩
  iapply (wait_shared P A K c 1 (by decide) (sem_at2 (hp 1) rfl) credit_sum) $$ [H138 H171]
  · isplitr; · iexact Hc
    isplitl [H138]; · iexact H138
    iexact H171
  iintro ⟨H172, H173, H174⟩
  iapply (wait_shared P A K c 2 (by decide) (sem_at2 (hp 2) rfl) credit_sum) $$ [H139 H174]
  · isplitr; · iexact Hc
    isplitl [H139]; · iexact H139
    iexact H174
  iintro ⟨H175, H176, H177⟩
  iapply (wait_shared P A K c 3 (by decide) (sem_at2 (hp 3) rfl) credit_sum) $$ [H140 H177]
  · isplitr; · iexact Hc
    isplitl [H140]; · iexact H140
    iexact H177
  iintro ⟨H178, H179, H180⟩
  iapply (wait_shared P A K c 4 (by decide) (sem_at2 (hp 4) rfl) credit_sum) $$ [H141 H180]
  · isplitr; · iexact Hc
    isplitl [H141]; · iexact H141
    iexact H180
  iintro ⟨H181, H182, H183⟩
  iapply (wait_shared P A K c 5 (by decide) (sem_at2 (hp 5) rfl) credit_sum) $$ [H150 H183]
  · isplitr; · iexact Hc
    isplitl [H150]; · iexact H150
    iexact H183
  iintro ⟨H184, H185, H186⟩
  rw [wp_ret]
  imodintro
  iapply Hk
  isplitl [H23 H22 H26 H27 H36 H86 H106 H20 H107 H109 H111 H113 H130 H132 H134 H89 H91 H94 H96 H99 H101 H104 H152 H155 H157 H159 H162 H164 H166 H108 H110 H112 H114 H131 H133 H135 H87 H90 H92 H95 H97 H100 H102 H153 H156 H158 H160 H163 H165 H167]
  · isplitl [H23]; · iexact H23
    isplitl [H22]; · iexact H22
    isplitl [H26]; · iexact H26
    isplitl [H27]; · iexact H27
    isplitl [H36]; · iexact H36
    isplitl [H86]; · iexact H86
    isplitl [H106]; · iexact H106
    isplitl [H20]; · iexact H20
    isplitl [H107 H109 H111 H113 H130 H132 H134]
    · isplitl [H107]; · iexact H107
      isplitl [H109]; · iexact H109
      isplitl [H111]; · iexact H111
      isplitl [H113]; · iexact H113
      isplitl [H130]; · iexact H130
      isplitl [H132]; · iexact H132
      iexact H134
    isplitl [H89 H91 H94 H96 H99 H101 H104]
    · isplitl [H89]; · iexact H89
      isplitl [H91]; · iexact H91
      isplitl [H94]; · iexact H94
      isplitl [H96]; · iexact H96
      isplitl [H99]; · iexact H99
      isplitl [H101]; · iexact H101
      iexact H104
    isplitl [H152 H155 H157 H159 H162 H164 H166]
    · isplitl [H152]; · iexact H152
      isplitl [H155]; · iexact H155
      isplitl [H157]; · iexact H157
      isplitl [H159]; · iexact H159
      isplitl [H162]; · iexact H162
      isplitl [H164]; · iexact H164
      iexact H166
    isplitl [H108 H110 H112 H114 H131 H133 H135]
    · isplitl [H108]; · iexact H108
      isplitl [H110]; · iexact H110
      isplitl [H112]; · iexact H112
      isplitl [H114]; · iexact H114
      isplitl [H131]; · iexact H131
      isplitl [H133]; · iexact H133
      iexact H135
    isplitl [H87 H90 H92 H95 H97 H100 H102]
    · isplitl [H87]; · iexact H87
      isplitl [H90]; · iexact H90
      isplitl [H92]; · iexact H92
      isplitl [H95]; · iexact H95
      isplitl [H97]; · iexact H97
      isplitl [H100]; · iexact H100
      iexact H102
    isplitl [H153]; · iexact H153
    isplitl [H156]; · iexact H156
    isplitl [H158]; · iexact H158
    isplitl [H160]; · iexact H160
    isplitl [H163]; · iexact H163
    isplitl [H165]; · iexact H165
    iexact H167
  isplitl [H169]; · iexact H169
  isplitl [H172]; · iexact H172
  isplitl [H175]; · iexact H175
  isplitl [H178]; · iexact H178
  isplitl [H181]; · iexact H181
  isplitl [H184]; · iexact H184
  isplitl [H170]; · iexact H170
  isplitl [H173]; · iexact H173
  isplitl [H176]; · iexact H176
  isplitl [H179]; · iexact H179
  isplitl [H182]; · iexact H182
  isplitl [H185]; · iexact H185
  isplitl [H151]; · iexact H151
  iexact H186

/-- The body. -/
theorem body (hP : ∀ j, P c j = I.chunk c j) (hA : A c = total P c) {Q : PUnit.{1} → sProp 𝕄} :
    iprop(ctx P A K c ∗ entry c I)
      ⊢ iprop((exit' P A c I -∗ Q ⟨⟩) -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [cc0_body_eq_skeleton]; unfold cc0_body_skel
  iintro ⟨#Hc, He⟩ Hk
  iapply seq
  iapply (run23 P A K c I hP hA) $$ [He]
  · isplitr; · iexact Hc
    iexact He
  iintro ⟨Hm, B0, B1, B2, B3, B4, B5, E0, E1, E2, E3, E4, E5, K6, HO⟩
  simp only [Prog.lift, Prog.bind_op, Prog.bind_ret, Prog.pure_eq_ret]
  iapply (wait_shared P A K c 6 (by decide) (sem_at2 (hp 6) rfl) credit_sum) $$ [K6 HO]
  · isplitr; · iexact Hc
    isplitl [K6]; · iexact K6
    iexact HO
  iintro ⟨B6, E6, HO⟩
  rw [wp_ret]
  imodintro
  iapply Hk
  unfold exit'
  isplitl [Hm]; · iexact Hm
  isplitl [B0 B1 B2 B3 B4 B5 B6]
  · rw [deal_sum]; unfold seven
    isplitl [B0]; · iexact B0
    isplitl [B1]; · iexact B1
    isplitl [B2]; · iexact B2
    isplitl [B3]; · iexact B3
    isplitl [B4]; · iexact B4
    isplitl [B5]; · iexact B5
    iexact B6
  isplitl [E0 E1 E2 E3 E4 E5 E6]
  · unfold seven
    isplitl [E0]; · iexact E0
    isplitl [E1]; · iexact E1
    isplitl [E2]; · iexact E2
    isplitl [E3]; · iexact E3
    isplitl [E4]; · iexact E4
    isplitl [E5]; · iexact E5
    iexact E6
  iexact HO

end Cert.Talk

end
-- ==== Proof.Slots.lean ====
/-
# The region's buffers and semaphores, slot by slot

The region's buffers are owned whole before and after the body, and slot by slot inside it; its semaphores are a family over
the kind and the slot, and in the body the one the device has no use for and the seven of the hops.
-/
module

public import proofs.«01_k».proof.Proof.Body

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The seven hops -/

/-- Seven pairs are seven firsts and seven seconds. -/
theorem seven_sep (Φ Ψ : ℕ → sProp 𝕄) : seven (fun k => iprop(Φ k ∗ Ψ k)) = iprop(seven Φ ∗ seven Ψ) := by
  rw [seven_eq, seven_eq, seven_eq]; exact bigSep_sep' _ _ _
/-- One step for each of seven. -/
theorem seven_mono {Φ Ψ : ℕ → sProp 𝕄} (h : ∀ k, Φ k ⊢ Ψ k) : seven Φ ⊢ seven Ψ := by
  rw [seven_eq, seven_eq]; exact bigSep_mono fun k _ => h k

/-- A family over the devices is the device's own member and the seven of the hops upwards, -/
theorem all_up (c : Dev nD) (Φ : Dev nD → sProp 𝕄) : bigSep (Finset.univ : Finset (Dev nD)) Φ = iprop(Φ c ∗ seven fun k => Φ (up c k)) := by
  rw [BI.bigSep_erase (Finset.mem_univ c), bigSep_up, seven_eq]; rfl
/-- or downwards; -/
theorem all_dn (c : Dev nD) (Φ : Dev nD → sProp 𝕄) : bigSep (Finset.univ : Finset (Dev nD)) Φ = iprop(Φ c ∗ seven fun k => Φ (dn c k)) := by
  rw [BI.bigSep_erase (Finset.mem_univ c), bigSep_dn, seven_eq]; rfl
/-- a family over the copies of the sum is the unused member and the seven. -/
theorem all_hp (Φ : Fin 8 → sProp 𝕄) : bigSep (Finset.univ : Finset (Fin 8)) Φ = iprop(Φ 0 ∗ seven fun k => Φ (hp k)) := by
  rw [BI.bigSep_erase (Finset.mem_univ 0), bigSep_hp, seven_eq]; rfl

/-- A family of four, written out. -/
theorem all_four (Φ : Fin 4 → sProp 𝕄) : bigSep (Finset.univ : Finset (Fin 4)) Φ = iprop(Φ 0 ∗ Φ 1 ∗ Φ 2 ∗ Φ 3) :=
  bigSep_univ_eq_bigSepL [0, 1, 2, 3] (by decide) (by decide) Φ

/-- A family over the copies' semaphores, kind by kind. -/
theorem all_cells (c : Dev nD) (Φ : Fin 4 × Fin 8 → sProp 𝕄) :
    bigSep (Finset.univ : Finset (Fin 4 × Fin 8)) Φ = iprop((Φ (0, c) ∗ seven fun k => Φ (0, up c k)) ∗ (Φ (1, c) ∗ seven fun k => Φ (1, dn c k))
      ∗ (Φ (2, 0) ∗ seven fun k => Φ (2, hp k)) ∗ (Φ (3, c) ∗ seven fun k => Φ (3, dn c k))) := by
  rw [bigSep_univ_prod, all_four, all_up c fun j => Φ (0, j), all_dn c fun j => Φ (1, j), all_hp fun j => Φ (2, j), all_dn c fun j => Φ (3, j)]

/-! ## Slots -/

/-- Different slots have nothing in common, -/
theorem slotR_disjoint (t t' : Fin 8) (h : t ≠ t') : Disjoint (slotR t).set (slotR t').set :=
  Rect.disjoint_of_axis _ _ (0 : Fin 3) fun j₁ (h₁ : j₁ < 1) j₂ (h₂ : j₂ < 1) e => h (Fin.ext (by
    have : t.val + 1 * j₁ = t'.val + 1 * j₂ := e; omega))
/-- nor have the rows of different chunks. -/
theorem rowsR_disjoint (t t' : Fin 8) (h : t ≠ t') : Disjoint (rowsR t).set (rowsR t').set :=
  Rect.disjoint_of_axis _ _ (0 : Fin 2) fun j₁ (h₁ : j₁ < 64) j₂ (h₂ : j₂ < 64) e => h (Fin.ext (by
    have : 64 * t.val + 1 * j₁ = 64 * t'.val + 1 * j₂ := e; omega))
/-- The slots are the whole buffer, -/
theorem slotR_cover : (Finset.univ : Finset (Fin 8)).biUnion (fun t => (slotR t).set) = Finset.univ := by
  refine Finset.eq_univ_of_forall fun i => Finset.mem_biUnion.mpr ⟨⟨(i 0).val, (i 0).isLt⟩, Finset.mem_univ _, ?_⟩
  rw [Rect.mem_set_unit]
  intro a
  fin_cases a
  · exact ⟨le_refl _, Nat.lt_succ_self _⟩
  · exact ⟨Nat.zero_le _, by have := (i 1).isLt; exact (Nat.zero_add _).symm ▸ this⟩
  · exact ⟨Nat.zero_le _, by have := (i 2).isLt; exact (Nat.zero_add _).symm ▸ this⟩
/-- and the rows the whole result. -/
theorem rowsR_cover : (Finset.univ : Finset (Fin 8)).biUnion (fun t => (rowsR t).set) = Finset.univ := by
  refine Finset.eq_univ_of_forall fun i => ?_
  have hi : (i 0).val < 512 := (i 0).isLt
  refine Finset.mem_biUnion.mpr ⟨⟨(i 0).val / 64, by omega⟩, Finset.mem_univ _, ?_⟩
  rw [Rect.mem_set_unit]
  intro a
  fin_cases a
  · exact ⟨show 64 * ((i 0).val / 64) ≤ (i 0).val by omega, show (i 0).val < 64 * ((i 0).val / 64) + 64 by omega⟩
  · exact ⟨Nat.zero_le _, by have := (i 1).isLt; exact (Nat.zero_add _).symm ▸ this⟩

section
variable (c : Dev nD) {sp : Space} {sh : Shape} {e : EltTy} (m : Memref sig .tc sp sh e) (r : Fin 8 → Rect sh)
  (hr : ∀ t a, (r t).stride a = 1) (hd : ∀ t t', t ≠ t' → Disjoint (r t).set (r t').set)
  (hcov : (Finset.univ : Finset (Fin 8)).biUnion (fun t => (r t).set) = Finset.univ)
include hd hcov

/-- A buffer owned whole is owned slot by slot. -/
theorem split_slots : iprop(∃ v, owns (c : Thread nD τ) m fullShare v) ⊢
    (bigSep (Finset.univ : Finset (Fin 8)) fun j => iprop(∃ v, owns (c : Thread nD τ) (m.slice (r j) (hr j)) fullShare v) : sProp 𝕄) := by
  iintro ⟨%v, H⟩
  iapply (show (owns (c : Thread nD τ) m fullShare v : sProp 𝕄) ⊢ bigSep (Finset.univ : Finset (Fin 8)) fun j => iprop(∃ v, owns (c : Thread nD τ) (m.slice (r j) (hr j)) fullShare v) from
    (owns_rects (c : Thread nD τ) m fullShare r hr hd hcov v).trans (bigSep_mono fun j _ => by refine (show iprop(owns (c : Thread nD τ) (m.slice (r j) (hr j)) fullShare _) ⊢ iprop(∃ v, owns (c : Thread nD τ) (m.slice (r j) (hr j)) fullShare v) from ?_); iintro H; iexists _; iexact H))
  iexact H

/-- and gathered, the slots' contents glued. -/
theorem glue_slots (X : (t : Fin 8) → (r t).shape.Idx → Elt F e) :
    bigSep (Finset.univ : Finset (Fin 8)) (fun j => (owns (c : Thread nD τ) (m.slice (r j) (hr j)) fullShare (X j) : sProp 𝕄))
      ⊢ owns (c : Thread nD τ) m fullShare (Rect.glue r hcov X) := by
  refine Entails.trans (Entails.of_eq ?_) (owns_of_rects (c : Thread nD τ) m fullShare r hr hd hcov (Rect.glue r hcov X))
  refine bigSep_congr fun j _ => ?_
  rw [show (fun y => Rect.glue r hcov X ((r j).emb y)) = X j from funext fun y => Rect.glue_emb r hcov hd X j y]

/-- The eight pieces of a buffer, whatever they hold, make the buffer. -/
theorem join_slots : bigSep (Finset.univ : Finset (Fin 8)) (fun j => iprop(∃ v, owns (c : Thread nD τ) (m.slice (r j) (hr j)) fullShare v))
      ⊢ (iprop(∃ v, owns (c : Thread nD τ) m fullShare v) : sProp 𝕄) := by
  refine (BI.bigSep_exists_pi (Finset.univ : Finset (Fin 8)) (fun t X => (owns (c : Thread nD τ) (m.slice (r t) (hr t)) fullShare X : sProp 𝕄))).trans ?_
  iintro ⟨%Xs, H⟩
  iexists _
  iapply (glue_slots c m r hr hd hcov Xs)
  iexact H

end

end Cert.Talk

end
-- ==== Proof.Whole.lean ====
/-
# The body on whole buffers

The body's run, stated on what the region hands over and takes back: the buffers whole, every semaphore of the region at a
position before, at zero after.
-/
module

public import proofs.«01_k».proof.Proof.Slots

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Part F) (A : Sum F) (K : GSem nD τ sig → ℕ) (c : Dev nD) (I : Ins F)

/-- The right to pay each of the device's own duties. -/
def toks : sProp 𝕄 := iprop(seven (fun k => dutyTok ER (barCell (up c k)) 0 c) ∗ seven (fun k => dutyTok ER (dcell 0 (up c k) c) 0 0)
  ∗ seven (fun k => dutyTok ER (dcell 1 c (up c k)) 0 0) ∗ seven (fun k => dutyTok ER (dcell 2 (hp k) c) 0 0) ∗ seven (fun k => dutyTok ER (dcell 3 c (up c k)) 0 0))
/-- What is owed to the device when it starts. -/
def dues : sProp 𝕄 := iprop(cred (tallyAt (barCell c) () 7) ∗ seven (fun k => cred (tallyAt (dcell 1 (dn c k) c) () N)) ∗ seven (fun k => cred (tallyAt (dcell 3 (dn c k) c) () N)))
/-- The device's position at each of its copies' semaphores. -/
def places : sProp 𝕄 := bigSep (Finset.univ : Finset (Fin 4 × Fin 8)) fun kj => atPos ER (dcell kj.1 kj.2 c) 0 ∅ 0
/-- The semaphores at zero. -/
def zeros : sProp 𝕄 := bigSep (Finset.univ : Finset (Fin 4 × Fin 8)) fun kj => semVal (dcell kj.1 kj.2 c) 0
/-- The protocol's resources of the device, before its body runs. -/
def opened : sProp 𝕄 := iprop(toks c ∗ dues c ∗ atPos ER (barCell c) 0 ∅ 0 ∗ places c)
/-- The region's own buffers, at contents not chosen. -/
def scratch : sProp 𝕄 := iprop((∃ v, owns (c : Thread nD τ) sendM fullShare v) ∗ (∃ v, owns (c : Thread nD τ) recvM fullShare v) ∗ (∃ v, owns (c : Thread nD τ) bcM fullShare v))
/-- The staged operands. -/
def staged : sProp 𝕄 := iprop(owns (c : Thread nD τ) (Memref.whole cc0_stg0_0) fullShare I.x ∗ owns (c : Thread nD τ) (Memref.whole cc0_stg1_0) fullShare I.wq
  ∗ owns (c : Thread nD τ) (Memref.whole cc0_stg2_0) fullShare I.k ∗ owns (c : Thread nD τ) (Memref.whole cc0_stg3_0) fullShare I.v ∗ owns (c : Thread nD τ) (Memref.whole cc0_stg4_0) fullShare I.wo)
/-- What the body leaves alone: the device's own slot of the receive buffer, and the four semaphores no copy uses. -/
def idle : sProp 𝕄 := iprop((∃ v, owns (c : Thread nD τ) (recvSl c) fullShare v) ∗ atPos ER (dcell 0 c c) 0 ∅ 0 ∗ atPos ER (dcell 1 c c) 0 ∅ 0
  ∗ atPos ER (dcell 2 0 c) 0 ∅ 0 ∗ atPos ER (dcell 3 c c) 0 ∅ 0)

/-- The rows every device ends with. -/
def gathered : S512x512.Idx → Elt F .bf16 := Rect.glue rowsR rowsR_cover A

/-- The result splits into the own rows and those of the seven others, -/
theorem split_out : iprop(∃ v, owns (c : Thread nD τ) outM fullShare v)
    ⊢ (iprop((∃ v, owns (c : Thread nD τ) (outSl c) fullShare v) ∗ seven fun k => iprop(∃ v, owns (c : Thread nD τ) (outSl (up c k)) fullShare v)) : sProp 𝕄) :=
  (split_slots c outM rowsR (fun _ _ => rfl) rowsR_disjoint rowsR_cover).trans (Entails.of_eq (all_up c fun j => iprop(∃ v, owns (c : Thread nD τ) (outSl j) fullShare v)))
/-- the receive buffer into the own slot and seven others, -/
theorem split_recv : iprop(∃ v, owns (c : Thread nD τ) recvM fullShare v)
    ⊢ (iprop((∃ v, owns (c : Thread nD τ) (recvSl c) fullShare v) ∗ seven fun k => iprop(∃ v, owns (c : Thread nD τ) (recvSl (up c k)) fullShare v)) : sProp 𝕄) :=
  (split_slots c recvM slotR (fun _ _ => rfl) slotR_disjoint slotR_cover).trans (Entails.of_eq (all_up c fun j => iprop(∃ v, owns (c : Thread nD τ) (recvSl j) fullShare v)))
/-- and the send buffer into its eight slots. -/
theorem split_send : iprop(∃ v, owns (c : Thread nD τ) sendM fullShare v)
    ⊢ (iprop((∃ v, owns (c : Thread nD τ) (sendSl 0) fullShare v) ∗ (∃ v, owns (c : Thread nD τ) (sendSl 1) fullShare v) ∗ (∃ v, owns (c : Thread nD τ) (sendSl 2) fullShare v) ∗ (∃ v, owns (c : Thread nD τ) (sendSl 3) fullShare v) ∗ (∃ v, owns (c : Thread nD τ) (sendSl 4) fullShare v) ∗ (∃ v, owns (c : Thread nD τ) (sendSl 5) fullShare v) ∗ (∃ v, owns (c : Thread nD τ) (sendSl 6) fullShare v) ∗ (∃ v, owns (c : Thread nD τ) (sendSl 7) fullShare v)) : sProp 𝕄) :=
  (split_slots c sendM slotR (fun _ _ => rfl) slotR_disjoint slotR_cover).trans
    (Entails.of_eq (bigSep_univ_eq_bigSepL [0, 1, 2, 3, 4, 5, 6, 7] (by decide) (by decide) fun j => iprop(∃ v, owns (c : Thread nD τ) (sendSl j) fullShare v)))

/-- The own rows and the seven that landed make the whole result. -/
theorem join_out : iprop(owns (c : Thread nD τ) (outSl c) fullShare (A c) ∗ seven fun k => owns (c : Thread nD τ) (outSl (dn c k)) fullShare (A (dn c k)))
    ⊢ (owns (c : Thread nD τ) outM fullShare (gathered A) : sProp 𝕄) :=
  (Entails.of_eq (all_dn c fun j => owns (c : Thread nD τ) (outSl j) fullShare (A j)).symm).trans
    (glue_slots c outM rowsR (fun _ _ => rfl) rowsR_disjoint rowsR_cover A)
/-- The receive buffer comes together again, -/
theorem join_recv : (iprop((∃ v, owns (c : Thread nD τ) (recvSl c) fullShare v) ∗ seven fun k => iprop(∃ v, owns (c : Thread nD τ) (recvSl (dn c k)) fullShare v)) : sProp 𝕄)
    ⊢ iprop(∃ v, owns (c : Thread nD τ) recvM fullShare v) :=
  (Entails.of_eq (all_dn c fun j => iprop(∃ v, owns (c : Thread nD τ) (recvSl j) fullShare v)).symm).trans
    (join_slots c recvM slotR (fun _ _ => rfl) slotR_disjoint slotR_cover)
/-- and so does the send buffer. -/
theorem join_send : (iprop((∃ v, owns (c : Thread nD τ) (sendSl c) fullShare v) ∗ seven fun k => iprop(∃ v, owns (c : Thread nD τ) (sendSl (up c k)) fullShare v)) : sProp 𝕄)
    ⊢ iprop(∃ v, owns (c : Thread nD τ) sendM fullShare v) :=
  (Entails.of_eq (all_up c fun j => iprop(∃ v, owns (c : Thread nD τ) (sendSl j) fullShare v)).symm).trans
    (join_slots c sendM slotR (fun _ _ => rfl) slotR_disjoint slotR_cover)

/-- What the seven signals need, -/
theorem sigR_intro : iprop(seven (fun k => dutyTok ER (barCell (up c k)) 0 c) ∗ (seven fun k => iprop(∃ v, owns (c : Thread nD τ) (recvSl (up c k)) fullShare v))
      ∗ seven fun k => iprop(∃ v, owns (c : Thread nD τ) (outSl (up c k)) fullShare v)) ⊢ (seven (fun k => sigR c k) : sProp 𝕄) := by
  rw [← seven_sep, ← seven_sep]; exact .rfl
/-- what the seven copies of the first exchange need, -/
theorem d1_intro : iprop(seven (fun k => dutyTok ER (dcell 0 (up c k) c) 0 0) ∗ seven (fun k => dutyTok ER (dcell 1 c (up c k)) 0 0)
      ∗ seven fun k => atPos ER (dcell 0 (up c k) c) 0 ∅ 0) ⊢ (seven (fun k => d1 c k) : sProp 𝕄) := by
  rw [← seven_sep, ← seven_sep]; exact .rfl
/-- what those of the second need, -/
theorem d2_intro : iprop(seven (fun k => dutyTok ER (dcell 2 (hp k) c) 0 0) ∗ seven (fun k => dutyTok ER (dcell 3 c (up c k)) 0 0)
      ∗ seven fun k => atPos ER (dcell 2 (hp k) c) 0 ∅ 0) ⊢ (seven (fun k => d2 c k) : sProp 𝕄) := by
  rw [← seven_sep, ← seven_sep]; exact .rfl
/-- and what seven waits need, sorted by peer. -/
theorem tk_intro (κ : Fin 4) : iprop(seven (fun k => cred (tallyAt (dcell κ (dn c k) c) () N)) ∗ seven fun k => atPos ER (dcell κ (dn c k) c) 0 ∅ 0)
    ⊢ (seven (fun k => tk c κ (dn c k)) : sProp 𝕄) := by
  rw [← seven_sep]; exact .rfl

/-- What the region hands over is what the body starts from, and what it leaves alone. -/
theorem enter : iprop(opened c ∗ scratch c ∗ staged c I ∗ (∃ v, owns (c : Thread nD τ) outM fullShare v) ∗ ow c 21) ⊢ (iprop(entry c I ∗ idle c) : sProp 𝕄) := by
  unfold opened scratch staged entry idle toks dues places
  rw [all_cells c]
  iintro ⟨⟨⟨HtB, Ht0, Ht1, Ht2, Ht3⟩, ⟨HcB, Hc1, Hc3⟩, HaB, ⟨⟨Ha0c, Ha0⟩, ⟨Ha1c, Ha1⟩, ⟨Ha2c, Ha2⟩, Ha3c, Ha3⟩⟩, ⟨Hs, Hr, Hb⟩, ⟨Hx, Hwq, Hk, Hv, Hwo⟩, Ho, HO⟩
  ihave Hs := (split_send (F := F) c) $$ Hs
  ihave Hr := (split_recv (F := F) c) $$ Hr
  icases Hr with ⟨Hrc, Hr⟩
  ihave Ho := (split_out (F := F) c) $$ Ho
  icases Ho with ⟨Hoc, Ho⟩
  isplitr [Hrc Ha0c Ha1c Ha2c Ha3c]
  · isplitl [Hx]; · iexact Hx
    isplitl [Hwq]; · iexact Hwq
    isplitl [Hk]; · iexact Hk
    isplitl [Hv]; · iexact Hv
    isplitl [Hwo]; · iexact Hwo
    isplitl [Hb]; · iexact Hb
    isplitl [Hoc]; · iexact Hoc
    isplitl [HO]; · iexact HO
    isplitl [HcB]; · iexact HcB
    isplitl [HaB]; · iexact HaB
    isplitl [HtB Hr Ho]
    · iapply (sigR_intro (F := F) c)
      isplitl [HtB]; · iexact HtB
      isplitl [Hr] <;> iassumption
    isplitl [Ht0 Ht1 Ha0]
    · iapply (d1_intro (F := F) c)
      isplitl [Ht0]; · iexact Ht0
      isplitl [Ht1] <;> iassumption
    isplitl [Ht2 Ht3 Ha2]
    · iapply (d2_intro (F := F) c)
      isplitl [Ht2]; · iexact Ht2
      isplitl [Ht3] <;> iassumption
    isplitl [Hc1 Ha1]
    · iapply (tk_intro (F := F) c 1)
      isplitl [Hc1] <;> iassumption
    isplitl [Hc3 Ha3]
    · iapply (tk_intro (F := F) c 3)
      isplitl [Hc3] <;> iassumption
    iexact Hs
  · isplitl [Hrc]; · iexact Hrc
    isplitl [Ha0c]; · iexact Ha0c
    isplitl [Ha1c]; · iexact Ha1c
    isplitl [Ha2c]; · iexact Ha2c
    iexact Ha3c

/-! ## Every semaphore closed -/

/-- A copy semaphore with nothing more to come reads zero. -/
theorem close_dcell (κ : Fin 4) (j : Fin 8) (r : ℕ) (h : ∀ r', r ≤ r' → (rd P A).duties (dcell κ j c) r' = ∅) :
    iprop(ctx P A K c ∗ atPos ER (dcell κ j c) r ∅ 0) ⊢ (|={Set.univ}=> semVal (dcell κ j c) 0 : sProp 𝕄) := by
  iintro ⟨#Hc, Ha⟩
  iapply (Rounds.cell_close ER (rd P A) (Set.mem_univ (K (dcell κ j c))) id h)
  isplitr; · iapply (ctx_inv P A K c κ j c); iexact Hc
  iexact Ha

/-- A semaphore with no duty is closed where it was opened, -/
theorem close_idle (κ : Fin 4) (j : Fin 8) (h : dmaDuty κ.val j c = ∅) :
    iprop(ctx P A K c ∗ atPos ER (dcell κ j c) 0 ∅ 0) ⊢ (|={Set.univ}=> semVal (dcell κ j c) 0 : sProp 𝕄) :=
  close_dcell P A K c κ j 0 fun r _ => by
    rcases Nat.eq_zero_or_pos r with rfl | hr
    · rw [duties_dcell, h]
    · exact duties_later P A _ r hr
/-- and each of the hops' after its round. -/
theorem close_seven (κ : Fin 4) (f : ℕ → Fin 8) :
    iprop(ctx P A K c ∗ seven fun k => fin c κ (f k)) ⊢ (|={Set.univ}=> seven (fun k => semVal (dcell κ (f k) c) 0) : sProp 𝕄) := by
  rw [seven_eq, seven_eq]
  refine BIBase.Entails.trans ?_ (bigSep_fupd _ _)
  exact bigSep_with_persistent fun k _ => close_dcell P A K c κ (f k) 1 (duties_later P A _)

/-- What the body ends with, and what it left alone, is what the region takes back. -/
theorem leave : iprop(ctx P A K c ∗ exit' P A c I ∗ idle c)
    ⊢ (|={Set.univ}=> iprop(staged c I ∗ owns (c : Thread nD τ) outM fullShare (gathered A) ∗ scratch c ∗ zeros c ∗ semVal (barCell c) 0 ∗ ow c 0) : sProp 𝕄) := by
  unfold exit' most idle staged scratch zeros
  rw [all_cells c]
  iintro ⟨#Hc, ⟨⟨Hx, Hwq, Hk, Hv, Hwo, Hsc, Hoc, HaB, Hs, Hr, Ho, F0, F1, F3⟩, Hb, F2, HO⟩, Hrc, I0, I1, I2, I3⟩
  imod (close_seven P A K c 0 (up c)) $$ [F0] with F0
  · isplitr; · iexact Hc
    iexact F0
  imod (close_seven P A K c 1 (dn c)) $$ [F1] with F1
  · isplitr; · iexact Hc
    iexact F1
  imod (close_seven P A K c 2 hp) $$ [F2] with F2
  · isplitr; · iexact Hc
    iexact F2
  imod (close_seven P A K c 3 (dn c)) $$ [F3] with F3
  · isplitr; · iexact Hc
    iexact F3
  imod (close_idle P A K c 0 c (if_pos rfl)) $$ [I0] with I0
  · isplitr; · iexact Hc
    iexact I0
  imod (close_idle P A K c 1 c (if_pos rfl)) $$ [I1] with I1
  · isplitr; · iexact Hc
    iexact I1
  imod (close_idle P A K c 2 0 (if_pos rfl)) $$ [I2] with I2
  · isplitr; · iexact Hc
    iexact I2
  imod (close_idle P A K c 3 c (if_pos rfl)) $$ [I3] with I3
  · isplitr; · iexact Hc
    iexact I3
  imod (Rounds.cell_close ER (rd P A) (g := barCell c) (Set.mem_univ (K (barCell c))) id (duties_later P A _)) $$ [HaB] with HaB
  · isplitr; · iapply (ctx_inv_bar P A K c c); iexact Hc
    iexact HaB
  imodintro
  isplitl [Hx Hwq Hk Hv Hwo]
  · isplitl [Hx]; · iexact Hx
    isplitl [Hwq]; · iexact Hwq
    isplitl [Hk]; · iexact Hk
    isplitl [Hv]; · iexact Hv
    iexact Hwo
  isplitl [Hoc Ho]
  · iapply (join_out A c)
    isplitl [Hoc] <;> iassumption
  isplitl [Hsc Hs Hrc Hr Hb]
  · isplitl [Hsc Hs]
    · iapply (join_send (F := F) c)
      isplitl [Hsc]; · iexists _; iexact Hsc
      iexact Hs
    isplitl [Hrc Hr]
    · iapply (join_recv (F := F) c)
      isplitl [Hrc]; · iexact Hrc
      iapply (seven_mono (Φ := fun k => owns (c : Thread nD τ) (recvSl (dn c k)) fullShare (P (dn c k) c)) fun k => by
        refine (show iprop(owns (c : Thread nD τ) (recvSl (dn c k)) fullShare (P (dn c k) c)) ⊢ iprop(∃ v, owns (c : Thread nD τ) (recvSl (dn c k)) fullShare v) from ?_)
        iintro H; iexists _; iexact H)
      iexact Hr
    iexists _; iexact Hb
  isplitl [F0 I0 F1 I1 F2 I2 F3 I3]
  · isplitl [F0 I0]; · isplitl [I0] <;> iassumption
    isplitl [F1 I1]; · isplitl [I1] <;> iassumption
    isplitl [F2 I2]; · isplitl [I2] <;> iassumption
    isplitl [I3] <;> iassumption
  isplitl [HaB]; · iexact HaB
  iexact HO

/-- **The body on whole buffers.** -/
theorem whole (hP : ∀ j, P c j = I.chunk c j) (hA : A c = total P c) {Q : PUnit → sProp 𝕄} :
    iprop(ctx P A K c ∗ opened c ∗ scratch c ∗ staged c I ∗ (∃ v, owns (c : Thread nD τ) outM fullShare v) ∗ ow c 21)
      ⊢ iprop(((staged c I ∗ owns (c : Thread nD τ) outM fullShare (gathered A) ∗ scratch c ∗ zeros c ∗ semVal (barCell c) 0 ∗ ow c 0) -∗ Q ⟨⟩)
        -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  iintro ⟨#Hc, H⟩ Hk
  ihave H := (enter c I) $$ H
  icases H with ⟨He, Hi⟩
  iapply (wp_fupd _ _ _ _)
  iapply (body P A K c I hP hA (Q := fun a => iprop(|={Set.univ}=> Q a))) $$ [He]
  · isplitr; · iexact Hc
    iexact He
  iintro Hx
  imod (leave P A K c I) $$ [Hx Hi] with H
  · isplitr; · iexact Hc
    isplitl [Hx] <;> iassumption
  imodintro
  iapply Hk
  iexact H

end Cert.Talk

end
-- ==== Proof.Region.lean ====
/-
# The region

The region's proof data: what its arrays hold, what its body starts from and leaves, and the body's run at its one point.
-/
module

public import proofs.«01_k».proof.Proof.Whole
public import proofs.«01_k».proof.Proof.Gen.KernelIdeal.Frame
public import proofs.«01_k».proof.Proof.Gen.KernelIdeal.Points
public import Idealize.ShloMosaic.Lib.Pipeline.RegionTalk
public import Idealize.ShloMosaic.Lib.Pipeline.Value
public import Idealize.ShloMosaic.Lib.Pipeline.ValueKit.Geometry

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

/-- The operands of device `c`'s region, -/
def J (c : Dev nD) : Ins F := ⟨V m c main_v3, V m c main_arg1, V m c main_v1, V m c main_v2, V m c main_arg4⟩
/-- its partial products for each device, -/
def Pm : Part F := part (J m)
/-- and the sum each device makes. -/
def Am : Sum F := total (Pm m)

/-- What the launch gave a device for its region, -/
def Tk (c : Dev nD) : sProp 𝕄 := iprop(∃ K, records (Pm m) (Am m) K ∗ toks c ∗ dues c ∗ atPos ER (barCell c) 0 ∅ 0
  ∗ bigSep (Finset.univ : Finset (Fin 4 × Fin 8)) fun kj => openTok ER (dcell kj.1 kj.2 c))
/-- with the region's semaphores opened, -/
def Xk (c : Dev nD) : sProp 𝕄 := iprop(∃ K, ctx (Pm m) (Am m) K c ∗ opened c)
/-- and what is left of it. -/
def Yk (c : Dev nD) : sProp 𝕄 := semVal (barCell c) 0

/-- The call's own semaphores: four kinds of eight. -/
abbrev osem : Fin 4 × Fin 8 → SemLoc sig := fun kj => .dma (dsm kj.1 kj.2)

/-- The data: the arrays as the operations before the region left them, the operands unchanged, the result's rows. -/
def dat (c : Dev nD) : Dat τ (Elt F) Unit ℕ UU ℕ cfg0 c where
  A w := V m c (arrRef spec0 w)
  after w _ := match w with
    | ⟨0, _⟩ => (J m c).x
    | ⟨1, _⟩ => (J m c).wq
    | ⟨2, _⟩ => (J m c).k
    | ⟨3, _⟩ => (J m c).v
    | ⟨4, _⟩ => (J m c).wo
    | ⟨5, _⟩ => gathered (Am m)
  Φ t := if t.val = 0 then iprop(Xk m c ∗ scratch c ∗ ∃ r, prngReg c r)
    else iprop(scratch c ∗ (∃ r, prngReg c r) ∗ zeros c ∗ semVal (barCell c) 0)
  q _ := fullShare
  owed t := if t.val = 0 then owe c 21 else 0

/-- The call's pipeline is admissible. -/
abbrev adm : (p : Fin 1) → (pcfgs (F := F) p).Adm := fun p => (cfgs p).toPCfg_adm
/-- The call's data, as a family of one call. -/
def pdats : (p : Fin 1) → (c : Dev nD) → Dat τ (Elt F) Unit ℕ UU ℕ (Pipeline.pin (pcfgs (F := F)) adm p) c
  | ⟨0, _⟩ => fun c => dat m c

/-- What the body starts from: the launch's share, the scratch memory and the random register. -/
theorem Φ_first (c : Dev nD) : (dat m c).Φ t0_0.castSucc = iprop(Xk m c ∗ scratch c ∗ ∃ r, prngReg c r) := by
  show (if (t0_0.castSucc : Fin (cfg0.N + 1)).val = 0 then iprop(Xk m c ∗ scratch c ∗ ∃ r, prngReg c r) else iprop(scratch c ∗ (∃ r, prngReg c r) ∗ zeros c ∗ semVal (barCell c) 0)) = _; exact if_pos rfl
/-- What the body ends with: the scratch memory, the random register, and every semaphore at zero. -/
theorem Φ_last (c : Dev nD) : (dat m c).Φ (Fin.last cfg0.N) = iprop(scratch c ∗ (∃ r, prngReg c r) ∗ zeros c ∗ semVal (barCell c) 0) := by
  show (if (Fin.last cfg0.N).val = 0 then iprop(Xk m c ∗ scratch c ∗ ∃ r, prngReg c r) else iprop(scratch c ∗ (∃ r, prngReg c r) ∗ zeros c ∗ semVal (barCell c) 0)) = _
  rw [Fin.val_last, if_neg (by rw [show cfg0.N = 1 from N_0]; decide)]
/-- At the start all 21 payments are owed, -/
theorem owed_first (c : Dev nD) : (dat m c).owed t0_0.castSucc = owe c 21 := by
  show (if (t0_0.castSucc : Fin (cfg0.N + 1)).val = 0 then owe c 21 else 0) = _; exact if_pos rfl
/-- and at the end none. -/
theorem owed_last (c : Dev nD) : (dat m c).owed (Fin.last cfg0.N) = 0 := by
  show (if (Fin.last cfg0.N).val = 0 then owe c 21 else 0) = _
  rw [Fin.val_last, if_neg (by rw [show cfg0.N = 1 from N_0]; decide)]
/-- The one grid point is the last. -/
theorem succ_last : t0_0.succ = Fin.last cfg0.N := Fin.ext (by rw [Fin.val_last, show cfg0.N = 1 from N_0]; rfl)

/-- The debt at the start, in the call's form, is the debt of 21 payments, -/
theorem owesAt_elim (c : Dev nD) : ((dat m c).owesAt () t0_0.castSucc : sProp 𝕄) ⊢ ow c 21 := by
  unfold Dat.owesAt Pipeline.owesWithin ow; rw [owed_first]
  iintro ⟨%W, -, HO⟩; iexists W; iexact HO
/-- and having paid all of them is the debt at the end in the call's form. -/
theorem owesAt_intro (c : Dev nD) : (ow c 0 : sProp 𝕄) ⊢ (dat m c).owesAt () (Fin.last cfg0.N) := by
  unfold Dat.owesAt Pipeline.owesWithin Dat.bound ow; rw [owed_last]
  iintro ⟨%W, HO⟩; iexists W
  isplitr; · ipureintro; exact fun _ _ => Or.inl trivial
  iexact HO

/-! Each operand's staging buffer holds its array. -/

/-- The first window shows the hidden states, -/
theorem before_0 (c : Dev nD) (d) : (dat m c).before (0 : Fin 6) t0_0 d = (J m c).x := by
  rw [Dat.before_fetched _ _ _ (fetch0_0 _)]
  funext y
  show V m c main_v3 _ = V m c main_v3 y
  exact congrArg _ (funext fun a => Fin.ext (Window.rect_emb_val_of_index_zero (cfg0.win (0 : Fin 6)) t0_0 a rfl y))
/-- the second the query weights, -/
theorem before_1 (c : Dev nD) (d) : (dat m c).before (1 : Fin 6) t0_0 d = (J m c).wq := by
  rw [Dat.before_fetched _ _ _ (fetch0_1 _)]
  funext y
  show V m c main_arg1 _ = V m c main_arg1 y
  exact congrArg _ (funext fun a => Fin.ext (Window.rect_emb_val_of_index_zero (cfg0.win (1 : Fin 6)) t0_0 a rfl y))
/-- the third the keys, -/
theorem before_2 (c : Dev nD) (d) : (dat m c).before (2 : Fin 6) t0_0 d = (J m c).k := by
  rw [Dat.before_fetched _ _ _ (fetch0_2 _)]
  funext y
  show V m c main_v1 _ = V m c main_v1 y
  exact congrArg _ (funext fun a => Fin.ext (Window.rect_emb_val_of_index_zero (cfg0.win (2 : Fin 6)) t0_0 a rfl y))
/-- the fourth the values, -/
theorem before_3 (c : Dev nD) (d) : (dat m c).before (3 : Fin 6) t0_0 d = (J m c).v := by
  rw [Dat.before_fetched _ _ _ (fetch0_3 _)]
  funext y
  show V m c main_v2 _ = V m c main_v2 y
  exact congrArg _ (funext fun a => Fin.ext (Window.rect_emb_val_of_index_zero (cfg0.win (3 : Fin 6)) t0_0 a rfl y))
/-- and the fifth the output weights. -/
theorem before_4 (c : Dev nD) (d) : (dat m c).before (4 : Fin 6) t0_0 d = (J m c).wo := by
  rw [Dat.before_fetched _ _ _ (fetch0_4 _)]
  funext y
  show V m c main_arg4 _ = V m c main_arg4 y
  exact congrArg _ (funext fun a => Fin.ext (Window.rect_emb_val_of_index_zero (cfg0.win (4 : Fin 6)) t0_0 a rfl y))

set_option backward.isDefEq.respectTransparency.types false in
/-- **The body at the region's one point.** -/
theorem obligation (c : Dev nD) : BodyObligation (dat m c) (defs₀ (F := F)) 𝒱₀ () Set.univ := fun t => by
  obtain rfl := fin_N0 t
  rw [Φ_first, show t0_0.succ = Fin.last cfg0.N from succ_last, Φ_last]
  rw [show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from bigSep_W0,
    show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from bigSep_W0]
  unfold Xk
  iintro ⟨⟨⟨%K, #Hc, Ho⟩, Hs, Hp⟩, HO, ⟨%d0, H0⟩, ⟨%d1, H1⟩, ⟨%d2, H2⟩, ⟨%d3, H3⟩, ⟨%d4, H4⟩, ⟨%d5, H5⟩⟩
  rw [before_0, before_1, before_2, before_3, before_4]
  ihave HO := (owesAt_elim m c) $$ HO
  iapply (whole (Pm m) (Am m) K c (J m c) (fun _ => rfl) rfl) $$ [Ho Hs HO H0 H1 H2 H3 H4 H5]
  · isplitr; · iexact Hc
    isplitl [Ho]; · iexact Ho
    isplitl [Hs]; · iexact Hs
    isplitl [H0 H1 H2 H3 H4]
    · unfold staged
      isplitl [H0]; · iexact H0
      isplitl [H1]; · iexact H1
      isplitl [H2]; · iexact H2
      isplitl [H3]; · iexact H3
      iexact H4
    isplitl [H5]; · iexists _; iexact H5
    iexact HO
  unfold staged
  iintro ⟨⟨H0, H1, H2, H3, H4⟩, H5, Hs, Hz, Hb, HO⟩
  isplitl [Hs Hp Hz Hb]
  · isplitl [Hs]; · iexact Hs
    isplitl [Hp]; · iexact Hp
    isplitl [Hz]; · iexact Hz
    iexact Hb
  isplitl [HO]; · iapply (owesAt_intro m c); iexact HO
  isplitl [H0]; · iexact H0
  isplitl [H1]; · iexact H1
  isplitl [H2]; · iexact H2
  isplitl [H3]; · iexact H3
  isplitl [H4]; · iexact H4
  iexact H5

end Cert.Talk

end
-- ==== Proof.Deal.lean ====
/-
# What the launch deals

Each device's credit, from what the other devices owe it, and its rights to pay, as one family.
-/
module

public import proofs.«01_k».proof.Proof.Region

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-! ## Credit -/

/-- Stepping up `k` devices is a bijection. -/
theorem up_bij (k : ℕ) : Function.Bijective fun c : Dev nD => up c k := by
  rw [Fintype.bijective_iff_injective_and_card]
  refine ⟨fun a b h => Fin.ext ?_, rfl⟩
  have e : (a.val + k + 1) % 8 = (b.val + k + 1) % 8 := congrArg Fin.val h
  have ha : a.val < 8 := a.isLt
  have hb : b.val < 8 := b.isLt
  omega
/-- Up and down again. -/
theorem dn_up (c : Dev nD) {k : ℕ} (hk : k < 7) : dn (up c k) k = c := by
  refine Fin.ext ?_
  show ((c.val + k + 1) % 8 + 15 - k) % 8 = c.val
  have hc : c.val < 8 := c.isLt
  omega

/-- When the devices owe each other round the ring, each is owed by the one below. -/
theorem credit_hop (k : ℕ) (D T : Dev nD → CellTallies nD τ sig Unit) (sm : Dev nD → SemLoc sig) (n : ℕ)
    (hD : ∀ d, D d = T (up d k)) (hT : ∀ c, T c = tallyAt ((c : Thread nD τ), sm c) () n) (c : Dev nD) :
    (launchCred D c : sProp 𝕄) = cred (T c) := by
  refine launchCred_of_sum D T ?_ (fun d g hg => ?_) c
  · rw [show D = fun d => T (up d k) from funext hD]
    exact (up_bij k).sum_comp T
  · by_contra hne
    refine hg ?_
    rw [hT]
    refine tallyAt_ne_cell (g := ((d : Thread nD τ), sm d)) (g' := g) (fun h => by have e := congrArg (fun g' : GSem nD τ sig => g'.1) h; exact hne e) () n

/-- What all devices promise to one another for the second exchange is, for one device, what it is promised, -/
theorem credit_last (c : Dev nD) {k : ℕ} (hk : k < 7) :
    (launchCred (fun d : Dev nD => tallyAt (dcell 3 d (up d k)) () N) c : sProp 𝕄) = cred (tallyAt (dcell 3 (dn c k) c) () N) :=
  credit_hop k _ (fun c => tallyAt (dcell 3 (dn c k) c) () N) (fun c => .dma (dsm 3 (dn c k))) N (fun d => by rw [dn_up d hk]) (fun _ => rfl) c
/-- and so for the first, -/
theorem credit_first (c : Dev nD) {k : ℕ} (hk : k < 7) :
    (launchCred (fun d : Dev nD => tallyAt (dcell 1 d (up d k)) () N) c : sProp 𝕄) = cred (tallyAt (dcell 1 (dn c k) c) () N) :=
  credit_hop k _ (fun c => tallyAt (dcell 1 (dn c k) c) () N) (fun c => .dma (dsm 1 (dn c k))) N (fun d => by rw [dn_up d hk]) (fun _ => rfl) c
/-- and for the barrier. -/
theorem credit_bar (c : Dev nD) (k : ℕ) :
    (launchCred (fun d : Dev nD => tallyAt (barCell (up d k)) () 1) c : sProp 𝕄) = cred (tallyAt (barCell c) () 1) :=
  credit_hop k _ (fun c => tallyAt (barCell c) () 1) (fun _ => .reg barS) 1 (fun _ => rfl) (fun _ => rfl) c

/-- Credit adds up. -/
theorem cred_add_eq (a b : CellTallies nD τ sig Unit) : (cred (a + b) : sProp 𝕄) = iprop(cred a ∗ cred b) :=
  BI.Entails.antisymm (cred_add _ _).1 (cred_add _ _).2

/-- Seven units at the barrier. -/
theorem credit_seven (c : Dev nD) : (seven (fun _ => cred (tallyAt (barCell c) () 1)) : sProp 𝕄) ⊢ cred (tallyAt (barCell c) () 7) := by
  have h (n : ℕ) : (cred (tallyAt (barCell c) () (1 + n)) : sProp 𝕄) = iprop(cred (tallyAt (barCell c) () 1) ∗ cred (tallyAt (barCell c) () n)) := by
    rw [← tallyAt_add, cred_add_eq]
  rw [show (7 : ℕ) = 1 + (1 + (1 + (1 + (1 + (1 + 1))))) from rfl, h, h, h, h, h, h]
  exact .rfl

/-- The promises, one payment at a time. -/
theorem credit_step (r : ℕ) (c : Dev nD) :
    (launchCred (fun d => owe d (r + 1)) c : sProp 𝕄) = iprop(launchCred (fun d => owe d r) c ∗ launchCred (fun d => tallyAt (payCell d r) () (payAmt r)) c) :=
  launchCred_add (fun d => owe d r) (fun d => tallyAt (payCell d r) () (payAmt r)) c

/-- **A device's credit at launch**: what the seven others owe it. -/
theorem credit (c : Dev nD) : (launchCred (fun d => owe d 21) c : sProp 𝕄) ⊢ dues c := by
  rw [credit_step 20, credit_step 19, credit_step 18, credit_step 17, credit_step 16, credit_step 15, credit_step 14, credit_step 13,
    credit_step 12, credit_step 11, credit_step 10, credit_step 9, credit_step 8, credit_step 7, credit_step 6, credit_step 5,
    credit_step 4, credit_step 3, credit_step 2, credit_step 1, credit_step 0]
  rw [show launchCred (fun d => tallyAt (payCell d 0) () (payAmt 0)) c = (cred (tallyAt (dcell 3 (dn c 6) c) () N) : sProp 𝕄) from credit_last c (by decide),
    show launchCred (fun d => tallyAt (payCell d 1) () (payAmt 1)) c = (cred (tallyAt (dcell 3 (dn c 5) c) () N) : sProp 𝕄) from credit_last c (by decide),
    show launchCred (fun d => tallyAt (payCell d 2) () (payAmt 2)) c = (cred (tallyAt (dcell 3 (dn c 4) c) () N) : sProp 𝕄) from credit_last c (by decide),
    show launchCred (fun d => tallyAt (payCell d 3) () (payAmt 3)) c = (cred (tallyAt (dcell 3 (dn c 3) c) () N) : sProp 𝕄) from credit_last c (by decide),
    show launchCred (fun d => tallyAt (payCell d 4) () (payAmt 4)) c = (cred (tallyAt (dcell 3 (dn c 2) c) () N) : sProp 𝕄) from credit_last c (by decide),
    show launchCred (fun d => tallyAt (payCell d 5) () (payAmt 5)) c = (cred (tallyAt (dcell 3 (dn c 1) c) () N) : sProp 𝕄) from credit_last c (by decide),
    show launchCred (fun d => tallyAt (payCell d 6) () (payAmt 6)) c = (cred (tallyAt (dcell 3 (dn c 0) c) () N) : sProp 𝕄) from credit_last c (by decide),
    show launchCred (fun d => tallyAt (payCell d 7) () (payAmt 7)) c = (cred (tallyAt (dcell 1 (dn c 6) c) () N) : sProp 𝕄) from credit_first c (by decide),
    show launchCred (fun d => tallyAt (payCell d 8) () (payAmt 8)) c = (cred (tallyAt (dcell 1 (dn c 5) c) () N) : sProp 𝕄) from credit_first c (by decide),
    show launchCred (fun d => tallyAt (payCell d 9) () (payAmt 9)) c = (cred (tallyAt (dcell 1 (dn c 4) c) () N) : sProp 𝕄) from credit_first c (by decide),
    show launchCred (fun d => tallyAt (payCell d 10) () (payAmt 10)) c = (cred (tallyAt (dcell 1 (dn c 3) c) () N) : sProp 𝕄) from credit_first c (by decide),
    show launchCred (fun d => tallyAt (payCell d 11) () (payAmt 11)) c = (cred (tallyAt (dcell 1 (dn c 2) c) () N) : sProp 𝕄) from credit_first c (by decide),
    show launchCred (fun d => tallyAt (payCell d 12) () (payAmt 12)) c = (cred (tallyAt (dcell 1 (dn c 1) c) () N) : sProp 𝕄) from credit_first c (by decide),
    show launchCred (fun d => tallyAt (payCell d 13) () (payAmt 13)) c = (cred (tallyAt (dcell 1 (dn c 0) c) () N) : sProp 𝕄) from credit_first c (by decide),
    show launchCred (fun d => tallyAt (payCell d 14) () (payAmt 14)) c = (cred (tallyAt (barCell c) () 1) : sProp 𝕄) from credit_bar c 6,
    show launchCred (fun d => tallyAt (payCell d 15) () (payAmt 15)) c = (cred (tallyAt (barCell c) () 1) : sProp 𝕄) from credit_bar c 5,
    show launchCred (fun d => tallyAt (payCell d 16) () (payAmt 16)) c = (cred (tallyAt (barCell c) () 1) : sProp 𝕄) from credit_bar c 4,
    show launchCred (fun d => tallyAt (payCell d 17) () (payAmt 17)) c = (cred (tallyAt (barCell c) () 1) : sProp 𝕄) from credit_bar c 3,
    show launchCred (fun d => tallyAt (payCell d 18) () (payAmt 18)) c = (cred (tallyAt (barCell c) () 1) : sProp 𝕄) from credit_bar c 2,
    show launchCred (fun d => tallyAt (payCell d 19) () (payAmt 19)) c = (cred (tallyAt (barCell c) () 1) : sProp 𝕄) from credit_bar c 1,
    show launchCred (fun d => tallyAt (payCell d 20) () (payAmt 20)) c = (cred (tallyAt (barCell c) () 1) : sProp 𝕄) from credit_bar c 0]
  unfold dues
  iintro ⟨⟨⟨⟨⟨⟨⟨⟨⟨⟨⟨⟨⟨⟨⟨⟨⟨⟨⟨⟨⟨-, L6⟩, L5⟩, L4⟩, L3⟩, L2⟩, L1⟩, L0⟩, P6⟩, P5⟩, P4⟩, P3⟩, P2⟩, P1⟩, P0⟩, B6⟩, B5⟩, B4⟩, B3⟩, B2⟩, B1⟩, B0⟩
  isplitl [B0 B1 B2 B3 B4 B5 B6]
  · iapply (credit_seven (F := F) c)
    unfold seven
    isplitl [B0]; · iexact B0
    isplitl [B1]; · iexact B1
    isplitl [B2]; · iexact B2
    isplitl [B3]; · iexact B3
    isplitl [B4]; · iexact B4
    isplitl [B5] <;> iassumption
  unfold seven
  isplitl [P0 P1 P2 P3 P4 P5 P6]
  · isplitl [P0]; · iexact P0
    isplitl [P1]; · iexact P1
    isplitl [P2]; · iexact P2
    isplitl [P3]; · iexact P3
    isplitl [P4]; · iexact P4
    isplitl [P5] <;> iassumption
  isplitl [L0]; · iexact L0
  isplitl [L1]; · iexact L1
  isplitl [L2]; · iexact L2
  isplitl [L3]; · iexact L3
  isplitl [L4]; · iexact L4
  isplitl [L5] <;> iassumption

/-! ## Rights to pay -/

/-- Device `c`'s right of kind `i` at hop `k`. -/
def right (c : Dev nD) (i : Fin 5) (k : ℕ) : GSem nD τ sig × ℕ × Dev nD := match i with
  | 0 => (barCell (up c k), 0, c)
  | 1 => (dcell 0 (up c k) c, 0, 0)
  | 2 => (dcell 1 c (up c k), 0, 0)
  | 3 => (dcell 2 (hp k) c, 0, 0)
  | 4 => (dcell 3 c (up c k), 0, 0)

/-- Copy semaphores with one name are one, -/
theorem dcell_inj {κ κ' : Fin 4} {j j' : Fin 8} {c c' : Dev nD} (h : dcell κ j c = dcell κ' j' c') : κ = κ' ∧ j = j' ∧ c = c' := by
  have h1 := dsm_inj (a₁ := (κ, j)) (a₂ := (κ', j')) (SemLoc.dma.inj (congrArg Prod.snd h))
  exact ⟨congrArg Prod.fst h1, congrArg Prod.snd h1, congrArg (fun g : GSem nD τ sig => g.1.1) h⟩
/-- so with the barriers, -/
theorem bar_inj {c c' : Dev nD} (h : barCell c = barCell c') : c = c' := congrArg (fun g : GSem nD τ sig => g.1.1) h
/-- and none is the other. -/
theorem dcell_ne_bar {κ : Fin 4} {j : Fin 8} {c c' : Dev nD} (h : dcell κ j c = barCell c') : False := by
  have : SemLoc.dma (dsm κ j) = SemLoc.reg barS := congrArg Prod.snd h
  cases this

/-- No two rights are one. -/
theorem right_inj : Function.Injective fun x : Dev nD × (Fin 5 × Fin 7) => right x.1 x.2.1 x.2.2 := by
  rintro ⟨c, i, k⟩ ⟨c', i', k'⟩ h
  have h1 : (right c i k).1 = (right c' i' k').1 := congrArg Prod.fst h
  have h2 : (right c i k).2.2 = (right c' i' k').2.2 := congrArg (fun t : GSem nD τ sig × ℕ × Dev nD => t.2.2) h
  have key : i = i' ∧ c = c' ∧ k = k' := by
    fin_cases i <;> fin_cases i' <;> dsimp only [right] at h1 h2
    · obtain rfl : c = c' := h2
      exact ⟨rfl, rfl, up_inj c (bar_inj h1)⟩
    all_goals first
      | exact (dcell_ne_bar h1).elim
      | exact (dcell_ne_bar h1.symm).elim
      | exact absurd (dcell_inj h1).1 (by decide)
      | skip
    · obtain ⟨-, e, rfl⟩ := dcell_inj h1
      exact ⟨rfl, rfl, up_inj c e⟩
    · obtain ⟨-, rfl, e⟩ := dcell_inj h1
      exact ⟨rfl, rfl, up_inj c e⟩
    · obtain ⟨-, e, rfl⟩ := dcell_inj h1
      exact ⟨rfl, rfl, hp_inj e⟩
    · obtain ⟨-, rfl, e⟩ := dcell_inj h1
      exact ⟨rfl, rfl, up_inj c e⟩
  obtain ⟨rfl, rfl, rfl⟩ := key
  rfl

/-- Every right at launch. -/
def rights : Finset (GSem nD τ sig × ℕ × Dev nD) := Finset.univ.map ⟨_, right_inj⟩

/-- The rights to pay, dealt to the payers. -/
theorem rights_eq : bigSep rights (fun x => (dutyTok ER x.1 x.2.1 x.2.2 : sProp 𝕄)) = bigSep Finset.univ fun c : Dev nD => toks c := by
  unfold rights; rw [bigSep_map, bigSep_univ_prod]
  refine bigSep_congr fun c _ => ?_
  rw [bigSep_univ_prod, show ∀ Φ : Fin 5 → sProp 𝕄, bigSep Finset.univ Φ = iprop(Φ 0 ∗ Φ 1 ∗ Φ 2 ∗ Φ 3 ∗ Φ 4) from
    fun Φ => bigSep_univ_eq_bigSepL [0, 1, 2, 3, 4] (by decide) (by decide) Φ]
  unfold toks
  rw [seven_eq, seven_eq, seven_eq, seven_eq, seven_eq]
  rfl

end Cert.Talk

end
-- ==== Proof.Launch.lean ====
/-
# The run

@main as segments, the launch that funds the region's protocol, and the run from any memory.
-/
module

public import proofs.«01_k».proof.Proof.Deal

@[expose] public section

noncomputable section

namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## The region's entry and exit -/

/-- What the call starts from, -/
theorem Φ_zero (c : Dev nD) : (pdats m 0 c).Φ 0 = iprop(Xk m c ∗ scratch c ∗ ∃ r, prngReg c r) := by
  show (if ((0 : Fin (cfg0.N + 1)).val = 0) then iprop(Xk m c ∗ scratch c ∗ ∃ r, prngReg c r) else iprop(scratch c ∗ (∃ r, prngReg c r) ∗ zeros c ∗ semVal (barCell c) 0)) = _
  exact if_pos rfl
/-- and what it owes then. -/
theorem owed_zero (c : Dev nD) : (pdats m 0 c).owed 0 = owe c 21 := by
  show (if ((0 : Fin (cfg0.N + 1)).val = 0) then owe c 21 else 0) = _; exact if_pos rfl

/-- The scratch memory of the call. -/
theorem scratch_eq (c : Dev nD) : (scopedRest (Ix := Unit) (Name := ℕ) (U := UU) (Lvl := ℕ) (Val := Elt F) (Pipeline.pin (pcfgs (F := F)) adm 0).spec c : sProp 𝕄) = scratch c := by
  have e (M : Ref sig .tc) : (iprop(∃ v, owns (c : Thread nD τ) (Memref.whole M) fullShare v) : sProp 𝕄) = iprop(∃ f, ((c : Thread nD τ).loc M) ↦{fullShare} f) := by
    simp only [owns_whole]
  exact (scopedRest0_eq c).trans (by unfold scratch; exact congrArg₂ _ (e _).symm (congrArg₂ _ (e _).symm (e _).symm))

/-- The region's semaphores opened. -/
theorem hopen (c : Dev nD) : iprop(Tk m c ∗ ownSems0 osem c ∗ levAts L lv) ⊢ (|={Set.univ}=> Xk m c : sProp 𝕄) := by
  unfold Tk Xk opened ctx places ownSems0
  iintro ⟨⟨%K, #Hr, Ht, Hd, Ha, Ho⟩, Hz, #Hl⟩
  ihave H := (show iprop(records (Pm m) (Am m) K ∗ (bigSep (Finset.univ : Finset (Fin 4 × Fin 8)) (fun kj => openTok ER (dcell kj.1 kj.2 c)))
      ∗ bigSep (Finset.univ : Finset (Fin 4 × Fin 8)) fun kj => semVal ((c.tc : Thread nD τ), osem kj) 0)
      ⊢ (|={Set.univ}=> iprop((bigSep (Finset.univ : Finset (Fin 4 × Fin 8)) fun kj => atPos ER (dcell kj.1 kj.2 c) 0 ∅ 0)
        ∗ bigSep (Finset.univ : Finset (Fin 4 × Fin 8)) fun kj => reached ER (dcell kj.1 kj.2 c) 0) : sProp 𝕄) from by
    rw [← bigSep_sep', ← bigSep_sep']
    refine BIBase.Entails.trans ?_ (bigSep_fupd _ _)
    refine bigSep_with_persistent fun kj _ => ?_
    unfold records
    iintro ⟨⟨#Hi, -⟩, Ho, Hz⟩
    iapply (Rounds.cell_open ER (rd (Pm m) (Am m)) (g := dcell kj.1 kj.2 c) (Set.mem_univ (K (dcell kj.1 kj.2 c))))
    isplitr; · iapply (records_inv (Pm m) (Am m) K (dcell_mem kj.1 kj.2 c)); iexact Hi
    isplitl [Ho]; · iexact Ho
    iexact Hz) $$ [Ho Hz]
  · isplitr; · iexact Hr
    isplitl [Ho]; · iexact Ho
    iexact Hz
  imod H with ⟨Hp, #Hq⟩
  imodintro
  iexists K
  isplitr
  · isplitr; · iexact Hr
    isplitr; · iexact Hq
    iexact Hl
  isplitl [Ht]; · iexact Ht
  isplitl [Hd]; · iexact Hd
  isplitl [Ha]; · iexact Ha
  iexact Hp

/-- Holding nothing. -/
theorem held_none (c : Dev nD) (W : Valuation τ sig (Elt F)) : (StableHlo.held (c.tc : Thread nD τ) ∅ W : sProp 𝕄) = BI.emp := by
  unfold StableHlo.held; exact BI.bigSep_empty

/-- Entering the call. -/
theorem hin (c : Dev nD) : iprop(scopedRest (Pipeline.pin (pcfgs (F := F)) adm 0).spec c ∗ (∃ r, prngReg c r) ∗ StableHlo.held (c.tc : Thread nD τ) ∅ (V0 m c) ∗ Xk m c)
    ⊢ (pdats m 0 c).Φ 0 := by
  rw [Φ_zero, scratch_eq]
  iintro ⟨Hs, Hp, -, HX⟩
  isplitl [HX]; · iexact HX
  isplitl [Hs] <;> iassumption

/-- What the buffers hold after the region, -/
def V1 (c : Dev nD) : Valuation τ sig (Elt F) := Function.update (V0 m c) (Proc.devRef .tc main_v4) (gathered (Am m))
/-- After the call the result buffer holds the gathered sums, -/
theorem V1_out (c : Dev nD) : V1 m c (Proc.devRef .tc main_v4) = gathered (Am m) := by unfold V1; rw [Function.update_self]
/-- and every other buffer what it held. -/
theorem V1_rest (c : Dev nD) {b : DevRef τ sig} (h : b ≠ Proc.devRef .tc main_v4) : V1 m c b = V0 m c b := by unfold V1; rw [Function.update_of_ne h]
/-- and after the run. -/
def V2 (c : Dev nD) : Valuation τ sig (Elt F) := StableHlo.after hostOps1 (V1 m c)

/-- Leaving the call. -/
theorem hout (c : Dev nD) : (pdats m 0 c).Φ (Fin.last (Pipeline.pin (pcfgs (F := F)) adm 0).N)
    ⊢ iprop(scopedRest (Pipeline.pin (pcfgs (F := F)) adm 0).spec c ∗ (∃ r, prngReg c r) ∗ StableHlo.held (c.tc : Thread nD τ) ∅ (V1 m c) ∗ ownSems0 osem c ∗ Yk c) := by
  rw [show (pdats m 0 c).Φ (Fin.last (Pipeline.pin (pcfgs (F := F)) adm 0).N) = _ from Φ_last m c, scratch_eq, held_none]
  iintro ⟨Hs, Hp, Hz, Hb⟩
  isplitl [Hs]; · iexact Hs
  isplitl [Hp]; · iexact Hp
  isplitr; · iempintro
  unfold ownSems0 Yk
  unfold zeros
  isplitl [Hz]; · iexact Hz
  iexact Hb

/-! ## The segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The launch's side conditions. -/
theorem kit : PLaunchFacts (nD := nD) (τ := τ) (pcfgs (F := F)) 0 where
  cellOf_inj a := by rw [Subsingleton.elim a adm]; exact cellOf_inj
  win := winFacts0
  pre := PreFacts.none _
  block_pos := block_pos0
  arr_whole := arr_whole0
  stage_whole := stage_whole0

/-- What is owed has a level. -/
theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then owe c 21 else 0 := rfl
  rw [e] at h
  split at h
  · obtain ⟨r, hr, rfl⟩ := owe_pos c 21 h
    refine ⟨payCell_tc c r, ?_⟩
    rw [lv_payCell]; (repeat' split) <;> decide
  · exact absurd h (Nat.lt_irrefl 0)

/-- What rides along before the region, -/
def R0 (c : Dev nD) : sProp 𝕄 := iprop(Tk m c ∗ (∃ r, prngReg c r) ∗ ow c 21)
/-- and after it. -/
def R1 (c : Dev nD) : sProp 𝕄 := iprop(semVal (barCell c) 0 ∗ ow c 0)

/-- The reshapes before the call -/
def seg0 : ℍ := Pipeline.HostSeg.ofOps _ _ _ _ _ (ucRefs τ sig) hostOps0
  (fun op h => sub_ucRefs op ((List.forall_iff_forall_mem.mp hostOps0_sub) op h)) (fun op h => (List.forall_iff_forall_mem.mp hostOps0_fresh) op h)
  (fun c b => m (c, b)) (R0 m)
/-- and the one after it. -/
def seg2 : ℍ := Pipeline.HostSeg.ofOps _ _ _ _ _ (ucRefs τ sig) hostOps1
  (fun op h => sub_ucRefs op ((List.forall_iff_forall_mem.mp hostOps1_sub) op h)) (fun op h => (List.forall_iff_forall_mem.mp hostOps1_fresh) op h)
  (V1 m) R1

/-- The call's arrays. -/
abbrev arrs : Finset (DevRef τ sig) := arrRefs (τ := τ) spec0
/-- They are host buffers, -/
theorem arrs_sub : arrs ⊆ ucRefs τ sig := arrRefs_sub_ucRefs spec0 winFacts0.arr_unscoped
/-- the result among them. -/
theorem v4_mem : Proc.devRef .tc main_v4 ∈ arrs := Finset.mem_map_of_mem _ (Finset.mem_image.mpr ⟨(5 : Fin 6), Finset.mem_univ _, rfl⟩)

/-- What the arrays hold after the call, -/
theorem arr_final (c : Dev nD) (w : Fin 6) : (dat m c).arrAt w cfg0.N = V1 m c (Proc.devRef .tc (arrRef spec0 w)) := by
  have hin (w : Fin 6) (h : (cfg0.win w).isOut = false) (hne : arrRef spec0 w ≠ main_v4) : (dat m c).arrAt w cfg0.N = V1 m c (Proc.devRef .tc (arrRef spec0 w)) := by
    rw [Dat.arrAt_in (dat m c) w h]
    exact (V1_rest m c fun e => hne (Proc.devRef_injective (τ := τ) (sig := sig) .tc e)).symm
  fin_cases w
  · exact hin (0 : Fin 6) rfl (by decide)
  · exact hin (1 : Fin 6) rfl (by decide)
  · exact hin (2 : Fin 6) rfl (by decide)
  · exact hin (3 : Fin 6) rfl (by decide)
  · exact hin (4 : Fin 6) rfl (by decide)
  · exact (Dat.arrAt_eq_of_after_last (dat m c) (5 : Fin 6) t0_0 (by decide +kernel) (gathered (Am m)) (fun j => rfl)).trans (V1_out m c).symm

/-- and that the other buffers are as before. -/
theorem rest_same (c : Dev nD) (b : DevRef τ sig) (hb : b ∈ (ucRefs τ sig \ arrs) \ (∅ : Finset (DevRef τ sig))) : V1 m c b = V0 m c b := by
  refine V1_rest m c ?_
  rintro rfl
  exact (Finset.mem_sdiff.mp (Finset.mem_sdiff.mp hb).1).2 v4_mem
/-- The call's own semaphores are its own. -/
theorem ownFacts : OwnSemFacts spec0 osem := by decide
/-- The staging semaphores are at the bottom. -/
theorem lv_stage : ∀ (c : Dev nD) (w : Fin 6) (s : Fin (spec0 w).nbuf), lv ((c : Thread nD τ), .dma ((spec0 w).sem s)) () ≤ 0 := by decide

set_option backward.isDefEq.respectTransparency.types false in
/-- The call. -/
def reg : ℝ𝕊 0 :=
  Pipeline.RegionSeg.ofTalk (pcfgs (F := F)) adm (pdats m) () defs₀ 𝒱₀ L lv 0 osem ownFacts
    ∅ (ucRefs τ sig \ arrs) (Finset.empty_subset _) kit rfl (fun c => (obligation m c).loose)
    (fun _ => 0) (fun c => owe c 21) (fun c => (owed_zero m c).trans (zero_add _).symm) (owed_last m) (fun _ => rfl)
    (fun c w => by unfold Dat.share; split <;> rfl)
    (V0 m) (V1 m) (fun c b hb => rest_same m c b hb)
    (Tk m) Yk (Xk m) Yk (hopen m) (hin m) (hout m)
    (fun c => by iintro H; imodintro; iexact H)
    (fun _ => 0)
    ⟨fun c w s => by rw [L_tc]; exact Finset.mem_singleton_self _, fun c w s => lv_stage c w s, fun c t g i h => cut m c t g i h⟩
    (fun _ => iprop(emp))
    (fun c w => rfl) (fun c w => arr_final m c w)

/-- The reshapes end where the call starts, -/
theorem reg_pre (c : Dev nD) : (seg0 m).post c ⊢ (reg m).pre c := by
  show iprop(StableHlo.held (c.tc : Thread nD τ) (ucRefs τ sig) (V0 m c) ∗ R0 m c)
    ⊢ iprop(StableHlo.held (c.tc : Thread nD τ) arrs (V0 m c) ∗ (∃ r, prngReg c r)
      ∗ (StableHlo.held (c.tc : Thread nD τ) (ucRefs τ sig \ arrs) (V0 m c) ∗ emp) ∗ Tk m c ∗ ∃ Wd, owes (c : Thread nD τ) (0 + owe c 21) Wd)
  rw [StableHlo.held_sub_split c.tc arrs_sub, zero_add]
  unfold R0 ow
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- and the call ends where the last reshape starts. -/
theorem reg_post (c : Dev nD) : (reg m).post c ⊢ (seg2 m).pre c := by
  show iprop(StableHlo.held (c.tc : Thread nD τ) arrs (V1 m c) ∗ (∃ r, prngReg c r)
      ∗ (StableHlo.held (c.tc : Thread nD τ) (ucRefs τ sig \ arrs) (V1 m c) ∗ emp) ∗ Yk c ∗ ∃ Wd, owes (c : Thread nD τ) (0 : CellTallies nD τ sig Unit) Wd)
    ⊢ iprop(StableHlo.held (c.tc : Thread nD τ) (ucRefs τ sig) (V1 m c) ∗ R1 c)
  rw [StableHlo.held_sub_split c.tc arrs_sub]
  unfold R1 ow Yk
  iintro ⟨Ha, -, ⟨Hr, -⟩, Hb, HO⟩
  isplitl [Ha Hr]; · isplitl [Ha] <;> iassumption
  isplitl [Hb]; · iexact Hb
  iexact HO

/-- @main as the list. -/
def segs : List (Pipeline.Seg (pcfgs (F := F)) adm (pdats m) () defs₀ 𝒱₀ L lv) := [.host (seg0 m), .region (reg m), .host (seg2 m)]
/-- The program is these three. -/
theorem main_eq (c : Dev nD) : main (F := F) c = Pipeline.Seg.run (segs m) :=
  main_segs adm (pdats m) () 𝒱₀ L lv (seg0 m) (seg2 m) (reg m) rfl rfl c

/-! ## The launch -/

/-- The barriers are not copy semaphores. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact dcell_ne_bar (κ := ck.2.1) (j := ck.2.2) (c := ck.1) h

/-- The launch element: the staging cells', and the protocol's. -/
def u₀ : UU :=
  (initOf (Pipeline.cells (Pipeline.pin (pcfgs (F := F)) adm) cellOf_inj) (Pipeline.launchToks (Pipeline.pin (pcfgs (F := F)) adm) cellOf_inj),
    launchOf barCells scCells rights)

/-- A resource, all of it on device 0. -/
def onFirst (X : sProp 𝕄) (c : Dev nD) : sProp 𝕄 := if c = 0 then X else iprop(emp)
/-- A thing given to one device only. -/
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
/-- The protocol's launch element waits there until the launch's one step. -/
def G : Dev nD → sProp 𝕄 := onFirst (BI.own (ER (launchOf barCells scCells rights)))

/-- A device's own part of the protocol's launch, -/
def linear (c : Dev nD) : sProp 𝕄 :=
  iprop(atPos ER (barCell c) 0 ∅ 0 ∗ (bigSep (Finset.univ : Finset (Fin 4 × Fin 8)) fun kj => openTok ER (dcell kj.1 kj.2 c)) ∗ toks c)
/-- and what it has beside it. -/
def bundle (c : Dev nD) : sProp 𝕄 :=
  iprop(StableHlo.held (c : Thread nD τ) (ucRefs τ sig) (fun b => m (c, b)) ∗ dues c ∗ ow c 21 ∗ ∃ r, prngReg c r)

/-- What a device starts from -/
abbrev T₀ (c : Dev nD) : sProp 𝕄 := iprop(StableHlo.held (c.tc : Thread nD τ) (ucRefs τ sig) (fun b => m (c, b)) ∗ R0 m c)
/-- and ends with. -/
abbrev Tₙ (c : Dev nD) : sProp 𝕄 := iprop(StableHlo.held (c.tc : Thread nD τ) (ucRefs τ sig) (V2 m c) ∗ semVal (barCell c) 0)

/-- What was dealt to a device is what it starts from. -/
theorem T₀_intro (K : GSem nD τ sig → ℕ) (c : Dev nD) : iprop(records (Pm m) (Am m) K ∗ (linear c ∗ bundle m c)) ⊢ T₀ m c := by
  unfold bundle linear T₀ R0 Tk
  iintro ⟨#HR, ⟨Ha, Ho, Ht⟩, Hh, Hd, HO, Hp⟩
  isplitl [Hh]; · iexact Hh
  isplitl [Ha Ho Ht Hd]
  · iexists K
    isplitr; · iexact HR
    isplitl [Ht]; · iexact Ht
    isplitl [Hd]; · iexact Hd
    isplitl [Ha] <;> iassumption
  isplitl [Hp] <;> iassumption

/-- The barrier is the only semaphore that outlives the call. -/
theorem unscoped_eq : ∀ sm : SemLoc sig, sm.isScoped .tc = false → sm = .reg barS := by decide
/-- So that is the only one at the start. -/
theorem unscopedSems0_eq (c : Dev nD) : (unscopedSems0 c : sProp 𝕄) = semVal (barCell c) 0 := by
  unfold unscopedSems0
  rw [show (Finset.univ.filter fun sm : SemLoc sig => ¬ sm.isScoped .tc) = {.reg barS} from by decide, bigSep_singleton]

/-- **The launch**: every device's own part made. -/
theorem init :
    iprop((bigSep Finset.univ fun c : Dev nD => iprop(unscopedBufs c (fun b => m ((c : Thread nD τ).loc b)) ∗ unscopedSems0 c
          ∗ owes (c : Thread nD τ) (owe c 21) ∅ ∗ launchCred (fun c => owe c 21) c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owe c 21) ∅ ∗ launchCred (fun c => owe c 21) c ∗ prngReg c (ρ c) ∗ G c)
      ⊢ (iprop(bundle m c ∗ (semVal (barCell c) 0 ∗ G c)) : sProp 𝕄) := by
    rw [show (unscopedBufs c (fun b => m ((c : Thread nD τ).loc b)) : sProp 𝕄) = StableHlo.held (c : Thread nD τ) (ucRefs τ sig) (fun b => m (c, b)) from unscopedBufs_held c (fun b => m (c, b)),
      unscopedSems0_eq]
    unfold bundle ow
    iintro ⟨Hh, Hus, HO, Hcr, Hp, HG⟩
    ihave Hc := (credit (F := F) c) $$ Hcr
    isplitl [Hh Hc HO Hp]
    · isplitl [Hh]; · iexact Hh
      isplitl [Hc]; · iexact Hc
      isplitl [HO]; · iexists ∅; iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep (Finset.univ : Finset (Fin 4 × Fin 8)) fun kj => openTok ER (dcell kj.1 kj.2 c)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (owe c 21) ∅ ∗ launchCred (fun c => owe c 21) c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells scCells rights)) from
    Entails.of_eq (bigSep_onFirst (F := F) (BI.own (ER (launchOf barCells scCells rights))))) $$ HG
  imod (Rounds.fund_launch ER (rd (Pm m) (Am m)) disjoint_cells (fun g _ h => h) rights) $$ [Hv Hu] with ⟨%K, -, #Hinv, #Hr, Hat, Hopen, Htok⟩
  · isplitl [Hv]
    · iapply hv $$ Hv
    · iexact Hu
  imodintro
  iapply (bigSep_with_persistent (R := records (Pm m) (Am m) K) (Φ := fun c => iprop(linear c ∗ bundle m c)) fun c _ => T₀_intro m K c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (Entails.of_eq (rights_eq (F := F))) $$ Htok
  · iexact HB

/-! ## The run -/

/-- A buffer neither the region nor the last line writes ends as the first lines leave it. -/
theorem V2_kept (c : Dev nD) (b : DevRef τ sig) (h4 : b ≠ Proc.devRef .tc main_v4) (h5 : b ≠ Proc.devRef .tc main_v5) : V2 m c b = V0 m c b := by
  unfold V2
  rw [StableHlo.after_of_forall_not_mem (b := b) _ _ (List.forall_iff_forall_mem.mp (by
    simp only [hostOps1, List.Forall, StableHlo.reshape_writes, Finset.mem_singleton]
    exact h5)), V1_rest m c h4]

/-- The buffers the run's reader looks at. -/
abbrev seen : Finset (DevRef τ sig) :=
  {Proc.devRef .tc main_arg0, Proc.devRef .tc main_arg1, Proc.devRef .tc main_arg2, Proc.devRef .tc main_arg3, Proc.devRef .tc main_arg4, Proc.devRef .tc main_v5}
/-- The arguments and the result are host buffers. -/
theorem seen_sub : seen ⊆ ucRefs τ sig := by decide
/-- They, one by one. -/
theorem seen_eq (c : Dev nD) (W : Valuation τ sig (Elt F)) : (StableHlo.held (c.tc : Thread nD τ) seen W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_arg4) ↦{fullShare} W (Proc.devRef .tc main_arg4)) ∗ (((c : Thread nD τ).loc main_v5) ↦{fullShare} W (Proc.devRef .tc main_v5))) := by
  unfold StableHlo.held
  rw [bigSep_eq_bigSepL_of_eq [Proc.devRef .tc main_arg0, Proc.devRef .tc main_arg1, Proc.devRef .tc main_arg2, Proc.devRef .tc main_arg3, Proc.devRef .tc main_arg4, Proc.devRef .tc main_v5] (by decide) (by decide)]
  rfl

/-- What a device's arguments and result hold at the end. -/
def Ends (c : Dev nD) (s : MemSt nD τ sig (Elt F)) : Prop :=
  s.mem ((c : Thread nD τ).loc main_arg0) = V2 m c (Proc.devRef .tc main_arg0) ∧ s.mem ((c : Thread nD τ).loc main_arg1) = V2 m c (Proc.devRef .tc main_arg1)
    ∧ s.mem ((c : Thread nD τ).loc main_arg2) = V2 m c (Proc.devRef .tc main_arg2) ∧ s.mem ((c : Thread nD τ).loc main_arg3) = V2 m c (Proc.devRef .tc main_arg3)
    ∧ s.mem ((c : Thread nD τ).loc main_arg4) = V2 m c (Proc.devRef .tc main_arg4) ∧ s.mem ((c : Thread nD τ).loc main_v5) = V2 m c (Proc.devRef .tc main_v5)

set_option backward.isDefEq.respectTransparency.types false in
/-- **The run**: from any memory, with every semaphore at zero, `main` ends on every device with its arguments as they were, its result at
    `V2 m c main_v5`, and every semaphore at zero. -/
theorem run_main : θ_run defs (onTc (τ := τ) (main (F := F))) ⟨m, fun _ => 0, ρ⟩
    (fun r => (∀ c : Dev nD, r.2.mem ((c : Thread nD τ).loc main_v5) = V2 m c (Proc.devRef .tc main_v5)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => owe c 21) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onFirst]; iexact HX)
    (T₀ := T₀ m) (Tₙ := Tₙ m)
    (hch := by
      refine ⟨fun c => .rfl, fun c => reg_pre m c, fun c => reg_post m c, fun c => ?_⟩
      show iprop(StableHlo.held (c.tc : Thread nD τ) (ucRefs τ sig) (V2 m c) ∗ R1 c)
        ⊢ iprop(Tₙ m c ∗ ∃ W, owes (c : Thread nD τ) (0 : CellTallies nD τ sig Unit) W)
      unfold R1 ow
      iintro ⟨Hh, Hb0, HO⟩
      isplitr [HO]
      · isplitl [Hh] <;> iassumption
      · iexact HO)
    (hinit := init m ρ)
    (QY := fun c s => Ends m c s ∧ s.sem (barCell c) = 0)
    (hfin := fun c s' => by
      dsimp only [Tₙ]; rw [StableHlo.held_sub_split c.tc seen_sub, seen_eq]
      iintro ⟨⟨⟨⟨H0, H1, H2, H3, H4, H5⟩, -⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        rw [V2_kept m c _ (by decide) (by decide)] at h0 h1 h2 h3 h4
        exact ⟨h5, h0.trans (V_main_arg0 m c), h1.trans (V_main_arg1 m c), h2.trans (V_main_arg2 m c), h3.trans (V_main_arg3 m c), h4.trans (V_main_arg4 m c)⟩,
      sem_eq_zero hs fun c sm hsm => by
        obtain rfl := unscoped_eq sm hsm
        exact (h c).2⟩)

/-- The run with its result dropped: the arguments end as they were, every semaphore at zero. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_main m ρ)

end Cert.Talk

end
-- ==== Proof.Head.lean ====
/-
# One head's attention, as the kernel computes it

The 256 rows fall into four blocks of 64. Blocks 0 and 3 see the keys of blocks 0 and 3, and blocks 1 and 2 see the keys of
blocks 0, 1 and 2. `headOf` is that computation for one head of one batch, and every head of the kernel is an instance.
-/
module

public import proofs.«01_k».proof.Proof.Values

@[expose] public section

noncomputable section

namespace Cert.Talk

open Cert.KernelIdeal Cert.KernelIdeal.Gen
open Idealize.ShloMosaic
open Cert.KernelIdeal.Facts
open Idealize.ShloMosaic.TcCoe

variable {F : FTy → Type} [FloatOps F]

/-- The rows of the first and the last block. -/
def ends (t : FVec F S256x64 .bf16) : FVec F S128x64 .bf16 :=
  concatenate S128x64 0 [⟨S64x64, extractStridedSlice S64x64 ![0, 0] t slices_S256x64_o0_0_S64x64⟩,
    ⟨S64x64, extractStridedSlice S64x64 ![192, 0] t slices_S256x64_o192_0_S64x64⟩] concatenates_S64x64_S64x64_S128x64_d0

/-- The exponentials of the scaled scores, the end blocks against each other, -/
def expEnds (q k : FVec F S128x64 .bf16) : FVec F S128x128 .f32 :=
  exp (mulf (matmul dot_S128x64_S128x64_S128x128_1_1_0_0_n_n none q k (constant S128x128 .f32 0x00000000#32))
    (broadcast S128x128 (Scalar.ofBits .f32 0x3E000000#32 : F .f32)))

/-- and the middle blocks against the first three. -/
def expMid (q : FVec F S128x64 .bf16) (k : FVec F S192x64 .bf16) : FVec F S128x192 .f32 :=
  exp (mulf (matmul dot_S128x64_S192x64_S128x192_1_1_0_0_n_n none q k (constant S128x192 .f32 0x00000000#32))
    (broadcast S128x192 (Scalar.ofBits .f32 0x3E000000#32 : F .f32)))

/-- The average of the values under the weights `e`, the end blocks, -/
def mixEnds (e : FVec F S128x128 .f32) (v : FVec F S128x64 .bf16) : FVec F S128x64 .f32 :=
  mulf (matmul dot_S128x128_S128x64_S128x64_1_0_0_1_n_n none (truncf .bf16 e bitsLt_bf16_f32) v (constant S128x64 .f32 0x00000000#32))
    (broadcastTo S128x64 (divf (broadcast S128x1 (Scalar.ofBits .f32 0x3F800000#32 : F .f32))
      (shapeCast S128x1 (multiReduction .add [1] S128 e 0x00000000#32 reduces_S128x128_S128 (.inl rfl) rfl) shapeCasts_S128_S128x1)) broadcasts_S128x1_S128x64)

/-- and the middle ones. -/
def mixMid (e : FVec F S128x192 .f32) (v : FVec F S192x64 .bf16) : FVec F S128x64 .f32 :=
  mulf (matmul dot_S128x192_S192x64_S128x64_1_0_0_1_n_n none (truncf .bf16 e bitsLt_bf16_f32) v (constant S128x64 .f32 0x00000000#32))
    (broadcastTo S128x64 (divf (broadcast S128x1 (Scalar.ofBits .f32 0x3F800000#32 : F .f32))
      (shapeCast S128x1 (multiReduction .add [1] S128 e 0x00000000#32 reduces_S128x192_S128 (.inl rfl) rfl) shapeCasts_S128_S128x1)) broadcasts_S128x1_S128x64)

/-- The end blocks put round the middle ones. -/
def around (a b : FVec F S128x64 .f32) : FVec F S256x64 .bf16 :=
  truncf .bf16 (concatenate S256x64 0 [⟨S64x64, extractStridedSlice S64x64 ![0, 0] a slices_S128x64_o0_0_S64x64⟩, ⟨S128x64, b⟩,
    ⟨S64x64, extractStridedSlice S64x64 ![64, 0] a slices_S128x64_o64_0_S64x64⟩] concatenates_S64x64_S128x64_S64x64_S256x64_d0) bitsLt_bf16_f32

/-- One head of one batch. -/
def headOf (q k v : FVec F S256x64 .bf16) : FVec F S256x64 .bf16 :=
  around (mixEnds (expEnds (ends q) (ends k)) (ends v))
    (mixMid (expMid (extractStridedSlice S128x64 ![64, 0] q slices_S256x64_o64_0_S128x64) (extractStridedSlice S192x64 ![0, 0] k slices_S256x64_o0_0_S192x64))
      (extractStridedSlice S192x64 ![0, 0] v slices_S256x64_o0_0_S192x64))

/-- Four heads side by side, -/
def beside (a b c d : FVec F S256x64 .bf16) : FVec F S256x256 .bf16 :=
  concatenate S256x256 1 [⟨S256x64, a⟩, ⟨S256x64, b⟩, ⟨S256x64, c⟩, ⟨S256x64, d⟩] concatenates_S256x64_S256x64_S256x64_S256x64_S256x256_d1

/-- and the two batches one above the other. -/
def above (a b : FVec F S256x256 .bf16) : FVec F S512x256 .bf16 :=
  concatenate S512x256 0 [⟨S256x256, a⟩, ⟨S256x256, b⟩] concatenates_S256x256_S256x256_S512x256_d0

namespace Ins

variable (I : Ins F) (c : Dev nD)

/-- Every head is that computation on its columns of the projected queries, the keys and the values. -/
theorem head0_eq : I.head0 c = headOf (k0_pay4 I.lq I.lx) (k0_pay5 (I.lk1 c)) (k0_pay6 (I.lv1 c)) := rfl
/-- The second head is an instance, -/
theorem head1_eq : I.head1 c = headOf (k0_pay10 I.q) (k0_pay11 (I.kb1 c)) (k0_pay12 (I.vb1 c)) := rfl
/-- the third, -/
theorem head2_eq : I.head2 c = headOf (k0_pay17 I.q) (k0_pay18 (I.kb1 c)) (k0_pay19 (I.vb1 c)) := rfl
/-- the first of the second batch, -/
theorem head4_eq : I.head4 c = headOf (k0_pay33 I.q) (k0_pay34 (I.lk2 c)) (k0_pay35 (I.lv2 c)) := rfl
/-- and its second. -/
theorem head5_eq : I.head5 c = headOf (k0_pay40 I.q) (k0_pay41 (I.kb2 c)) (k0_pay42 (I.vb2 c)) := rfl

/-- The last head of either batch, and the third of the second batch. -/
def head3 : FVec F S256x64 .bf16 := headOf (k0_pay24 I.q) (k0_pay25 (I.kb1 c)) (k0_pay26 (I.vb1 c))
/-- The third head of the second batch -/
def head6 : FVec F S256x64 .bf16 := headOf (k0_pay48 I.q) (k0_pay49 (I.kb2 c)) (k0_pay50 (I.vb2 c))
/-- and its fourth. -/
def head7 : FVec F S256x64 .bf16 := headOf (extractStridedSlice S256x64 ![256, 192] I.q slices_S512x256_o256_192_S256x64)
  (extractStridedSlice S256x64 ![0, 192] (I.kb2 c) slices_S256x256_o0_192_S256x64) (extractStridedSlice S256x64 ![0, 192] (I.vb2 c) slices_S256x256_o0_192_S256x64)

/-- The heads of one batch stand side by side, -/
theorem all1_eq : I.all1 c = beside (I.head0 c) (I.head1 c) (I.head2 c) (I.head3 c) := rfl

/-- and the batches one above the other. -/
theorem heads_eq : I.heads c = above (I.all1 c) (beside (I.head4 c) (I.head5 c) (I.head6 c) (I.head7 c)) := rfl

end Ins

end Cert.Talk

end
-- ==== Proof.Softmax.lean ====
/-
# Weighted averages over the extended reals

The kernel divides a sum of unnormalised exponentials once, over the keys its block may see. The reference subtracts the
row's largest score, gives the other keys weight zero, and divides each weight. With finite scores the two averages are one
number, whatever the values averaged are. The file says so, and turns a sum over a group of keys into one over all keys.
-/
module

public import proofs.«01_k».proof.Proof.Schedule
public import Idealize.ShloMosaic.PureOps.Ideal

@[expose] public section

noncomputable section

namespace Cert.Talk

open Idealize.ShloMosaic

/-- A finite sum of reals is a real. -/
theorem coe_sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor goes into a sum of extended reals. -/
theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- The largest of finitely many scores, the hidden ones read as minus infinity, is a real once one is seen. -/
theorem max_real {ι : Type} [Fintype ι] (p : ι → Prop) [DecidablePred p] (hp : ∃ j, p j) (s : ι → ℝ) :
    ∃ M : ℝ, Finset.univ.fold max (⊥ : EReal) (fun j => if p j then ((s j : ℝ) : EReal) else ⊥) = (M : EReal) := by
  obtain ⟨j, hj⟩ := hp
  have h1 : Finset.univ.fold max (⊥ : EReal) (fun j => if p j then ((s j : ℝ) : EReal) else ⊥) ≠ ⊤ := by
    refine ne_of_lt (Finset.fold_max_lt _ |>.2 ⟨bot_lt_top, fun x _ => ?_⟩)
    split
    · exact EReal.coe_lt_top _
    · exact bot_lt_top
  have h2 : Finset.univ.fold max (⊥ : EReal) (fun j => if p j then ((s j : ℝ) : EReal) else ⊥) ≠ ⊥ := by
    refine (ne_of_lt (Finset.lt_fold_max _ |>.2 (.inr ⟨j, Finset.mem_univ j, ?_⟩))).symm
    rw [if_pos hj]
    exact EReal.bot_lt_coe _
  exact ⟨_, (EReal.coe_toReal h1 h2).symm⟩

/-- The two averages agree: weights divided once by their sum, and shifted weights each divided by theirs. -/
theorem soft {ι : Type} [Fintype ι] (p : ι → Prop) [DecidablePred p] (hp : ∃ j, p j) (s : ι → ℝ) (v : ι → EReal) (M : ℝ) :
    (∑ j, if p j then Ideal.exp ((s j : ℝ) : EReal) * v j else 0) * Ideal.div 1 (∑ j, if p j then Ideal.exp ((s j : ℝ) : EReal) else 0)
      = ∑ j, v j * Ideal.div (Ideal.exp ((if p j then ((s j : ℝ) : EReal) else ⊥) - (M : EReal)))
          (∑ j', Ideal.exp ((if p j' then ((s j' : ℝ) : EReal) else ⊥) - (M : EReal))) := by
  let E : ι → ℝ := fun j => if p j then Real.exp (s j) else 0
  let Z : ℝ := ∑ j, E j
  have hE : ∀ j, 0 ≤ E j := fun j => by
    show 0 ≤ ite _ _ _
    split
    · exact (Real.exp_pos _).le
    · exact le_rfl
  have hZ : 0 < Z := by
    obtain ⟨j, hj⟩ := hp
    refine Finset.sum_pos' (fun j _ => hE j) ⟨j, Finset.mem_univ j, ?_⟩
    show 0 < ite _ _ _
    rw [if_pos hj]
    exact Real.exp_pos _
  have hL : (∑ j, if p j then Ideal.exp ((s j : ℝ) : EReal) else 0) = ((Z : ℝ) : EReal) := by
    rw [show ((Z : ℝ) : EReal) = ((∑ j, E j : ℝ) : EReal) from rfl, ← coe_sum_real]
    refine Finset.sum_congr rfl fun j _ => ?_
    show _ = ((ite _ _ _ : ℝ) : EReal)
    split
    · exact Ideal.exp_coe _
    · exact EReal.coe_zero.symm
  have hx : ∀ j, Ideal.exp ((if p j then ((s j : ℝ) : EReal) else ⊥) - (M : EReal)) = ((E j * Real.exp (-M) : ℝ) : EReal) := fun j => by
    show _ = ((ite _ _ _ * _ : ℝ) : EReal)
    split
    · rw [← EReal.coe_sub, Ideal.exp_coe, ← Real.exp_add, sub_eq_add_neg]
    · rw [EReal.bot_sub, zero_mul, EReal.coe_zero]
      exact Ideal.exp_bot
  have hR : (∑ j', Ideal.exp ((if p j' then ((s j' : ℝ) : EReal) else ⊥) - (M : EReal))) = ((Z * Real.exp (-M) : ℝ) : EReal) := by
    rw [Finset.sum_congr rfl fun j _ => hx j, coe_sum_real, Finset.sum_mul]
  have hm : Real.exp (-M) ≠ 0 := (Real.exp_pos _).ne'
  rw [hL, hR, Ideal.div_coe hZ.ne', one_mul, sum_mul_real _ _ _ (by positivity)]
  refine Finset.sum_congr rfl fun j _ => ?_
  rw [hx, Ideal.div_coe (mul_ne_zero hZ.ne' hm), ← EReal.coe_mul,
    show E j * Real.exp (-M) * (1 / (Z * Real.exp (-M))) = E j * (1 / Z) from by field_simp]
  by_cases h : p j
  · rw [if_pos h, show E j = Real.exp (s j) from if_pos h, Ideal.exp_coe, EReal.coe_mul, mul_comm ((Real.exp (s j) : ℝ) : EReal), mul_assoc]
  · rw [if_neg h, show E j = 0 from if_neg h, zero_mul, zero_mul, EReal.coe_zero, mul_zero]

/-- A sum over a group of keys is the sum over all of them with zero elsewhere. -/
theorem sum_group {m n : ℕ} (e : Fin m → Fin n) (he : Function.Injective e) (p : Fin n → Prop) [DecidablePred p] (hp : ∀ k, p k ↔ ∃ i, e i = k)
    (f : Fin n → EReal) : ∑ i, f (e i) = ∑ k, if p k then f k else 0 := by
  classical
  rw [← Finset.sum_filter, show (Finset.univ.filter p : Finset (Fin n)) = Finset.univ.image e from by ext k; simp [hp k],
    Finset.sum_image fun a _ b _ h => he h]

end Cert.Talk

end
-- ==== Proof.HeadRead.lean ====
/-
# One head's attention read at an element

`attn` is the average of the values under the exponentials of the scaled scores of the keys a row may see. One head of the
kernel computes it: the end blocks see the end blocks, the middle blocks the first three, and that is the mask.
-/
module

public import proofs.«01_k».proof.Proof.Head
public import proofs.«01_k».proof.Proof.Softmax
public import Idealize.ShloMosaic.Lib.ValueIdx
public import Idealize.ShloMosaic.Lib.Pipeline.Value
public import Idealize.ShloMosaic.PureOps.Ideal.Laws

@[expose] public section

noncomputable section

namespace Cert.Talk

open Cert.KernelIdeal Cert.KernelIdeal.Gen
open Idealize.ShloMosaic Idealize.ShloMosaic.ValueIdx
open Cert.KernelIdeal.Facts
open Idealize.ShloMosaic.TcCoe

/-- The block mask: a row sees its own block, the first block, and those whose number adds up with its own to a multiple of three. -/
def sees (i j : Fin 256) : Prop := i.val / 64 = j.val / 64 ∨ j.val / 64 = 0 ∨ (i.val / 64 + j.val / 64) % 3 = 0

instance (i : Fin 256) : DecidablePred (sees i) := fun j => by unfold sees; infer_instance

/-- The scale, one eighth. -/
def eighth : EReal := Ideal.ofBits .f32 0x3E000000#32

/-- The scaled score of a key for a row. -/
def score (q k : Fin 256 → Fin 64 → EReal) (i j : Fin 256) : EReal := (∑ t, q i t * k j t) * eighth

/-- The attention output at a row and a column. -/
def attn (q k v : Fin 256 → Fin 64 → EReal) (i : Fin 256) (d : Fin 64) : EReal :=
  (∑ j, if sees i j then Ideal.exp (score q k i j) * v j d else 0) * Ideal.div 1 (∑ j, if sees i j then Ideal.exp (score q k i j) else 0)

/-- The word of one. -/
theorem one_bits : Ideal.ofBits .f32 0x3F800000#32 = 1 := by
  simp [Ideal.ofBits, Ideal.ieee]
  rw [← EReal.coe_mul, ← EReal.coe_one]
  exact congrArg _ (by norm_num)

section Dots

/-- The products of the end rows with the end keys, -/
theorem dot_ends (q k : FVec Ideal S128x64 .bf16) (i j : Fin 128) :
    matmul dot_S128x64_S128x64_S128x128_1_1_0_0_n_n none q k (constant S128x128 .f32 0x00000000#32) (ix2 i j) = ∑ t : Fin 64, q (ix2 i t) * k (ix2 j t) := by
  refine (Ideal.matmul_constant_zero_apply _ _ q k _).trans ?_
  rw [← (contrEquiv1 dot_S128x64_S128x64_S128x128_1_1_0_0_n_n 64 rfl rfl).symm.sum_comp]
  refine Finset.sum_congr rfl fun t _ => congrArg₂ (fun a b => q a * k b) ?_ ?_ <;>
    exact funext fun a => match a with | ⟨0, _⟩ => rfl | ⟨1, _⟩ => rfl

/-- of the middle rows with their keys, -/
theorem dot_mid (q : FVec Ideal S128x64 .bf16) (k : FVec Ideal S192x64 .bf16) (i : Fin 128) (j : Fin 192) :
    matmul dot_S128x64_S192x64_S128x192_1_1_0_0_n_n none q k (constant S128x192 .f32 0x00000000#32) (ix2 i j) = ∑ t : Fin 64, q (ix2 i t) * k (ix2 j t) := by
  refine (Ideal.matmul_constant_zero_apply _ _ q k _).trans ?_
  rw [← (contrEquiv1 dot_S128x64_S192x64_S128x192_1_1_0_0_n_n 64 rfl rfl).symm.sum_comp]
  refine Finset.sum_congr rfl fun t _ => congrArg₂ (fun a b => q a * k b) ?_ ?_ <;>
    exact funext fun a => match a with | ⟨0, _⟩ => rfl | ⟨1, _⟩ => rfl

/-- of the end weights with the values, -/
theorem mul_ends (e : FVec Ideal S128x128 .bf16) (v : FVec Ideal S128x64 .bf16) (i : Fin 128) (d : Fin 64) :
    matmul dot_S128x128_S128x64_S128x64_1_0_0_1_n_n none e v (constant S128x64 .f32 0x00000000#32) (ix2 i d) = ∑ j : Fin 128, e (ix2 i j) * v (ix2 j d) := by
  refine (Ideal.matmul_constant_zero_apply _ _ e v _).trans ?_
  rw [← (contrEquiv1 dot_S128x128_S128x64_S128x64_1_0_0_1_n_n 128 rfl rfl).symm.sum_comp]
  refine Finset.sum_congr rfl fun t _ => congrArg₂ (fun a b => e a * v b) ?_ ?_ <;>
    exact funext fun a => match a with | ⟨0, _⟩ => rfl | ⟨1, _⟩ => rfl

/-- and of the middle weights with theirs. -/
theorem mul_mid (e : FVec Ideal S128x192 .bf16) (v : FVec Ideal S192x64 .bf16) (i : Fin 128) (d : Fin 64) :
    matmul dot_S128x192_S192x64_S128x64_1_0_0_1_n_n none e v (constant S128x64 .f32 0x00000000#32) (ix2 i d) = ∑ j : Fin 192, e (ix2 i j) * v (ix2 j d) := by
  refine (Ideal.matmul_constant_zero_apply _ _ e v _).trans ?_
  rw [← (contrEquiv1 dot_S128x192_S192x64_S128x64_1_0_0_1_n_n 192 rfl rfl).symm.sum_comp]
  refine Finset.sum_congr rfl fun t _ => congrArg₂ (fun a b => e a * v b) ?_ ?_ <;>
    exact funext fun a => match a with | ⟨0, _⟩ => rfl | ⟨1, _⟩ => rfl

end Dots

/-- The row an end block's row is in the whole, -/
def endRow (j : Fin 128) : Fin 256 := ⟨if j.val < 64 then j.val else j.val + 128, by split <;> omega⟩
/-- a middle block's, -/
def midRow (j : Fin 128) : Fin 256 := ⟨64 + j.val, by omega⟩
/-- and a key of the first three blocks. -/
def midKey (j : Fin 192) : Fin 256 := ⟨j.val, by omega⟩

/-- The end rows of an array. -/
theorem ends_apply (t : FVec Ideal S256x64 .bf16) (j : Fin 128) (d : Fin 64) : ends t (ix2 j d) = t (ix2 (endRow j) d) := by
  unfold ends
  by_cases h : j.val < 64
  · refine (concatenate_pair_apply_left (t := S128x64) (s₁ := S64x64) (s₂ := S64x64) (0 : Fin 2) _ _ _ (ix2 j d) rfl (ix2 ⟨j.val, h⟩ d)
      fun b => match b with | ⟨0, _⟩ => rfl | ⟨1, _⟩ => rfl).trans ?_
    exact extractStridedSlice_apply _ t _ _ _ fun a => match a with
      | ⟨0, _⟩ => by show (if j.val < 64 then j.val else j.val + 128) = 0 + j.val; rw [if_pos h, Nat.zero_add]
      | ⟨1, _⟩ => (Nat.zero_add _).symm
  · refine (concatenate_pair_apply_right (t := S128x64) (s₁ := S64x64) (s₂ := S64x64) (0 : Fin 2) _ _ _ (ix2 j d) rfl rfl (ix2 ⟨j.val - 64, by omega⟩ d)
      (fun b => match b with | ⟨0, _⟩ => fun hb => absurd rfl hb | ⟨1, _⟩ => fun _ => rfl)
      (by show j.val - 64 + 64 = j.val; omega)).trans ?_
    exact extractStridedSlice_apply _ t _ _ _ fun a => match a with
      | ⟨0, _⟩ => by show (if j.val < 64 then j.val else j.val + 128) = 192 + (j.val - 64); rw [if_neg h]; omega
      | ⟨1, _⟩ => (Nat.zero_add _).symm

/-- The weights of the end rows, -/
theorem expEnds_apply (q k : FVec Ideal S128x64 .bf16) (i j : Fin 128) :
    expEnds q k (ix2 i j) = Ideal.exp ((∑ t : Fin 64, q (ix2 i t) * k (ix2 j t)) * eighth) := by
  show Ideal.exp (matmul dot_S128x64_S128x64_S128x128_1_1_0_0_n_n none q k (constant S128x128 .f32 0x00000000#32) (ix2 i j) * eighth) = _
  rw [dot_ends]

/-- and of the middle rows. -/
theorem expMid_apply (q : FVec Ideal S128x64 .bf16) (k : FVec Ideal S192x64 .bf16) (i : Fin 128) (j : Fin 192) :
    expMid q k (ix2 i j) = Ideal.exp ((∑ t : Fin 64, q (ix2 i t) * k (ix2 j t)) * eighth) := by
  show Ideal.exp (matmul dot_S128x64_S192x64_S128x192_1_1_0_0_n_n none q k (constant S128x192 .f32 0x00000000#32) (ix2 i j) * eighth) = _
  rw [dot_mid]

/-- A column of row sums spread over the columns. -/
theorem spread_apply (r : FVec Ideal S128 .f32) (i : Fin 128) (d : Fin 64) :
    broadcastTo S128x64 (divf (broadcast S128x1 (Scalar.ofBits .f32 0x3F800000#32 : Ideal .f32)) (shapeCast S128x1 r shapeCasts_S128_S128x1))
      broadcasts_S128x1_S128x64 (ix2 i d) = Ideal.div 1 (r (ix1 i)) := by
  refine (broadcastTo_apply _ _ _ (ix2 (n1 := 1) i 0) fun a => match a with | ⟨0, _⟩ => rfl | ⟨1, _⟩ => rfl).trans ?_
  show Ideal.div (Ideal.ofBits .f32 0x3F800000#32) (shapeCast S128x1 r shapeCasts_S128_S128x1 (ix2 (n1 := 1) i 0)) = _
  rw [one_bits, shapeCast_apply (s := S128) (t := S128x1) r _ _ (ix1 i) (by
    rw [Shape.rowMajor_val_one, Shape.rowMajor_val_two]; show i.val = i.val * 1 + 0; omega)]

/-- The average of the end rows, -/
theorem mixEnds_apply (e : FVec Ideal S128x128 .f32) (v : FVec Ideal S128x64 .bf16) (i : Fin 128) (d : Fin 64) :
    mixEnds e v (ix2 i d) = (∑ j : Fin 128, e (ix2 i j) * v (ix2 j d)) * Ideal.div 1 (∑ j : Fin 128, e (ix2 i j)) := by
  unfold mixEnds
  rw [mulf_apply, spread_apply, mul_ends]
  refine congrArg₂ (fun y z : EReal => y * Ideal.div 1 z) rfl ((Ideal.multiReduction_add_single e _ _ _ _ (ix1 i)).trans
    (Finset.sum_congr rfl fun t _ => congrArg e ?_))
  exact funext fun a => match a with | ⟨0, _⟩ => rfl | ⟨1, _⟩ => rfl

/-- and of the middle rows. -/
theorem mixMid_apply (e : FVec Ideal S128x192 .f32) (v : FVec Ideal S192x64 .bf16) (i : Fin 128) (d : Fin 64) :
    mixMid e v (ix2 i d) = (∑ j : Fin 192, e (ix2 i j) * v (ix2 j d)) * Ideal.div 1 (∑ j : Fin 192, e (ix2 i j)) := by
  unfold mixMid
  rw [mulf_apply, spread_apply, mul_mid]
  refine congrArg₂ (fun y z : EReal => y * Ideal.div 1 z) rfl ((Ideal.multiReduction_add_single e _ _ _ _ (ix1 i)).trans
    (Finset.sum_congr rfl fun t _ => congrArg e ?_))
  exact funext fun a => match a with | ⟨0, _⟩ => rfl | ⟨1, _⟩ => rfl

/-- The rows of the end blocks, -/
theorem around_end (a b : FVec Ideal S128x64 .f32) (i : Fin 128) (d : Fin 64) : around a b (ix2 (endRow i) d) = a (ix2 i d) := by
  unfold around
  rw [truncf_apply]
  by_cases h : i.val < 64
  · refine (concatenate_apply_piece (t := S256x64) (0 : Fin 2) [⟨S64x64, _⟩, ⟨S128x64, b⟩, ⟨S64x64, _⟩] _ _ 0 (by simp) S64x64 _ rfl rfl 0 rfl (ix2 ⟨i.val, h⟩ d)
      (fun b => match b with | ⟨0, _⟩ => fun hb => absurd rfl hb | ⟨1, _⟩ => fun _ => rfl)
      (by show 0 + i.val = (if i.val < 64 then i.val else i.val + 128); rw [if_pos h, Nat.zero_add])).trans ?_
    exact extractStridedSlice_apply _ a _ _ _ fun b => match b with
      | ⟨0, _⟩ => (Nat.zero_add _).symm
      | ⟨1, _⟩ => (Nat.zero_add _).symm
  · refine (concatenate_apply_piece (t := S256x64) (0 : Fin 2) [⟨S64x64, _⟩, ⟨S128x64, b⟩, ⟨S64x64, _⟩] _ _ 2 (by simp) S64x64 _ rfl rfl 192 rfl (ix2 ⟨i.val - 64, by omega⟩ d)
      (fun b => match b with | ⟨0, _⟩ => fun hb => absurd rfl hb | ⟨1, _⟩ => fun _ => rfl)
      (by show 192 + (i.val - 64) = (if i.val < 64 then i.val else i.val + 128); rw [if_neg h]; omega)).trans ?_
    exact extractStridedSlice_apply _ a _ _ _ fun b => match b with
      | ⟨0, _⟩ => by show i.val = 64 + (i.val - 64); omega
      | ⟨1, _⟩ => (Nat.zero_add _).symm

/-- and of the middle ones. -/
theorem around_mid (a b : FVec Ideal S128x64 .f32) (i : Fin 128) (d : Fin 64) : around a b (ix2 (midRow i) d) = b (ix2 i d) := by
  unfold around
  rw [truncf_apply]
  exact concatenate_apply_piece (t := S256x64) (0 : Fin 2) [⟨S64x64, _⟩, ⟨S128x64, b⟩, ⟨S64x64, _⟩] _ _ 1 (by simp) S128x64 _ rfl rfl 64 rfl (ix2 i d)
    (fun b => match b with | ⟨0, _⟩ => fun hb => absurd rfl hb | ⟨1, _⟩ => fun _ => rfl) rfl

/-- Different end rows are different rows, -/
theorem endRow_inj : Function.Injective endRow := fun a b h => by
  have := congrArg Fin.val h
  simp only [endRow] at this
  apply Fin.ext
  split at this <;> split at this <;> omega

/-- and so with the middle keys. -/
theorem midKey_inj : Function.Injective midKey := fun a b h => Fin.ext (by have := congrArg Fin.val h; exact this)

/-- An end row sees the end rows, -/
theorem sees_end (i : Fin 128) (k : Fin 256) : sees (endRow i) k ↔ ∃ j, endRow j = k := by
  constructor
  · intro h
    simp only [sees, endRow] at h
    by_cases hk : k.val < 64
    · exact ⟨⟨k.val, by omega⟩, Fin.ext (if_pos hk)⟩
    · have : 192 ≤ k.val := by split at h <;> omega
      refine ⟨⟨k.val - 128, by omega⟩, Fin.ext ?_⟩
      show (if k.val - 128 < 64 then k.val - 128 else k.val - 128 + 128) = k.val
      rw [if_neg (by omega)]; omega
  · rintro ⟨j, rfl⟩
    simp only [sees, endRow]
    split <;> split <;> omega

/-- and a middle row the first three blocks. -/
theorem sees_mid (i : Fin 128) (k : Fin 256) : sees (midRow i) k ↔ ∃ j, midKey j = k := by
  constructor
  · intro h
    simp only [sees, midRow] at h
    exact ⟨⟨k.val, by omega⟩, rfl⟩
  · rintro ⟨j, rfl⟩
    simp only [sees, midRow, midKey]
    omega

/-- One head is `attn` of its queries, keys and values. -/
theorem headOf_apply (q k v : FVec Ideal S256x64 .bf16) (i : Fin 256) (d : Fin 64) :
    headOf q k v (ix2 i d) = attn (fun i t => q (ix2 i t)) (fun j t => k (ix2 j t)) (fun j d => v (ix2 j d)) i d := by
  unfold headOf
  have hi : (∃ r, endRow r = i) ∨ ∃ r, midRow r = i := by
    by_cases h : i.val < 64
    · exact .inl ⟨⟨i.val, by omega⟩, Fin.ext (if_pos h)⟩
    · by_cases h' : i.val < 192
      · exact .inr ⟨⟨i.val - 64, by omega⟩, Fin.ext (by show 64 + (i.val - 64) = i.val; omega)⟩
      · refine .inl ⟨⟨i.val - 128, by omega⟩, Fin.ext ?_⟩
        show (if i.val - 128 < 64 then i.val - 128 else i.val - 128 + 128) = i.val
        rw [if_neg (by omega)]; omega
  rcases hi with ⟨r, rfl⟩ | ⟨r, rfl⟩
  · rw [around_end, mixEnds_apply]
    simp only [expEnds_apply, ends_apply]
    unfold attn
    rw [← sum_group endRow endRow_inj (sees (endRow r)) (sees_end r), ← sum_group endRow endRow_inj (sees (endRow r)) (sees_end r)]
    rfl
  · have hq : ∀ t : Fin 64, extractStridedSlice S128x64 ![64, 0] q slices_S256x64_o64_0_S128x64 (ix2 r t) = q (ix2 (midRow r) t) := fun t =>
      extractStridedSlice_apply _ q _ _ _ fun b => match b with | ⟨0, _⟩ => rfl | ⟨1, _⟩ => (Nat.zero_add _).symm
    have hk : ∀ (w : FVec Ideal S256x64 .bf16) (j : Fin 192) (t : Fin 64),
        extractStridedSlice S192x64 ![0, 0] w slices_S256x64_o0_0_S192x64 (ix2 j t) = w (ix2 (midKey j) t) := fun w j t =>
      extractStridedSlice_apply _ w _ _ _ fun b => match b with | ⟨0, _⟩ => (Nat.zero_add _).symm | ⟨1, _⟩ => (Nat.zero_add _).symm
    rw [around_mid, mixMid_apply]
    simp only [expMid_apply, hq, hk]
    unfold attn
    rw [← sum_group midKey midKey_inj (sees (midRow r)) (sees_mid r), ← sum_group midKey midKey_inj (sees (midRow r)) (sees_mid r)]
    rfl

end Cert.Talk

end
-- ==== Proof.DeviceRead.lean ====
/-
# One device's products read at an element

The projected queries, the eight heads, the product with the device's rows of `Wo`, and the sum over the devices.
-/
module

public import proofs.«01_k».proof.Proof.HeadRead

@[expose] public section

noncomputable section

namespace Cert.Talk

open Cert.KernelIdeal Cert.KernelIdeal.Gen
open Idealize.ShloMosaic Idealize.ShloMosaic.ValueIdx
open Cert.KernelIdeal.Facts
open Idealize.ShloMosaic.TcCoe

/-- Row `i` of batch `b` in the 512 rows, -/
def row (b : Fin 2) (i : Fin 256) : Fin 512 := ⟨256 * b.val + i.val, by omega⟩
/-- column `d` of head `h` in a device's 256 columns, -/
def col (h : Fin 4) (d : Fin 64) : Fin 256 := ⟨64 * h.val + d.val, by omega⟩
/-- and column `t` of device `c` in all 2048. -/
def wide (c : Fin 8) (t : Fin 256) : Fin 2048 := ⟨256 * c.val + t.val, by omega⟩

/-- A slice of 64 columns from a row and a column on. -/
theorem slice_apply {n m : ℕ} (x : FVec Ideal ⟨2, ![n, m]⟩ .bf16) (o p : ℕ) (hs : (⟨2, ![n, m]⟩ : Shape).Slices ![o, p] S256x64) (i : Fin 256) (d : Fin 64)
    (a : Fin n) (b : Fin m) (ha : a.val = o + i.val) (hb : b.val = p + d.val) : extractStridedSlice S256x64 ![o, p] x hs (ix2 i d) = x (ix2 a b) :=
  extractStridedSlice_apply _ x _ _ _ fun e => match e with | ⟨0, _⟩ => ha | ⟨1, _⟩ => hb

/-- A leading axis of one dropped, -/
theorem flat_apply {n m : ℕ} (x : FVec Ideal ⟨3, ![1, n, m]⟩ .bf16) (h : (⟨3, ![1, n, m]⟩ : Shape).ShapeCasts ⟨2, ![n, m]⟩) (i : Fin n) (j : Fin m) :
    shapeCast ⟨2, ![n, m]⟩ x h (ix2 i j) = x (ix3 (n0 := 1) 0 i j) :=
  shapeCast_apply _ _ _ _ (by
    rw [Shape.rowMajor_val_two, Shape.rowMajor_val_three]
    show (0 * n + i.val) * m + j.val = i.val * m + j.val
    rw [Nat.zero_mul, Nat.zero_add])

/-- and added. -/
theorem unflat_apply {n m : ℕ} (x : FVec Ideal ⟨2, ![n, m]⟩ .bf16) (h : (⟨2, ![n, m]⟩ : Shape).ShapeCasts ⟨3, ![1, n, m]⟩) (i : Fin n) (j : Fin m) :
    shapeCast ⟨3, ![1, n, m]⟩ x h (ix3 (n0 := 1) 0 i j) = x (ix2 i j) :=
  shapeCast_apply _ _ _ _ (by
    rw [Shape.rowMajor_val_two, Shape.rowMajor_val_three]
    show i.val * m + j.val = (0 * n + i.val) * m + j.val
    rw [Nat.zero_mul, Nat.zero_add])

/-- Four heads beside each other, at a column of one. -/
theorem beside_apply (a : Fin 4 → FVec Ideal S256x64 .bf16) (i : Fin 256) (h : Fin 4) (d : Fin 64) :
    beside (a 0) (a 1) (a 2) (a 3) (ix2 i (col h d)) = a h (ix2 i d) := by
  unfold beside
  match h with
  | 0 =>
    exact concatenate_apply_piece (t := S256x256) (1 : Fin 2) [⟨S256x64, a 0⟩, ⟨S256x64, a 1⟩, ⟨S256x64, a 2⟩, ⟨S256x64, a 3⟩] _ _ 0 (by simp) S256x64 _ rfl rfl 0 rfl (ix2 i d)
      (fun b => match b with | ⟨0, _⟩ => fun _ => rfl | ⟨1, _⟩ => fun hb => absurd rfl hb) rfl
  | 1 =>
    exact concatenate_apply_piece (t := S256x256) (1 : Fin 2) [⟨S256x64, a 0⟩, ⟨S256x64, a 1⟩, ⟨S256x64, a 2⟩, ⟨S256x64, a 3⟩] _ _ 1 (by simp) S256x64 _ rfl rfl 64 rfl (ix2 i d)
      (fun b => match b with | ⟨0, _⟩ => fun _ => rfl | ⟨1, _⟩ => fun hb => absurd rfl hb) rfl
  | 2 =>
    exact concatenate_apply_piece (t := S256x256) (1 : Fin 2) [⟨S256x64, a 0⟩, ⟨S256x64, a 1⟩, ⟨S256x64, a 2⟩, ⟨S256x64, a 3⟩] _ _ 2 (by simp) S256x64 _ rfl rfl 128 rfl (ix2 i d)
      (fun b => match b with | ⟨0, _⟩ => fun _ => rfl | ⟨1, _⟩ => fun hb => absurd rfl hb) rfl
  | 3 =>
    exact concatenate_apply_piece (t := S256x256) (1 : Fin 2) [⟨S256x64, a 0⟩, ⟨S256x64, a 1⟩, ⟨S256x64, a 2⟩, ⟨S256x64, a 3⟩] _ _ 3 (by simp) S256x64 _ rfl rfl 192 rfl (ix2 i d)
      (fun b => match b with | ⟨0, _⟩ => fun _ => rfl | ⟨1, _⟩ => fun hb => absurd rfl hb) rfl

/-- Two batches above each other, at a row of one. -/
theorem above_apply (a : Fin 2 → FVec Ideal S256x256 .bf16) (b : Fin 2) (i j : Fin 256) : above (a 0) (a 1) (ix2 (row b i) j) = a b (ix2 i j) := by
  unfold above
  match b with
  | 0 =>
    exact concatenate_apply_piece (t := S512x256) (0 : Fin 2) [⟨S256x256, a 0⟩, ⟨S256x256, a 1⟩] _ _ 0 (by simp) S256x256 _ rfl rfl 0 rfl (ix2 i j)
      (fun b => match b with | ⟨0, _⟩ => fun hb => absurd rfl hb | ⟨1, _⟩ => fun _ => rfl) rfl
  | 1 =>
    exact concatenate_apply_piece (t := S512x256) (0 : Fin 2) [⟨S256x256, a 0⟩, ⟨S256x256, a 1⟩] _ _ 1 (by simp) S256x256 _ rfl rfl 256 rfl (ix2 i j)
      (fun b => match b with | ⟨0, _⟩ => fun hb => absurd rfl hb | ⟨1, _⟩ => fun _ => rfl) rfl

/-- The projection, -/
theorem dot_proj (x : FVec Ideal S512x512 .bf16) (w : FVec Ideal S512x256 .bf16) (i : Fin 512) (j : Fin 256) :
    matmul dot_S512x512_S512x256_S512x256_1_0_0_1_n_n none x w (constant S512x256 .f32 0x00000000#32) (ix2 i j) = ∑ t : Fin 512, x (ix2 i t) * w (ix2 t j) := by
  refine (Ideal.matmul_constant_zero_apply _ _ x w _).trans ?_
  rw [← (contrEquiv1 dot_S512x512_S512x256_S512x256_1_0_0_1_n_n 512 rfl rfl).symm.sum_comp]
  refine Finset.sum_congr rfl fun t _ => congrArg₂ (fun a b => x a * w b) ?_ ?_ <;>
    exact funext fun a => match a with | ⟨0, _⟩ => rfl | ⟨1, _⟩ => rfl

/-- and the output product, at an element. -/
theorem dot_out (y : FVec Ideal S512x256 .bf16) (w : FVec Ideal S256x512 .bf16) (i : Fin 512) (n : Fin 512) :
    matmul dot_S512x256_S256x512_S512x512_1_0_0_1_n_n none y w (constant S512x512 .f32 0x00000000#32) (ix2 i n) = ∑ t : Fin 256, y (ix2 i t) * w (ix2 t n) := by
  refine (Ideal.matmul_constant_zero_apply _ _ y w _).trans ?_
  rw [← (contrEquiv1 dot_S512x256_S256x512_S512x512_1_0_0_1_n_n 256 rfl rfl).symm.sum_comp]
  refine Finset.sum_congr rfl fun t _ => congrArg₂ (fun a b => y a * w b) ?_ ?_ <;>
    exact funext fun a => match a with | ⟨0, _⟩ => rfl | ⟨1, _⟩ => rfl

/-- The kernel's projection, -/
theorem pay1_apply (w : FVec Ideal S512x256 .bf16) (x : FVec Ideal S512x512 .bf16) (i : Fin 512) (j : Fin 256) :
    k0_pay1 w x (ix2 i j) = ∑ t : Fin 512, x (ix2 i t) * w (ix2 t j) := by
  show matmul dot_S512x512_S512x256_S512x256_1_0_0_1_n_n none (shapeCast S512x512 x shapeCasts_S512x512_S512x512)
    (shapeCast S512x256 w shapeCasts_S512x256_S512x256) (constant S512x256 .f32 0x00000000#32) (ix2 i j) = _
  rw [shapeCast_self, shapeCast_self, dot_proj]

/-- and its output product. -/
theorem pay56_read (y : FVec Ideal S512x256 .bf16) (w : FVec Ideal S256x512 .bf16) (i n : Fin 512) :
    k0_pay56 y w (ix2 i n) = ∑ t : Fin 256, y (ix2 i t) * w (ix2 t n) := by
  show matmul dot_S512x256_S256x512_S512x512_1_0_0_1_n_n none y (shapeCast S256x512 w shapeCasts_S256x512_S256x512)
    (constant S512x512 .f32 0x00000000#32) (ix2 i n) = _
  rw [shapeCast_self, dot_out]

namespace Ins

variable (I : Ins Ideal) (c : Dev nD)

/-- The projected queries. -/
def proj (i : Fin 512) (j : Fin 256) : EReal := ∑ t : Fin 512, I.x (ix2 i t) * I.wq (ix2 t j)

/-- What is loaded is the input: the query weights, -/
theorem lq_eq : I.lq = I.wq := funext fun y => congrArg I.wq (funext fun a => Fin.ext (by
  match a with
  | ⟨0, _⟩ => show 0 + 1 * (y 0).val = (y 0).val; omega
  | ⟨1, _⟩ => show 0 + 1 * (y 1).val = (y 1).val; omega))
/-- the hidden states, -/
theorem lx_eq : I.lx = I.x := funext fun y => congrArg I.x (funext fun a => Fin.ext (by
  match a with
  | ⟨0, _⟩ => show 0 + 1 * (y 0).val = (y 0).val; omega
  | ⟨1, _⟩ => show 0 + 1 * (y 1).val = (y 1).val; omega))
/-- and the output weights. -/
theorem lo_eq : I.lo = I.wo := funext fun y => congrArg I.wo (funext fun a => Fin.ext (by
  match a with
  | ⟨0, _⟩ => show 0 + 1 * (y 0).val = (y 0).val; omega
  | ⟨1, _⟩ => show 0 + 1 * (y 1).val = (y 1).val; omega))

/-- The queries are the projection. -/
theorem q_apply (i : Fin 512) (j : Fin 256) : I.q (ix2 i j) = I.proj i j := by
  refine (pay1_apply I.lq I.lx i j).trans ?_
  rw [lq_eq, lx_eq]
  rfl

/-- The loaded keys and values of either batch are the own columns. -/
theorem own1 (f : S2x256x2048.Idx → EReal) (j t : Fin 256) :
    f ((Rect.unit (s := S2x256x2048) (k0_off1 c) S1x256x256.size (k0_off1_inb c)).emb (ix3 (n0 := 1) 0 j t)) = f (ix3 (n0 := 2) 0 j (wide c t)) :=
  congrArg f (funext fun a => Fin.ext (by
    have h := congrFun (k0_off1_eq c)
    match a with
    | ⟨0, _⟩ => show k0_off1 c 0 + 1 * 0 = 0; rw [h]; rfl
    | ⟨1, _⟩ => show k0_off1 c 1 + 1 * j.val = j.val; rw [h]; show 0 + 1 * j.val = _; omega
    | ⟨2, _⟩ => show k0_off1 c 2 + 1 * t.val = 256 * c.val + t.val; rw [h]; show 256 * c.val + 1 * t.val = _; omega))
/-- So with the second batch. -/
theorem own2 (f : S2x256x2048.Idx → EReal) (j t : Fin 256) :
    f ((Rect.unit (s := S2x256x2048) (k0_off2 c) S1x256x256.size (k0_off2_inb c)).emb (ix3 (n0 := 1) 0 j t)) = f (ix3 (n0 := 2) 1 j (wide c t)) :=
  congrArg f (funext fun a => Fin.ext (by
    have h := congrFun (k0_off2_eq c)
    match a with
    | ⟨0, _⟩ => show k0_off2 c 0 + 1 * 0 = 1; rw [h]; rfl
    | ⟨1, _⟩ => show k0_off2 c 1 + 1 * j.val = j.val; rw [h]; show 0 + 1 * j.val = _; omega
    | ⟨2, _⟩ => show k0_off2 c 2 + 1 * t.val = 256 * c.val + t.val; rw [h]; show 256 * c.val + 1 * t.val = _; omega))

/-- The own keys of the first batch, -/
theorem kb1_apply (j t : Fin 256) : I.kb1 c (ix2 j t) = I.k (ix3 (n0 := 2) 0 j (wide c t)) := (flat_apply (I.lk1 c) _ j t).trans (own1 c I.k j t)
/-- the own values, -/
theorem vb1_apply (j t : Fin 256) : I.vb1 c (ix2 j t) = I.v (ix3 (n0 := 2) 0 j (wide c t)) := (flat_apply (I.lv1 c) _ j t).trans (own1 c I.v j t)
/-- the own keys of the second, -/
theorem kb2_apply (j t : Fin 256) : I.kb2 c (ix2 j t) = I.k (ix3 (n0 := 2) 1 j (wide c t)) := (flat_apply (I.lk2 c) _ j t).trans (own2 c I.k j t)
/-- and the own values. -/
theorem vb2_apply (j t : Fin 256) : I.vb2 c (ix2 j t) = I.v (ix3 (n0 := 2) 1 j (wide c t)) := (flat_apply (I.lv2 c) _ j t).trans (own2 c I.v j t)

/-- The attention output of head `h` of device `c`, for batch `b`. -/
def ctx (b : Fin 2) (h : Fin 4) (i : Fin 256) (d : Fin 64) : EReal :=
  attn (fun i t => I.proj (row b i) (col h t)) (fun j t => I.k (ix3 b j (wide c (col h t)))) (fun j d => I.v (ix3 b j (wide c (col h d)))) i d

/-- A head whose queries, keys and values are slices of the device's, -/
theorem head_read (b : Fin 2) (h : Fin 4) (kb vb : FVec Ideal S256x256 .bf16) (hk : ∀ j t, kb (ix2 j t) = I.k (ix3 b j (wide c t)))
    (hv : ∀ j t, vb (ix2 j t) = I.v (ix3 b j (wide c t))) (o p : ℕ) (ho : o = 256 * b.val) (hp : p = 64 * h.val)
    (hs : S512x256.Slices ![o, p] S256x64) (hs' : S256x256.Slices ![0, p] S256x64) (i : Fin 256) (d : Fin 64) :
    headOf (extractStridedSlice S256x64 ![o, p] I.q hs) (extractStridedSlice S256x64 ![0, p] kb hs') (extractStridedSlice S256x64 ![0, p] vb hs') (ix2 i d)
      = I.ctx c b h i d := by
  subst ho; subst hp
  rw [headOf_apply]
  unfold ctx
  have e1 : (fun (i : Fin 256) (t : Fin 64) => extractStridedSlice S256x64 ![256 * b.val, 64 * h.val] I.q hs (ix2 i t)) = fun i t => I.proj (row b i) (col h t) :=
    funext fun i => funext fun t => (slice_apply I.q _ _ hs i t (row b i) (col h t) rfl rfl).trans (I.q_apply _ _)
  have e2 : ∀ (x : FVec Ideal S256x256 .bf16) (f : S2x256x2048.Idx → EReal), (∀ j t, x (ix2 j t) = f (ix3 b j (wide c t))) →
      (fun (i : Fin 256) (t : Fin 64) => extractStridedSlice S256x64 ![0, 64 * h.val] x hs' (ix2 i t)) = fun j t => f (ix3 b j (wide c (col h t))) := fun x f hx =>
    funext fun i => funext fun t => (slice_apply x _ _ hs' i t i (col h t) (Nat.zero_add _).symm rfl).trans (hx _ _)
  exact congrFun (congrFun (congr (congr (congrArg attn e1) (e2 kb I.k hk)) (e2 vb I.v hv)) i) d

/-- so every head is its attention output. -/
theorem heads_apply (b : Fin 2) (i : Fin 256) (h : Fin 4) (d : Fin 64) : I.heads c (ix2 (row b i) (col h d)) = I.ctx c b h i d := by
  rw [heads_eq, all1_eq]
  refine (above_apply ![beside (I.head0 c) (I.head1 c) (I.head2 c) (I.head3 c), beside (I.head4 c) (I.head5 c) (I.head6 c) (I.head7 c)] b i (col h d)).trans ?_
  match b with
  | 0 =>
    refine (beside_apply ![I.head0 c, I.head1 c, I.head2 c, I.head3 c] i h d).trans ?_
    match h with
    | 0 => exact (congrFun (I.head0_eq c) _).trans (I.head_read c 0 0 _ _ (I.kb1_apply c) (I.vb1_apply c) 0 0 rfl rfl slices_S512x256_o0_0_S256x64 slices_S256x256_o0_0_S256x64 i d)
    | 1 => exact (congrFun (I.head1_eq c) _).trans (I.head_read c 0 1 _ _ (I.kb1_apply c) (I.vb1_apply c) 0 64 rfl rfl slices_S512x256_o0_64_S256x64 slices_S256x256_o0_64_S256x64 i d)
    | 2 => exact (congrFun (I.head2_eq c) _).trans (I.head_read c 0 2 _ _ (I.kb1_apply c) (I.vb1_apply c) 0 128 rfl rfl slices_S512x256_o0_128_S256x64 slices_S256x256_o0_128_S256x64 i d)
    | 3 => exact I.head_read c 0 3 _ _ (I.kb1_apply c) (I.vb1_apply c) 0 192 rfl rfl slices_S512x256_o0_192_S256x64 slices_S256x256_o0_192_S256x64 i d
  | 1 =>
    refine (beside_apply ![I.head4 c, I.head5 c, I.head6 c, I.head7 c] i h d).trans ?_
    match h with
    | 0 => exact (congrFun (I.head4_eq c) _).trans (I.head_read c 1 0 _ _ (I.kb2_apply c) (I.vb2_apply c) 256 0 rfl rfl slices_S512x256_o256_0_S256x64 slices_S256x256_o0_0_S256x64 i d)
    | 1 => exact (congrFun (I.head5_eq c) _).trans (I.head_read c 1 1 _ _ (I.kb2_apply c) (I.vb2_apply c) 256 64 rfl rfl slices_S512x256_o256_64_S256x64 slices_S256x256_o0_64_S256x64 i d)
    | 2 => exact I.head_read c 1 2 _ _ (I.kb2_apply c) (I.vb2_apply c) 256 128 rfl rfl slices_S512x256_o256_128_S256x64 slices_S256x256_o0_128_S256x64 i d
    | 3 => exact I.head_read c 1 3 _ _ (I.kb2_apply c) (I.vb2_apply c) 256 192 rfl rfl slices_S512x256_o256_192_S256x64 slices_S256x256_o0_192_S256x64 i d

/-- The product with the own rows of `Wo`. -/
def prod (i n : Fin 512) : EReal := ∑ t : Fin 256, I.heads c (ix2 i t) * I.wo (ix2 t n)

/-- The output product is the partial sum, -/
theorem pay56_apply (i n : Fin 512) : k0_pay56 (I.heads c) I.lo (ix2 i n) = I.prod c i n := by
  refine (pay56_read (I.heads c) I.lo i n).trans ?_
  rw [lo_eq]
  rfl

/-- and a slice of its rows is its rows. -/
theorem rows_apply (M : FVec Ideal S512x512 .f32) (o : ℕ) (hs : S512x512.Slices ![o, 0] S64x512) (r : Fin 64) (n : Fin 512) (i : Fin 512) (hi : i.val = o + r.val) :
    shapeCast S1x64x512 (truncf .bf16 (extractStridedSlice S64x512 ![o, 0] M hs) bitsLt_bf16_f32) shapeCasts_S64x512_S1x64x512 (ix3 (n0 := 1) 0 r n) = M (ix2 i n) :=
  (unflat_apply (n := 64) (m := 512) _ _ r n).trans (extractStridedSlice_apply _ M hs _ _ fun a => match a with
    | ⟨0, _⟩ => hi
    | ⟨1, _⟩ => (Nat.zero_add _).symm)

/-- Chunk `j` is rows `64 j` to `64 j + 63` of that product. -/
theorem chunk_apply (j : Fin 8) (r : Fin 64) (n i : Fin 512) (hi : i.val = 64 * j.val + r.val) : I.chunk c j (ix3 (n0 := 1) 0 r n) = I.prod c i n := by
  rw [← I.pay56_apply c i n]
  match j with
  | 0 => exact rows_apply _ 0 slices_S512x512_o0_0_S64x512 r n i hi
  | 1 => exact rows_apply _ 64 slices_S512x512_o64_0_S64x512 r n i hi
  | 2 => exact rows_apply _ 128 slices_S512x512_o128_0_S64x512 r n i hi
  | 3 => exact rows_apply _ 192 slices_S512x512_o192_0_S64x512 r n i hi
  | 4 => exact rows_apply _ 256 slices_S512x512_o256_0_S64x512 r n i hi
  | 5 => exact rows_apply _ 320 slices_S512x512_o320_0_S64x512 r n i hi
  | 6 => exact rows_apply _ 384 slices_S512x512_o384_0_S64x512 r n i hi
  | 7 => exact rows_apply _ 448 slices_S512x512_o448_0_S64x512 r n i hi

end Ins

/-- A sum over the devices, taken from `c` downwards round the ring. -/
theorem sum_ring (c : Fin 8) (f : Fin 8 → EReal) :
    f c + f (dn c 0) + f (dn c 1) + f (dn c 2) + f (dn c 3) + f (dn c 4) + f (dn c 5) + f (dn c 6) = ∑ j, f j := by
  have h0 : ∀ c : Fin 8, c - 0 = c := by decide
  have h1 : ∀ c : Fin 8, c - 1 = dn c 0 := by decide
  have h2 : ∀ c : Fin 8, c - 2 = dn c 1 := by decide
  have h3 : ∀ c : Fin 8, c - 3 = dn c 2 := by decide
  have h4 : ∀ c : Fin 8, c - 4 = dn c 3 := by decide
  have h5 : ∀ c : Fin 8, c - 5 = dn c 4 := by decide
  have h6 : ∀ c : Fin 8, c - 6 = dn c 5 := by decide
  have h7 : ∀ c : Fin 8, c - 7 = dn c 6 := by decide
  rw [← (Equiv.subLeft c).sum_comp f, Fin.sum_univ_eight]
  simp only [Equiv.subLeft_apply, h0, h1, h2, h3, h4, h5, h6, h7]

/-- What device `c` sums: every device's chunk for it. -/
theorem total_apply (P : Part Ideal) (c : Fin 8) (r : Fin 64) (n : Fin 512) : total P c (ix2 r n) = ∑ j : Fin 8, P j c (ix3 (n0 := 1) 0 r n) := by
  have e : ∀ x : S1x64x512.Idx → EReal, shapeCast S64x512 (x : FVec Ideal S1x64x512 .bf16) shapeCasts_S1x64x512_S64x512 (ix2 r n) = x (ix3 (n0 := 1) 0 r n) := fun x =>
    flat_apply (n := 64) (m := 512) x _ r n
  rw [← sum_ring c fun j => P j c (ix3 (n0 := 1) 0 r n)]
  show shapeCast S64x512 (k0_pay68 _ _ _) shapeCasts_S64x512_S64x512 (ix2 r n) = _
  rw [shapeCast_self]
  show shapeCast S64x512 (P c c) shapeCasts_S1x64x512_S64x512 (ix2 r n) + shapeCast S64x512 (P (dn c 0) c) shapeCasts_S1x64x512_S64x512 (ix2 r n)
    + shapeCast S64x512 (P (dn c 1) c) shapeCasts_S1x64x512_S64x512 (ix2 r n) + shapeCast S64x512 (P (dn c 2) c) shapeCasts_S1x64x512_S64x512 (ix2 r n)
    + shapeCast S64x512 (P (dn c 3) c) shapeCasts_S1x64x512_S64x512 (ix2 r n) + shapeCast S64x512 (P (dn c 4) c) shapeCasts_S1x64x512_S64x512 (ix2 r n)
    + shapeCast S64x512 (P (dn c 5) c) shapeCasts_S1x64x512_S64x512 (ix2 r n) + shapeCast S64x512 (P (dn c 6) c) shapeCasts_S1x64x512_S64x512 (ix2 r n) = _
  rw [e, e, e, e, e, e, e, e]

end Cert.Talk

end
-- ==== Proof.KernelValue.lean ====
/-
# The kernel's result at an element
-/
module

public import proofs.«01_k».proof.Proof.Launch
public import proofs.«01_k».proof.Proof.DeviceRead
public import Idealize.ShloMosaic.Lib.StableHlo.RunRead

@[expose] public section

noncomputable section

namespace Cert.Talk

open Cert.KernelIdeal Cert.KernelIdeal.Gen
open Idealize.ShloMosaic Idealize.ShloMosaic.ValueIdx
open Cert.KernelIdeal.Facts
open Idealize.ShloMosaic.TcCoe

/-- Rows of two batches as rows of one array. -/
theorem join_rows (x : FVec Ideal S2x256x512 .bf16) (h : S2x256x512.ShapeCasts S512x512) (b : Fin 2) (i : Fin 256) (n : Fin 512) :
    shapeCast S512x512 x h (ix2 (row b i) n) = x (ix3 b i n) :=
  shapeCast_apply (s := S2x256x512) (t := S512x512) x h _ (ix3 b i n) (by
    rw [Shape.rowMajor_val_two, Shape.rowMajor_val_three]
    show (b.val * 256 + i.val) * 512 + n.val = (256 * b.val + i.val) * 512 + n.val
    rw [Nat.mul_comm b.val])

/-- and back. -/
theorem part_rows (x : FVec Ideal S512x512 .bf16) (h : S512x512.ShapeCasts S2x256x512) (b : Fin 2) (i : Fin 256) (n : Fin 512) :
    shapeCast S2x256x512 x h (ix3 b i n) = x (ix2 (row b i) n) :=
  shapeCast_apply (s := S512x512) (t := S2x256x512) x h _ (ix2 (row b i) n) (by
    rw [Shape.rowMajor_val_two, Shape.rowMajor_val_three]
    show (256 * b.val + i.val) * 512 + n.val = (b.val * 256 + i.val) * 512 + n.val
    rw [Nat.mul_comm b.val])

/-- Column `t` of the heads side by side is column `t % 64` of head `t / 64`. -/
theorem join_heads (x : FVec Ideal S2x256x32x64 .bf16) (h : S2x256x32x64.ShapeCasts S2x256x2048) (b : Fin 2) (j : Fin 256) (t : Fin 2048) :
    shapeCast S2x256x2048 x h (ix3 b j t)
      = x (ix4 (n0 := 2) (n1 := 256) (n2 := 32) (n3 := 64) b j ⟨t.val / 64, by omega⟩ ⟨t.val % 64, Nat.mod_lt _ (by norm_num)⟩) :=
  shapeCast_apply (s := S2x256x32x64) (t := S2x256x2048) x h _ (ix4 (n0 := 2) (n1 := 256) (n2 := 32) (n3 := 64) b j ⟨t.val / 64, by omega⟩ ⟨t.val % 64, Nat.mod_lt _ (by norm_num)⟩) (by
    rw [Shape.rowMajor_val_three, Shape.rowMajor_val_four]
    show ((b.val * 256 + j.val) * 32 + t.val / 64) * 64 + t.val % 64 = (b.val * 256 + j.val) * 2048 + t.val
    omega)

section Launched

variable (m : (ℓ : Loc nD τ sig) → Buf (Elt Ideal) ℓ)

/-- A device's inputs: the hidden states with their batches joined, -/
theorem J_x (c : Dev nD) : (J m c).x = shapeCast S512x512 (m ((c.tc : Thread nD τ).loc main_arg0)) shapeCasts_S2x256x512_S512x512 := by
  show StableHlo.after hostOps0 (fun b => m (c, b)) (Proc.devRef .tc main_v3) = _
  after_reads_simp
  rfl
/-- the keys with their heads joined, -/
theorem J_k (c : Dev nD) : (J m c).k = shapeCast S2x256x2048 (m ((c.tc : Thread nD τ).loc main_arg2)) shapeCasts_S2x256x32x64_S2x256x2048 := by
  show StableHlo.after hostOps0 (fun b => m (c, b)) (Proc.devRef .tc main_v1) = _
  after_reads_simp
  rfl
/-- the values with theirs, -/
theorem J_v (c : Dev nD) : (J m c).v = shapeCast S2x256x2048 (m ((c.tc : Thread nD τ).loc main_arg3)) shapeCasts_S2x256x32x64_S2x256x2048 := by
  show StableHlo.after hostOps0 (fun b => m (c, b)) (Proc.devRef .tc main_v2) = _
  after_reads_simp
  rfl
/-- the query weights -/
theorem J_wq (c : Dev nD) : (J m c).wq = m ((c.tc : Thread nD τ).loc main_arg1) := V_main_arg1 m c
/-- and the output weights as they are. -/
theorem J_wo (c : Dev nD) : (J m c).wo = m ((c.tc : Thread nD τ).loc main_arg4) := V_main_arg4 m c

/-- The result is the gathered array with its batches parted. -/
theorem V2_result (c : Dev nD) : V2 m c (Proc.devRef .tc main_v5) = shapeCast S2x256x512 (gathered (Am m)) shapeCasts_S512x512_S2x256x512 := by
  unfold V2
  after_reads_simp
  rw [V1_out]
  rfl

/-- Row `64 j + r` of the gathered array is row `r` of device `j`'s. -/
theorem gathered_apply (A : Sum Ideal) (j : Fin 8) (r : Fin 64) (n : Fin 512) (i : Fin 512) (hi : i.val = 64 * j.val + r.val) :
    gathered A (ix2 i n) = A j (ix2 r n) := by
  have e : (rowsR j).emb (ix2 r n) = ix2 i n := funext fun a => match a with
    | ⟨0, _⟩ => Fin.ext (by
        show 64 * j.val + 1 * r.val = i.val
        omega)
    | ⟨1, _⟩ => Fin.ext (by
        show 0 + 1 * n.val = n.val
        omega)
  rw [← e]
  exact Rect.glue_emb rowsR rowsR_cover rowsR_disjoint A j (ix2 r n)

/-- **The kernel's result**: the sum over the devices of their products. -/
theorem result_apply (c : Dev nD) (b : Fin 2) (i : Fin 256) (n : Fin 512) :
    V2 m c (Proc.devRef .tc main_v5) (ix3 b i n) = ∑ d : Fin 8, (J m d).prod d (row b i) n := by
  rw [V2_result]
  refine (part_rows (gathered (Am m)) shapeCasts_S512x512_S2x256x512 b i n).trans ?_
  have hlt := (row b i).isLt
  have hd : (row b i).val = 64 * ((⟨(row b i).val / 64, by omega⟩ : Fin 8)).val + ((⟨(row b i).val % 64, Nat.mod_lt _ (by norm_num)⟩ : Fin 64)).val := by
    show _ = 64 * ((row b i).val / 64) + (row b i).val % 64
    omega
  rw [gathered_apply (Am m) _ _ n (row b i) hd]
  refine (total_apply (Pm m) _ _ n).trans (Finset.sum_congr rfl fun d _ => ?_)
  exact Ins.chunk_apply (J m d) d _ _ n (row b i) hd

end Launched

end Cert.Talk

end
-- ==== Proof.RefTerm.lean ====
/-
# What the reference computes, stage by stage

The stages of the reference's host program as definitions over arrays, and its result as their composition.
-/
module

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Lib.StableHlo.RunRead

@[expose] public section

noncomputable section

namespace Cert.Plain

open Cert.ReferenceIdeal Cert.ReferenceIdeal.Gen
open Idealize.ShloMosaic
open Cert.ReferenceIdeal.Facts
open Idealize.ShloMosaic.TcCoe

section Mask

/-- Division rounding down, of 256 integers by one. -/
def fdiv (x : IVec S256 32) (c : IVec S_ 32) : IVec S256 32 :=
  select (andi (cmpi .ne (signi x) (broadcastInDim S256 ![] bcast_S_S256 (signi c)))
      (cmpi .ne (Host.remsi x (broadcastInDim S256 ![] bcast_S_S256 c)) (broadcastInDim S256 ![] bcast_S_S256 (constantI S_ 32 0#32))))
    (subi (Host.divsi x (broadcastInDim S256 ![] bcast_S_S256 c)) (broadcastInDim S256 ![] bcast_S_S256 (constantI S_ 32 1#32)))
    (Host.divsi x (broadcastInDim S256 ![] bcast_S_S256 c))

/-- The number of each position's block. -/
def block : IVec S256 32 := fdiv (iotaInDim S256 32 0) (constantI S_ 32 64#32)

/-- The divisor of a remainder, one in place of zero. -/
def nonzero (c : IVec S_ 32) : IVec S_ 32 := select (cmpi .eq c (constantI S_ 32 0#32)) (constantI S_ 32 1#32) c

/-- The remainder with the divisor's sign. -/
def frem (x : IVec S256x256 32) (c : IVec S_ 32) : IVec S256x256 32 :=
  select (andi (cmpi .ne
        (cmpi .slt (Host.remsi x (broadcastInDim S256x256 ![] bcast_S_S256x256 (nonzero c))) (broadcastInDim S256x256 ![] bcast_S_S256x256 (constantI S_ 32 0#32)))
        (broadcastInDim S256x256 ![] bcast_S_S256x256 (cmpi .slt (nonzero c) (constantI S_ 32 0#32))))
      (cmpi .ne (Host.remsi x (broadcastInDim S256x256 ![] bcast_S_S256x256 (nonzero c))) (broadcastInDim S256x256 ![] bcast_S_S256x256 (constantI S_ 32 0#32))))
    (addi (Host.remsi x (broadcastInDim S256x256 ![] bcast_S_S256x256 (nonzero c))) (broadcastInDim S256x256 ![] bcast_S_S256x256 (nonzero c)))
    (Host.remsi x (broadcastInDim S256x256 ![] bcast_S_S256x256 (nonzero c)))

/-- A column of numbers over all the keys, and a line of them over all the rows. -/
def down (r : IVec S256x1 32) : IVec S256x256 32 := broadcastInDim S256x256 ![0, 1] bcast_S256x1_S256x256_0_1 r
/-- A row laid along the columns. -/
def across (l : IVec S1x256 32) : IVec S256x256 32 := broadcastInDim S256x256 ![0, 1] bcast_S1x256_S256x256_0_1 l
/-- The blocks as a row. -/
def line (b : IVec S256 32) : IVec S1x256 32 := broadcastInDim S1x256 ![1] bcast_S256_S1x256_1 b

/-- A row sees the keys of its own block and of block zero. -/
def nearMask (r : IVec S256x1 32) (b : IVec S256 32) : IVec S256x256 1 :=
  ori (cmpi .eq (down r) (across (line b)))
    (broadcastInDim S256x256 ![0, 1] bcast_S1x256_S256x256_0_1 (cmpi .eq (line b) (broadcastInDim S1x256 ![] bcast_S_S1x256 (constantI S_ 32 0#32))))

/-- The sums of the row's block and the key's. -/
def blockSum (r : IVec S256x1 32) (b : IVec S256 32) : IVec S256x256 32 := addi (down r) (across (line b))

/-- And those where the sum's remainder is zero. -/
def fullMask (p : IVec S256x256 1) (s : IVec S256x256 32) : IVec S256x256 1 :=
  ori p (cmpi .eq s (broadcastInDim S256x256 ![] bcast_S_S256x256 (constantI S_ 32 0#32)))

/-- The rows' blocks, down a column. -/
def rowBlock : IVec S256x1 32 := broadcastInDim S256x1 ![0] bcast_S256_S256x1_0 block

/-- The mask. -/
def mask : IVec S256x256 1 := fullMask (nearMask rowBlock block) (frem (blockSum rowBlock block) (constantI S_ 32 3#32))

/-- Whether a row sees any key. -/
def keep (p : IVec S256x256 1) : IVec S256 1 := Host.reduce IntOp.ori p (constantI S_ 1 0#1) reducesTo_S256x256_S256_d1 h_S_

end Mask

variable {F : FTy → Type} [FloatOps F]

/-- The projected queries, by head. -/
def queries (x : FVec F S2x256x512 .bf16) (w : FVec F S512x2048 .bf16) : FVec F S2x256x32x64 .bf16 :=
  shapeCast S2x256x32x64 (truncf .bf16 (Host.dotGeneral dot_S2x256x512_S512x2048_S2x256x2048_2_0_01_1_n_n none x w) bitsLt_bf16_f32) shapeCasts_S2x256x2048_S2x256x32x64

/-- The scaled scores. -/
def scores (q k : FVec F S2x256x32x64 .bf16) : FVec F S2x32x256x256 .f32 :=
  mulf (extf .f32 (truncf .bf16 (Host.dotGeneral dot_S2x256x32x64_S2x256x32x64_S2x32x256x256_3_3_1_1_02_02 none q k) bitsLt_bf16_f32) bitsLt_bf16_f32)
    (broadcastInDim S2x32x256x256 ![] bcast_S_S2x32x256x256 (constant S_ .f32 0x3E000000#32))

/-- The scores with the hidden keys' replaced. -/
def shown (p : IVec S256x256 1) (neg : FVec F S256x256 .f32) (s : FVec F S2x32x256x256 .f32) : FVec F S2x32x256x256 .f32 :=
  select (broadcastInDim S2x32x256x256 ![0, 1, 2, 3] bcast_S1x1x256x256_S2x32x256x256_0_1_2_3 (broadcastInDim S1x1x256x256 ![2, 3] bcast_S256x256_S1x1x256x256_2_3 p)) s
    (broadcastInDim S2x32x256x256 ![0, 1, 2, 3] bcast_S1x1x256x256_S2x32x256x256_0_1_2_3 (broadcastInDim S1x1x256x256 ![2, 3] bcast_S256x256_S1x1x256x256_2_3 neg))

/-- A number for each row over all its keys. -/
def along (r : FVec F S2x32x256x1 .f32) : FVec F S2x32x256x256 .f32 :=
  broadcastInDim S2x32x256x256 ![0, 1, 2, 3] bcast_S2x32x256x1_S2x32x256x256_0_1_2_3 r

/-- The exponentials of the scores less the row's largest. -/
def weigh (l : FVec F S2x32x256x256 .f32) : FVec F S2x32x256x256 .f32 :=
  Host.exp (subf l (along (broadcastInDim S2x32x256x1 ![0, 1, 2] bcast_S2x32x256_S2x32x256x1_0_1_2
    (Host.reduce FloatOps.maximumf l (constant S_ .f32 0xFF800000#32) reducesTo_S2x32x256x256_S2x32x256_d3 h_S_))))

/-- The sums along the keys. -/
def rowSums (e : FVec F S2x32x256x256 .f32) : FVec F S2x32x256x1 .f32 :=
  broadcastInDim S2x32x256x1 ![0, 1, 2] bcast_S2x32x256_S2x32x256x1_0_1_2 (Host.reduceAdd e (constant S_ .f32 0x00000000#32) reducesTo_S2x32x256x256_S2x32x256_d3 h_S_)

/-- The weights' sums, one in the place of a row that sees nothing. -/
def sums (p : IVec S256x256 1) (e : FVec F S2x32x256x256 .f32) : FVec F S2x32x256x1 .f32 :=
  select (broadcastInDim S2x32x256x1 ![0, 1, 2, 3] bcast_S1x1x256x1_S2x32x256x1_0_1_2_3 (broadcastInDim S1x1x256x1 ![2] bcast_S256_S1x1x256x1_2 (keep p)))
    (rowSums e) (broadcastInDim S2x32x256x1 ![] bcast_S_S2x32x256x1 (constant S_ .f32 0x3F800000#32))

/-- The weights divided by their sums, zero in a row that sees nothing. -/
def shares (p : IVec S256x256 1) (e : FVec F S2x32x256x256 .f32) : FVec F S2x32x256x256 .f32 :=
  select (broadcastInDim S2x32x256x256 ![0, 1, 2, 3] bcast_S1x1x256x1_S2x32x256x256_0_1_2_3 (broadcastInDim S1x1x256x1 ![2] bcast_S256_S1x1x256x1_2 (keep p)))
    (Host.divf e (along (sums p e))) (broadcastInDim S2x32x256x256 ![] bcast_S_S2x32x256x256 (constant S_ .f32 0x00000000#32))

/-- The averages of the values, the heads side by side. -/
def blend (v : FVec F S2x256x32x64 .bf16) (a : FVec F S2x32x256x256 .f32) : FVec F S2x256x2048 .f32 :=
  shapeCast S2x256x2048 (transpose S2x256x32x64 [0, 3, 1, 2]
    (Host.dotGeneral dot_S2x256x32x64_S2x32x256x256_S2x32x64x256_1_3_3_2_02_01 none (extf .f32 v bitsLt_bf16_f32) a)
    transposes_S2x32x64x256_S2x256x32x64_0_3_1_2) shapeCasts_S2x256x32x64_S2x256x2048

/-- The output projection. -/
def project (y : FVec F S2x256x2048 .f32) (w : FVec F S2048x512 .bf16) : FVec F S2x256x512 .bf16 :=
  truncf .bf16 (Host.dotGeneral dot_S2x256x2048_S2048x512_S2x256x512_2_0_01_1_n_n none y (extf .f32 w bitsLt_bf16_f32)) bitsLt_bf16_f32

/-- The whole. -/
def plain (x : FVec F S2x256x512 .bf16) (wq : FVec F S512x2048 .bf16) (k v : FVec F S2x256x32x64 .bf16) (wo : FVec F S2048x512 .bf16)
    (neg : FVec F S256x256 .f32) : FVec F S2x256x512 .bf16 :=
  project (blend v (shares mask (weigh (shown mask neg (scores (queries x wq) k))))) wo

end Cert.Plain

end
-- ==== Proof.RefRun.lean ====
/-
# The reference's run, stage by stage
-/
module

public import proofs.«01_k».proof.Proof.RefTerm

@[expose] public section

noncomputable section

namespace Cert.Plain

open Cert.ReferenceIdeal Cert.ReferenceIdeal.Gen
open Idealize.ShloMosaic
open Cert.ReferenceIdeal.Facts
open Idealize.ShloMosaic.TcCoe

variable {F : FTy → Type} [FloatOps F] (V : Valuation τ sig (Elt F))

set_option maxHeartbeats 1000000 in
/-- What the host operations of list 0 leave in the arrays that are read later. -/
theorem stage_0 :
    StableHlo.after hostOps1 V (Proc.devRef .tc main_v3) = queries (V (Proc.devRef .tc main_arg0)) (V (Proc.devRef .tc main_arg1))
    ∧ StableHlo.after hostOps1 V (Proc.devRef .tc main_v4) = iotaInDim S256 32 0
    ∧ StableHlo.after hostOps1 V (Proc.devRef .tc main_c) = constantI S_ 32 64#32
    ∧ StableHlo.after hostOps1 V (Proc.devRef .tc main_v0) = V (Proc.devRef .tc main_v0)
    ∧ StableHlo.after hostOps1 V (Proc.devRef .tc main_arg2) = V (Proc.devRef .tc main_arg2)
    ∧ StableHlo.after hostOps1 V (Proc.devRef .tc main_arg3) = V (Proc.devRef .tc main_arg3)
    ∧ StableHlo.after hostOps1 V (Proc.devRef .tc main_arg4) = V (Proc.devRef .tc main_arg4) := by
  refine ⟨?_, ?_, ?_, ?_, ?_, ?_, ?_⟩ <;> after_reads_simp <;> first | rfl | (simp only [StableHlo.TRef.toBuf, StableHlo.TRef.ofBuf, cast_eq]; rfl)

set_option maxHeartbeats 1000000 in
/-- What the host operations of list 1 leave in the arrays that are read later. -/
theorem stage_1 :
    StableHlo.after hostOps1_1 V (Proc.devRef .tc main_v5) = fdiv (V (Proc.devRef .tc main_v4)) (V (Proc.devRef .tc main_c))
    ∧ StableHlo.after hostOps1_1 V (Proc.devRef .tc main_v0) = V (Proc.devRef .tc main_v0)
    ∧ StableHlo.after hostOps1_1 V (Proc.devRef .tc main_arg2) = V (Proc.devRef .tc main_arg2)
    ∧ StableHlo.after hostOps1_1 V (Proc.devRef .tc main_arg3) = V (Proc.devRef .tc main_arg3)
    ∧ StableHlo.after hostOps1_1 V (Proc.devRef .tc main_arg4) = V (Proc.devRef .tc main_arg4)
    ∧ StableHlo.after hostOps1_1 V (Proc.devRef .tc main_v3) = V (Proc.devRef .tc main_v3) := by
  refine ⟨?_, ?_, ?_, ?_, ?_, ?_⟩ <;> after_reads_simp <;> first | rfl | (simp only [StableHlo.TRef.toBuf, StableHlo.TRef.ofBuf, cast_eq]; rfl)

set_option maxHeartbeats 1000000 in
/-- What the host operations of list 2 leave in the arrays that are read later. -/
theorem stage_2 :
    StableHlo.after hostOps1_2 V (Proc.devRef .tc main_v6) = broadcastInDim S256x1 ![0] bcast_S256_S256x1_0 (V (Proc.devRef .tc main_v5))
    ∧ StableHlo.after hostOps1_2 V (Proc.devRef .tc main_v7) = iotaInDim S256 32 0
    ∧ StableHlo.after hostOps1_2 V (Proc.devRef .tc main_c_0) = constantI S_ 32 64#32
    ∧ StableHlo.after hostOps1_2 V (Proc.devRef .tc main_v0) = V (Proc.devRef .tc main_v0)
    ∧ StableHlo.after hostOps1_2 V (Proc.devRef .tc main_arg2) = V (Proc.devRef .tc main_arg2)
    ∧ StableHlo.after hostOps1_2 V (Proc.devRef .tc main_arg3) = V (Proc.devRef .tc main_arg3)
    ∧ StableHlo.after hostOps1_2 V (Proc.devRef .tc main_arg4) = V (Proc.devRef .tc main_arg4)
    ∧ StableHlo.after hostOps1_2 V (Proc.devRef .tc main_v3) = V (Proc.devRef .tc main_v3) := by
  refine ⟨?_, ?_, ?_, ?_, ?_, ?_, ?_, ?_⟩ <;> after_reads_simp <;> first | rfl | (simp only [StableHlo.TRef.toBuf, StableHlo.TRef.ofBuf, cast_eq]; rfl)

set_option maxHeartbeats 1000000 in
/-- What the host operations of list 3 leave in the arrays that are read later. -/
theorem stage_3 :
    StableHlo.after hostOps1_3 V (Proc.devRef .tc main_v8) = fdiv (V (Proc.devRef .tc main_v7)) (V (Proc.devRef .tc main_c_0))
    ∧ StableHlo.after hostOps1_3 V (Proc.devRef .tc main_v0) = V (Proc.devRef .tc main_v0)
    ∧ StableHlo.after hostOps1_3 V (Proc.devRef .tc main_arg2) = V (Proc.devRef .tc main_arg2)
    ∧ StableHlo.after hostOps1_3 V (Proc.devRef .tc main_arg3) = V (Proc.devRef .tc main_arg3)
    ∧ StableHlo.after hostOps1_3 V (Proc.devRef .tc main_arg4) = V (Proc.devRef .tc main_arg4)
    ∧ StableHlo.after hostOps1_3 V (Proc.devRef .tc main_v3) = V (Proc.devRef .tc main_v3)
    ∧ StableHlo.after hostOps1_3 V (Proc.devRef .tc main_v6) = V (Proc.devRef .tc main_v6) := by
  refine ⟨?_, ?_, ?_, ?_, ?_, ?_, ?_⟩ <;> after_reads_simp <;> first | rfl | (simp only [StableHlo.TRef.toBuf, StableHlo.TRef.ofBuf, cast_eq]; rfl)

set_option maxHeartbeats 1000000 in
/-- What the host operations of list 4 leave in the arrays that are read later. -/
theorem stage_4 :
    StableHlo.after hostOps1_4 V (Proc.devRef .tc main_v16) = nearMask (V (Proc.devRef .tc main_v6)) (V (Proc.devRef .tc main_v8))
    ∧ StableHlo.after hostOps1_4 V (Proc.devRef .tc main_v19) = blockSum (V (Proc.devRef .tc main_v6)) (V (Proc.devRef .tc main_v8))
    ∧ StableHlo.after hostOps1_4 V (Proc.devRef .tc main_c_2) = constantI S_ 32 3#32
    ∧ StableHlo.after hostOps1_4 V (Proc.devRef .tc main_v0) = V (Proc.devRef .tc main_v0)
    ∧ StableHlo.after hostOps1_4 V (Proc.devRef .tc main_arg2) = V (Proc.devRef .tc main_arg2)
    ∧ StableHlo.after hostOps1_4 V (Proc.devRef .tc main_arg3) = V (Proc.devRef .tc main_arg3)
    ∧ StableHlo.after hostOps1_4 V (Proc.devRef .tc main_arg4) = V (Proc.devRef .tc main_arg4)
    ∧ StableHlo.after hostOps1_4 V (Proc.devRef .tc main_v3) = V (Proc.devRef .tc main_v3) := by
  refine ⟨?_, ?_, ?_, ?_, ?_, ?_, ?_, ?_⟩ <;> after_reads_simp <;> first | rfl | (simp only [StableHlo.TRef.toBuf, StableHlo.TRef.ofBuf, cast_eq]; rfl)

set_option maxHeartbeats 1000000 in
/-- What the host operations of list 5 leave in the arrays that are read later. -/
theorem stage_5 :
    StableHlo.after hostOps1_5 V (Proc.devRef .tc main_v20) = frem (V (Proc.devRef .tc main_v19)) (V (Proc.devRef .tc main_c_2))
    ∧ StableHlo.after hostOps1_5 V (Proc.devRef .tc main_v0) = V (Proc.devRef .tc main_v0)
    ∧ StableHlo.after hostOps1_5 V (Proc.devRef .tc main_arg2) = V (Proc.devRef .tc main_arg2)
    ∧ StableHlo.after hostOps1_5 V (Proc.devRef .tc main_arg3) = V (Proc.devRef .tc main_arg3)
    ∧ StableHlo.after hostOps1_5 V (Proc.devRef .tc main_arg4) = V (Proc.devRef .tc main_arg4)
    ∧ StableHlo.after hostOps1_5 V (Proc.devRef .tc main_v3) = V (Proc.devRef .tc main_v3)
    ∧ StableHlo.after hostOps1_5 V (Proc.devRef .tc main_v16) = V (Proc.devRef .tc main_v16) := by
  refine ⟨?_, ?_, ?_, ?_, ?_, ?_, ?_⟩ <;> after_reads_simp <;> first | rfl | (simp only [StableHlo.TRef.toBuf, StableHlo.TRef.ofBuf, cast_eq]; rfl)

set_option maxHeartbeats 1000000 in
/-- What the host operations of list 6 leave in the arrays that are read later. -/
theorem stage_6 :
    StableHlo.after hostOps1_6 V (Proc.devRef .tc main_v23) = fullMask (V (Proc.devRef .tc main_v16)) (V (Proc.devRef .tc main_v20))
    ∧ StableHlo.after hostOps1_6 V (Proc.devRef .tc main_v28) = scores (V (Proc.devRef .tc main_v3)) (V (Proc.devRef .tc main_arg2))
    ∧ StableHlo.after hostOps1_6 V (Proc.devRef .tc main_v29) = broadcastInDim S1x1x256x256 ![2, 3] bcast_S256x256_S1x1x256x256_2_3 (fullMask (V (Proc.devRef .tc main_v16)) (V (Proc.devRef .tc main_v20)))
    ∧ StableHlo.after hostOps1_6 V (Proc.devRef .tc main_v30) = broadcastInDim S1x1x256x256 ![2, 3] bcast_S256x256_S1x1x256x256_2_3 (V (Proc.devRef .tc main_v0))
    ∧ StableHlo.after hostOps1_6 V (Proc.devRef .tc main_arg3) = V (Proc.devRef .tc main_arg3)
    ∧ StableHlo.after hostOps1_6 V (Proc.devRef .tc main_arg4) = V (Proc.devRef .tc main_arg4) := by
  refine ⟨?_, ?_, ?_, ?_, ?_, ?_⟩ <;> after_reads_simp <;> first | rfl | (simp only [StableHlo.TRef.toBuf, StableHlo.TRef.ofBuf, cast_eq]; rfl)

set_option maxHeartbeats 1000000 in
/-- What the host operations of list 7 leave in the arrays that are read later. -/
theorem stage_7 :
    StableHlo.after hostOps1_7 V (Proc.devRef .tc main_v31) = select (broadcastInDim S2x32x256x256 ![0, 1, 2, 3] bcast_S1x1x256x256_S2x32x256x256_0_1_2_3 (V (Proc.devRef .tc main_v29))) (V (Proc.devRef .tc main_v28)) (broadcastInDim S2x32x256x256 ![0, 1, 2, 3] bcast_S1x1x256x256_S2x32x256x256_0_1_2_3 (V (Proc.devRef .tc main_v30)))
    ∧ StableHlo.after hostOps1_7 V (Proc.devRef .tc main_arg3) = V (Proc.devRef .tc main_arg3)
    ∧ StableHlo.after hostOps1_7 V (Proc.devRef .tc main_arg4) = V (Proc.devRef .tc main_arg4)
    ∧ StableHlo.after hostOps1_7 V (Proc.devRef .tc main_v23) = V (Proc.devRef .tc main_v23) := by
  refine ⟨?_, ?_, ?_, ?_⟩ <;> after_reads_simp <;> first | rfl | (simp only [StableHlo.TRef.toBuf, StableHlo.TRef.ofBuf, cast_eq]; rfl)

set_option maxHeartbeats 1000000 in
/-- What the host operations of list 8 leave in the arrays that are read later. -/
theorem stage_8 :
    StableHlo.after hostOps1_8 V (Proc.devRef .tc main_v36) = weigh (V (Proc.devRef .tc main_v31))
    ∧ StableHlo.after hostOps1_8 V (Proc.devRef .tc main_v37) = keep (V (Proc.devRef .tc main_v23))
    ∧ StableHlo.after hostOps1_8 V (Proc.devRef .tc main_v38) = broadcastInDim S1x1x256x1 ![2] bcast_S256_S1x1x256x1_2 (keep (V (Proc.devRef .tc main_v23)))
    ∧ StableHlo.after hostOps1_8 V (Proc.devRef .tc main_v40) = rowSums (weigh (V (Proc.devRef .tc main_v31)))
    ∧ StableHlo.after hostOps1_8 V (Proc.devRef .tc main_cst_7) = constant S_ .f32 0x3F800000#32
    ∧ StableHlo.after hostOps1_8 V (Proc.devRef .tc main_arg3) = V (Proc.devRef .tc main_arg3)
    ∧ StableHlo.after hostOps1_8 V (Proc.devRef .tc main_arg4) = V (Proc.devRef .tc main_arg4) := by
  refine ⟨?_, ?_, ?_, ?_, ?_, ?_, ?_⟩ <;> after_reads_simp <;> first | rfl | (simp only [StableHlo.TRef.toBuf, StableHlo.TRef.ofBuf, cast_eq]; rfl)

set_option maxHeartbeats 1000000 in
/-- What the host operations of list 9 leave in the arrays that are read later. -/
theorem stage_9 :
    StableHlo.after hostOps1_9 V (Proc.devRef .tc main_v41) = select (broadcastInDim S2x32x256x1 ![0, 1, 2, 3] bcast_S1x1x256x1_S2x32x256x1_0_1_2_3 (V (Proc.devRef .tc main_v38))) (V (Proc.devRef .tc main_v40)) (broadcastInDim S2x32x256x1 ![] bcast_S_S2x32x256x1 (V (Proc.devRef .tc main_cst_7)))
    ∧ StableHlo.after hostOps1_9 V (Proc.devRef .tc main_arg3) = V (Proc.devRef .tc main_arg3)
    ∧ StableHlo.after hostOps1_9 V (Proc.devRef .tc main_arg4) = V (Proc.devRef .tc main_arg4)
    ∧ StableHlo.after hostOps1_9 V (Proc.devRef .tc main_v36) = V (Proc.devRef .tc main_v36)
    ∧ StableHlo.after hostOps1_9 V (Proc.devRef .tc main_v37) = V (Proc.devRef .tc main_v37) := by
  refine ⟨?_, ?_, ?_, ?_, ?_⟩ <;> after_reads_simp <;> first | rfl | (simp only [StableHlo.TRef.toBuf, StableHlo.TRef.ofBuf, cast_eq]; rfl)

set_option maxHeartbeats 1000000 in
/-- What the host operations of list 10 leave in the arrays that are read later. -/
theorem stage_10 :
    StableHlo.after hostOps1_10 V (Proc.devRef .tc main_v43) = Host.divf (F := F) (φ := .f32) (V (Proc.devRef .tc main_v36)) (along (V (Proc.devRef .tc main_v41)))
    ∧ StableHlo.after hostOps1_10 V (Proc.devRef .tc main_v44) = broadcastInDim S1x1x256x1 ![2] bcast_S256_S1x1x256x1_2 (V (Proc.devRef .tc main_v37))
    ∧ StableHlo.after hostOps1_10 V (Proc.devRef .tc main_cst_8) = constant S_ .f32 0x00000000#32
    ∧ StableHlo.after hostOps1_10 V (Proc.devRef .tc main_arg3) = V (Proc.devRef .tc main_arg3)
    ∧ StableHlo.after hostOps1_10 V (Proc.devRef .tc main_arg4) = V (Proc.devRef .tc main_arg4) := by
  refine ⟨?_, ?_, ?_, ?_, ?_⟩ <;> after_reads_simp <;> first | rfl | (simp only [StableHlo.TRef.toBuf, StableHlo.TRef.ofBuf, cast_eq]; rfl)

set_option maxHeartbeats 1000000 in
/-- What the host operations of list 11 leave in the arrays that are read later. -/
theorem stage_11 :
    StableHlo.after hostOps1_11 V (Proc.devRef .tc main_v45) = select (broadcastInDim S2x32x256x256 ![0, 1, 2, 3] bcast_S1x1x256x1_S2x32x256x256_0_1_2_3 (V (Proc.devRef .tc main_v44))) (V (Proc.devRef .tc main_v43)) (broadcastInDim S2x32x256x256 ![] bcast_S_S2x32x256x256 (V (Proc.devRef .tc main_cst_8)))
    ∧ StableHlo.after hostOps1_11 V (Proc.devRef .tc main_arg3) = V (Proc.devRef .tc main_arg3)
    ∧ StableHlo.after hostOps1_11 V (Proc.devRef .tc main_arg4) = V (Proc.devRef .tc main_arg4) := by
  refine ⟨?_, ?_, ?_⟩ <;> after_reads_simp <;> first | rfl | (simp only [StableHlo.TRef.toBuf, StableHlo.TRef.ofBuf, cast_eq]; rfl)

set_option maxHeartbeats 1000000 in
/-- What the host operations of list 12 leave in the arrays that are read later. -/
theorem stage_12 :
    StableHlo.after hostOps1_12 V (Proc.devRef .tc main_v52) = project (blend (V (Proc.devRef .tc main_arg3)) (V (Proc.devRef .tc main_v45))) (V (Proc.devRef .tc main_arg4)) := by
  after_reads_simp
  first | rfl | (simp only [StableHlo.TRef.toBuf, StableHlo.TRef.ofBuf, cast_eq]; rfl)

set_option maxHeartbeats 1000000 in
/-- The result's array after the whole host program. -/
theorem read_out :
    StableHlo.after [hostOps1, hostOps1_1, hostOps1_2, hostOps1_3, hostOps1_4, hostOps1_5, hostOps1_6, hostOps1_7, hostOps1_8, hostOps1_9,
      hostOps1_10, hostOps1_11, hostOps1_12].flatten V (Proc.devRef .tc main_v52)
    = plain (V (Proc.devRef .tc main_arg0)) (V (Proc.devRef .tc main_arg1)) (V (Proc.devRef .tc main_arg2)) (V (Proc.devRef .tc main_arg3))
        (V (Proc.devRef .tc main_arg4)) (V (Proc.devRef .tc main_v0)) := by
  simp only [List.flatten_cons, List.flatten_nil, List.append_nil]
  rw [StableHlo.after_append, StableHlo.after_append, StableHlo.after_append, StableHlo.after_append, StableHlo.after_append, StableHlo.after_append, StableHlo.after_append, StableHlo.after_append, StableHlo.after_append, StableHlo.after_append, StableHlo.after_append, StableHlo.after_append]
  obtain ⟨e0_0, e0_1, e0_2, k0_0, k0_1, k0_2, k0_3⟩ := stage_0 V
  generalize StableHlo.after hostOps1 V = V0 at *
  obtain ⟨e1_0, k1_0, k1_1, k1_2, k1_3, k1_4⟩ := stage_1 V0
  generalize StableHlo.after hostOps1_1 V0 = V1 at *
  obtain ⟨e2_0, e2_1, e2_2, k2_0, k2_1, k2_2, k2_3, k2_4⟩ := stage_2 V1
  generalize StableHlo.after hostOps1_2 V1 = V2 at *
  obtain ⟨e3_0, k3_0, k3_1, k3_2, k3_3, k3_4, k3_5⟩ := stage_3 V2
  generalize StableHlo.after hostOps1_3 V2 = V3 at *
  obtain ⟨e4_0, e4_1, e4_2, k4_0, k4_1, k4_2, k4_3, k4_4⟩ := stage_4 V3
  generalize StableHlo.after hostOps1_4 V3 = V4 at *
  obtain ⟨e5_0, k5_0, k5_1, k5_2, k5_3, k5_4, k5_5⟩ := stage_5 V4
  generalize StableHlo.after hostOps1_5 V4 = V5 at *
  obtain ⟨e6_0, e6_1, e6_2, e6_3, k6_0, k6_1⟩ := stage_6 V5
  generalize StableHlo.after hostOps1_6 V5 = V6 at *
  obtain ⟨e7_0, k7_0, k7_1, k7_2⟩ := stage_7 V6
  generalize StableHlo.after hostOps1_7 V6 = V7 at *
  obtain ⟨e8_0, e8_1, e8_2, e8_3, e8_4, k8_0, k8_1⟩ := stage_8 V7
  generalize StableHlo.after hostOps1_8 V7 = V8 at *
  obtain ⟨e9_0, k9_0, k9_1, k9_2, k9_3⟩ := stage_9 V8
  generalize StableHlo.after hostOps1_9 V8 = V9 at *
  obtain ⟨e10_0, e10_1, e10_2, k10_0, k10_1⟩ := stage_10 V9
  generalize StableHlo.after hostOps1_10 V9 = V10 at *
  obtain ⟨e11_0, k11_0, k11_1⟩ := stage_11 V10
  generalize StableHlo.after hostOps1_11 V10 = V11 at *
  rw [stage_12 V11]
  simp only [k11_1, k11_0, e11_0, k10_1, k10_0, e10_2, e10_1, e10_0, k9_3, k9_2, k9_1, k9_0, e9_0, k8_1, k8_0, e8_4, e8_3, e8_2, e8_1, e8_0, k7_2, k7_1, k7_0, e7_0, k6_1, k6_0, e6_3, e6_2, e6_1, e6_0, k5_5, k5_4, k5_3, k5_2, k5_1, k5_0, e5_0, k4_4, k4_3, k4_2, k4_1, k4_0, e4_2, e4_1, e4_0, k3_5, k3_4, k3_3, k3_2, k3_1, k3_0, e3_0, k2_4, k2_3, k2_2, k2_1, k2_0, e2_2, e2_1, e2_0, k1_4, k1_3, k1_2, k1_1, k1_0, e1_0, k0_3, k0_2, k0_1, k0_0, e0_2, e0_1, e0_0]
  rfl

end Cert.Plain

end
-- ==== Proof.RefValue.lean ====
/-
# The reference's run, with its result
-/
module

public import proofs.«01_k».proof.Proof.RefRun
public import proofs.«01_k».proof.Proof.HeadRead
public import Idealize.ShloMosaic.Lib.Pipeline.ValueKit

@[expose] public section

noncomputable section

namespace Cert.Plain

open Cert.ReferenceIdeal Cert.ReferenceIdeal.Gen
open Idealize.ShloMosaic
open Idealize.SL Idealize.SL.Sem
open Cert.ReferenceIdeal.Facts
open Idealize.ShloMosaic.TcCoe

variable (m : (ℓ : Loc nD τ sig) → Buf (Elt Ideal) ℓ) (ρ : Dev nD → PrngReg)

/-- The array the reference's kernel makes: minus infinity everywhere. -/
theorem bottom_eq (c : Dev nD) : (dats m 0 c).arrAt 1 cfg0.N = fun _ => (⊥ : EReal) := by
  refine (dats m 0 c).arrAt_eq_of_after_last 1 t0_0 (by decide +kernel) _ fun j => ?_
  rw [after0_1]
  unfold out0_1
  have e : View.canon (Val := Elt Ideal) [(⟨r0_0, k0_pay1 (F := Ideal)⟩ : View.Piece (Elt Ideal) S256x256 .f32)] = k0_pay1 (F := Ideal) :=
    View.canon_cons_unit_lit (Val := Elt Ideal) (S := S256x256) (e := .f32) (off := ![0, 0]) inb_S256x256_S256x256_0_0 (k0_pay1 (F := Ideal)) [] (by decide)
  rw [e]
  rfl

/-- **The reference's run**: its result, and its arguments as they were. -/
theorem run_plain : θ_run defs (onTc (τ := τ) (main (F := Ideal))) ⟨m, fun _ => 0, ρ⟩ (fun r => ∀ c : Dev nD,
      r.2.mem ((c.tc : Thread nD τ).loc main_v52)
        = plain (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (fun _ => (⊥ : EReal))) := by
  refine (θ_run defs _ _).mono (fun r h c => ?_) (run_main m ρ)
  refine ((h c).2 main_v52 (Pipeline.mem_restRefs_of main_v52 (by decide) (by decide))).trans ?_
  unfold Pipeline.afterTail₀
  refine (read_out _).trans ?_
  rw [Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4))]
  have hinj : Function.Injective (Pipeline.arrRef spec0) := by decide
  have e0 : ∀ A, Pipeline.withArrays spec0 c (V0 m c) A (Proc.devRef .tc main_arg0) = A 0 := fun A => Pipeline.withArrays_arr spec0 hinj c (V0 m c) A 0
  have e1 : ∀ A, Pipeline.withArrays spec0 c (V0 m c) A (Proc.devRef .tc main_v0) = A 1 := fun A => Pipeline.withArrays_arr spec0 hinj c (V0 m c) A 1
  have f0 := (e0 fun w => (dats m 0 c).arrAt w cfg0.N).trans ((dats m 0 c).arrAt_in 0 rfl _)
  have f1 := (e1 fun w => (dats m 0 c).arrAt w cfg0.N).trans (bottom_eq m c)
  exact congrArg₂ (fun x n => plain (F := Ideal) x (m ((c.tc : Thread nD τ).loc main_arg1)) (m ((c.tc : Thread nD τ).loc main_arg2))
          (m ((c.tc : Thread nD τ).loc main_arg3)) (m ((c.tc : Thread nD τ).loc main_arg4)) n) f0 f1

end Cert.Plain

end
-- ==== Proof.MaskRead.lean ====
/-
# The reference's mask, at a row and a key
-/
module

public import proofs.«01_k».proof.Proof.RefTerm
public import proofs.«01_k».proof.Proof.HeadRead

@[expose] public section

noncomputable section

namespace Cert.Plain

open Cert.ReferenceIdeal Cert.ReferenceIdeal.Gen
open Idealize.ShloMosaic Idealize.ShloMosaic.ValueIdx
open Cert.ReferenceIdeal.Facts
open Idealize.ShloMosaic.TcCoe
open Cert.Talk (sees)

/-- The sign of a word. -/
def sign (x : BitVec 32) : BitVec 32 := if x = 0 then 0 else if x.msb then -1 else 1

/-- A position's block. -/
def fdiv1 (x c : BitVec 32) : BitVec 32 :=
  Scalar.select (IntOp.andi (IntOp.cmpi .ne (sign x) (sign c))
      (IntOp.cmpi .ne (IntOp.remsi .host x c) 0#32))
    (IntOp.subi (IntOp.divsi .host x c) 1#32) (IntOp.divsi .host x c)

/-- The block of a position is a floor division by 64, -/
theorem block_at (i : Fin 256) : block (ix1 i) = fdiv1 (BitVec.ofNat 32 i.val) 64#32 := rfl

/-- which is the quotient, -/
theorem fdiv1_eq : ∀ i : Fin 256, fdiv1 (BitVec.ofNat 32 i.val) 64#32 = BitVec.ofNat 32 (i.val / 64) := by decide +kernel

/-- so the block is the quotient. -/
theorem block_apply (i : Fin 256) : block (ix1 i) = BitVec.ofNat 32 (i.val / 64) := (block_at i).trans (fdiv1_eq i)

/-- A remainder. -/
def frem1 (x c : BitVec 32) : BitVec 32 :=
  Scalar.select (IntOp.andi (IntOp.cmpi .ne (IntOp.cmpi .slt (IntOp.remsi .host x c) 0#32) (IntOp.cmpi .slt c 0#32)) (IntOp.cmpi .ne (IntOp.remsi .host x c) 0#32))
    (IntOp.addi (IntOp.remsi .host x c) c) (IntOp.remsi .host x c)

/-- A divisor, one in place of zero. -/
def nz (c : BitVec 32) : BitVec 32 := Scalar.select (IntOp.cmpi .eq c 0#32) 1#32 c

/-- The remainder, at an element. -/
theorem frem_at (x : IVec S256x256 32) (c : BitVec 32) (i : S256x256.Idx) : frem x (constantI S_ 32 c) i = frem1 (x i) (nz c) := rfl

/-- The mask's bit for two blocks. -/
def bit (a b : BitVec 32) : BitVec 1 :=
  IntOp.ori (IntOp.ori (IntOp.cmpi .eq a b) (IntOp.cmpi .eq b 0#32)) (IntOp.cmpi .eq (frem1 (IntOp.addi a b) (nz 3#32)) 0#32)

/-- The mask, at an element: near, or the sum of the blocks a multiple of three. -/
theorem full_at (p : IVec S256x256 1) (s : IVec S256x256 32) (i : S256x256.Idx) : fullMask p s i = IntOp.ori (p i) (IntOp.cmpi .eq (s i) 0#32) := rfl
/-- Near: the same block, or the first key block. -/
theorem near_at (r : IVec S256x1 32) (b : IVec S256 32) (i : S256x256.Idx) :
    nearMask r b i = IntOp.ori (IntOp.cmpi .eq (down r i) (across (line b) i))
      (broadcastInDim S256x256 ![0, 1] bcast_S1x256_S256x256_0_1 (cmpi .eq (line b) (broadcastInDim S1x256 ![] bcast_S_S1x256 (constantI S_ 32 0#32))) i) := rfl
/-- The sum of the blocks. -/
theorem sum_at (r : IVec S256x1 32) (b : IVec S256 32) (i : S256x256.Idx) : blockSum r b i = IntOp.addi (down r i) (across (line b) i) := rfl

/-- A column laid along the rows, -/
theorem down_apply (r : IVec S256x1 32) (i j : Fin 256) : down r (ix2 i j) = r (ix2 (n1 := 1) i 0) :=
  broadcastInDim_apply (s := S256x1) (t := S256x256) ![0, 1] bcast_S256x1_S256x256_0_1 r (ix2 i j) (ix2 (n1 := 1) i 0) fun a => match a with | ⟨0, _⟩ => rfl | ⟨1, _⟩ => rfl

/-- and a row laid along the columns. -/
theorem across_apply {w : ℕ} (l : IVec S1x256 w) (i j : Fin 256) :
    broadcastInDim S256x256 ![0, 1] bcast_S1x256_S256x256_0_1 l (ix2 i j) = l (ix2 (n0 := 1) 0 j) :=
  broadcastInDim_apply (s := S1x256) (t := S256x256) ![0, 1] bcast_S1x256_S256x256_0_1 l (ix2 i j) (ix2 (n0 := 1) 0 j) fun a => match a with | ⟨0, _⟩ => rfl | ⟨1, _⟩ => rfl

/-- The blocks as a column -/
theorem column_block (b : IVec S256 32) (i : Fin 256) : broadcastInDim S256x1 ![0] bcast_S256_S256x1_0 b (ix2 (n1 := 1) i 0) = b (ix1 i) :=
  broadcastInDim_apply (s := S256) (t := S256x1) ![0] bcast_S256_S256x1_0 b (ix2 (n1 := 1) i 0) (ix1 i) fun a => match a with | ⟨0, _⟩ => rfl

/-- and as a row. -/
theorem line_block (b : IVec S256 32) (j : Fin 256) : line b (ix2 (n0 := 1) 0 j) = b (ix1 j) :=
  broadcastInDim_apply (s := S256) (t := S1x256) ![1] bcast_S256_S1x256_1 b (ix2 (n0 := 1) 0 j) (ix1 j) fun a => match a with | ⟨0, _⟩ => rfl

/-- Where the row is zero. -/
theorem zero_line (l : IVec S1x256 32) (j : Fin 256) :
    cmpi .eq l (broadcastInDim S1x256 ![] bcast_S_S1x256 (constantI S_ 32 0#32)) (ix2 (n0 := 1) 0 j) = IntOp.cmpi .eq (l (ix2 (n0 := 1) 0 j)) 0#32 := rfl

/-- The mask made from any blocks, at a row and a key. -/
theorem made_at (b : IVec S256 32) (i j : Fin 256) :
    fullMask (nearMask (broadcastInDim S256x1 ![0] bcast_S256_S256x1_0 b) b) (frem (blockSum (broadcastInDim S256x1 ![0] bcast_S256_S256x1_0 b) b) (constantI S_ 32 3#32)) (ix2 i j)
      = bit (b (ix1 i)) (b (ix1 j)) := by
  have ha : across (line b) (ix2 i j) = b (ix1 j) := (across_apply _ i j).trans (line_block b j)
  rw [full_at, near_at, frem_at, sum_at, across_apply, zero_line, ha, line_block, down_apply, column_block]
  unfold bit
  rfl

/-- The mask at an element depends on the two blocks. -/
theorem mask_at (i j : Fin 256) : mask (ix2 i j) = bit (block (ix1 i)) (block (ix1 j)) := made_at block i j

/-- The bit for two blocks of four. -/
theorem bit_eq : ∀ a b : Fin 4, bit (BitVec.ofNat 32 a.val) (BitVec.ofNat 32 b.val) = if a.val = b.val ∨ b.val = 0 ∨ (a.val + b.val) % 3 = 0 then 1#1 else 0#1 := by
  decide +kernel

/-- The mask is the relation `sees`. -/
theorem mask_apply (i j : Fin 256) : mask (ix2 i j) = if sees i j then 1#1 else 0#1 := by
  rw [mask_at, block_apply, block_apply]
  have h := bit_eq ⟨i.val / 64, by omega⟩ ⟨j.val / 64, by omega⟩
  refine h.trans ?_
  unfold sees
  rfl

instance : Std.Commutative (IntOp.ori (w := 1)) := ⟨by decide⟩
instance : Std.Associative (IntOp.ori (w := 1)) := ⟨by decide⟩

/-- An "or" with a one in it is one. -/
theorem fold_ori {ι : Type} [DecidableEq ι] (f : ι → BitVec 1) (s : Finset ι) (i : ι) (hi : i ∈ s) (h : f i = 1#1) : s.fold IntOp.ori 0#1 f = 1#1 := by
  rw [← Finset.insert_erase hi, Finset.fold_insert (Finset.notMem_erase i s), h]
  exact (by decide : ∀ b : BitVec 1, IntOp.ori 1#1 b = 1#1) _

/-- Every row sees some key, for it sees itself. -/
theorem keep_apply (i : Fin 256) : keep mask (ix1 i) = 1#1 := by
  have h : S256x256.Reduces [1] S256 := by decide
  refine (Host.reduce_eq_fold_single (s := S256x256) (t := S256) IntOp.ori mask (constantI S_ 1 0#1) reducesTo_S256x256_S256_d1 h h_S_ (ix1 i)).trans ?_
  refine fold_ori _ _ (i : Fin 256) (Finset.mem_univ _) ?_
  have e : h.lift (ix1 i) i = ix2 i i := funext fun a => match a with | ⟨0, _⟩ => rfl | ⟨1, _⟩ => rfl
  show mask (h.lift (ix1 i) i) = 1#1
  rw [e, mask_apply]
  exact if_pos (Or.inl rfl)

end Cert.Plain

end
-- ==== Proof.RefRead.lean ====
/-
# The reference's result at an element
-/
module

public import proofs.«01_k».proof.Proof.MaskRead

@[expose] public section

noncomputable section

namespace Cert.Plain

open Cert.ReferenceIdeal Cert.ReferenceIdeal.Gen
open Idealize.ShloMosaic Idealize.ShloMosaic.ValueIdx
open Cert.ReferenceIdeal.Facts
open Idealize.ShloMosaic.TcCoe
open Cert.Talk (sees eighth score attn one_bits)

/-- Column `d` of head `h` among all the columns. -/
def wcol (h : Fin 32) (d : Fin 64) : Fin 2048 := ⟨64 * h.val + d.val, by omega⟩

section Dots

/-- The projection, -/
theorem dot_queries (x : FVec Ideal S2x256x512 .bf16) (w : FVec Ideal S512x2048 .bf16) (b : Fin 2) (i : Fin 256) (n : Fin 2048) :
    Host.dotGeneral dot_S2x256x512_S512x2048_S2x256x2048_2_0_01_1_n_n none x w (ix3 b i n) = ∑ t : Fin 512, x (ix3 b i t) * w (ix2 t n) := by
  refine (Ideal.dotGeneral_apply _ _ _ x w _).trans ?_
  rw [← (contrEquiv1 dot_S2x256x512_S512x2048_S2x256x2048_2_0_01_1_n_n 512 rfl rfl).symm.sum_comp]
  refine Finset.sum_congr rfl fun t _ => congrArg₂ (fun a b => x a * w b) ?_ ?_
  · exact funext fun a => match a with | ⟨0, _⟩ => rfl | ⟨1, _⟩ => rfl | ⟨2, _⟩ => rfl
  · exact funext fun a => match a with | ⟨0, _⟩ => rfl | ⟨1, _⟩ => rfl

/-- the scores, -/
theorem dot_scores (q k : FVec Ideal S2x256x32x64 .bf16) (b : Fin 2) (h : Fin 32) (i j : Fin 256) :
    Host.dotGeneral dot_S2x256x32x64_S2x256x32x64_S2x32x256x256_3_3_1_1_02_02 none q k (ix4 b h i j) = ∑ d : Fin 64, q (ix4 b i h d) * k (ix4 b j h d) := by
  refine (Ideal.dotGeneral_apply _ _ _ q k _).trans ?_
  rw [← (contrEquiv1 dot_S2x256x32x64_S2x256x32x64_S2x32x256x256_3_3_1_1_02_02 64 rfl rfl).symm.sum_comp]
  refine Finset.sum_congr rfl fun t _ => congrArg₂ (fun a b => q a * k b) ?_ ?_ <;>
    exact funext fun a => match a with | ⟨0, _⟩ => rfl | ⟨1, _⟩ => rfl | ⟨2, _⟩ => rfl | ⟨3, _⟩ => rfl

/-- the blend of the values, -/
theorem dot_blend (v : FVec Ideal S2x256x32x64 .f32) (a : FVec Ideal S2x32x256x256 .f32) (b : Fin 2) (h : Fin 32) (d : Fin 64) (i : Fin 256) :
    Host.dotGeneral dot_S2x256x32x64_S2x32x256x256_S2x32x64x256_1_3_3_2_02_01 none v a (ix4 b h d i) = ∑ j : Fin 256, v (ix4 b j h d) * a (ix4 b h i j) := by
  refine (Ideal.dotGeneral_apply _ _ _ v a _).trans ?_
  rw [← (contrEquiv1 dot_S2x256x32x64_S2x32x256x256_S2x32x64x256_1_3_3_2_02_01 256 rfl rfl).symm.sum_comp]
  refine Finset.sum_congr rfl fun t _ => congrArg₂ (fun x y => v x * a y) ?_ ?_ <;>
    exact funext fun a => match a with | ⟨0, _⟩ => rfl | ⟨1, _⟩ => rfl | ⟨2, _⟩ => rfl | ⟨3, _⟩ => rfl

/-- and the last product, at an element. -/
theorem dot_result (y : FVec Ideal S2x256x2048 .f32) (w : FVec Ideal S2048x512 .f32) (b : Fin 2) (i : Fin 256) (n : Fin 512) :
    Host.dotGeneral dot_S2x256x2048_S2048x512_S2x256x512_2_0_01_1_n_n none y w (ix3 b i n) = ∑ t : Fin 2048, y (ix3 b i t) * w (ix2 t n) := by
  refine (Ideal.dotGeneral_apply _ _ _ y w _).trans ?_
  rw [← (contrEquiv1 dot_S2x256x2048_S2048x512_S2x256x512_2_0_01_1_n_n 2048 rfl rfl).symm.sum_comp]
  refine Finset.sum_congr rfl fun t _ => congrArg₂ (fun a b => y a * w b) ?_ ?_
  · exact funext fun a => match a with | ⟨0, _⟩ => rfl | ⟨1, _⟩ => rfl | ⟨2, _⟩ => rfl
  · exact funext fun a => match a with | ⟨0, _⟩ => rfl | ⟨1, _⟩ => rfl

end Dots

section Stages

/-- The queries of a head are the projection at its columns. -/
theorem queries_apply (x : FVec Ideal S2x256x512 .bf16) (w : FVec Ideal S512x2048 .bf16) (b : Fin 2) (i : Fin 256) (h : Fin 32) (d : Fin 64) :
    queries x w (ix4 b i h d) = ∑ t : Fin 512, x (ix3 b i t) * w (ix2 t (wcol h d)) :=
  (shapeCast_apply (s := S2x256x2048) (t := S2x256x32x64) _ _ (ix4 b i h d) (ix3 b i (wcol h d)) (by
    rw [Shape.rowMajor_val_three, Shape.rowMajor_val_four]
    show (b.val * 256 + i.val) * 2048 + (64 * h.val + d.val) = ((b.val * 256 + i.val) * 32 + h.val) * 64 + d.val
    omega)).trans (dot_queries x w b i (wcol h d))

/-- A score is the product, scaled. -/
theorem scores_apply (q k : FVec Ideal S2x256x32x64 .bf16) (b : Fin 2) (h : Fin 32) (i j : Fin 256) :
    scores q k (ix4 b h i j) = (∑ d : Fin 64, q (ix4 b i h d) * k (ix4 b j h d)) * eighth :=
  congrArg (fun z : EReal => z * eighth) (dot_scores q k b h i j)

/-- A mask laid over the heads. -/
theorem over_heads {α : Type} (p : S256x256.Idx → α) (b : Fin 2) (h : Fin 32) (i j : Fin 256) :
    broadcastInDim S2x32x256x256 ![0, 1, 2, 3] bcast_S1x1x256x256_S2x32x256x256_0_1_2_3 (broadcastInDim S1x1x256x256 ![2, 3] bcast_S256x256_S1x1x256x256_2_3 p) (ix4 b h i j)
      = p (ix2 i j) :=
  (broadcastInDim_apply (t := S2x32x256x256) ![0, 1, 2, 3] bcast_S1x1x256x256_S2x32x256x256_0_1_2_3 _ (ix4 b h i j) (ix4 (n0 := 1) (n1 := 1) 0 0 i j)
    fun a => match a with | ⟨0, _⟩ => rfl | ⟨1, _⟩ => rfl | ⟨2, _⟩ => rfl | ⟨3, _⟩ => rfl).trans
  (broadcastInDim_apply (t := S1x1x256x256) ![2, 3] bcast_S256x256_S1x1x256x256_2_3 p (ix4 (n0 := 1) (n1 := 1) 0 0 i j) (ix2 i j)
    fun a => match a with | ⟨0, _⟩ => rfl | ⟨1, _⟩ => rfl)

/-- A hidden score is minus infinity. -/
theorem shown_apply (s : FVec Ideal S2x32x256x256 .f32) (b : Fin 2) (h : Fin 32) (i j : Fin 256) :
    shown mask (fun _ => (⊥ : EReal)) s (ix4 b h i j) = if sees i j then s (ix4 b h i j) else ⊥ := by
  show Scalar.select _ (s (ix4 b h i j)) _ = _
  rw [over_heads mask b h i j, mask_apply, over_heads (fun _ => (⊥ : EReal)) b h i j]
  by_cases hs : sees i j
  · rw [if_pos hs, if_pos hs]; exact if_pos rfl
  · rw [if_neg hs, if_neg hs]; exact if_neg (by decide)

/-- A number per row, laid along the row. -/
theorem along_apply (r : FVec Ideal S2x32x256x1 .f32) (b : Fin 2) (h : Fin 32) (i j : Fin 256) :
    along r (ix4 b h i j) = r (ix4 (n3 := 1) b h i 0) :=
  broadcastInDim_apply (t := S2x32x256x256) ![0, 1, 2, 3] bcast_S2x32x256x1_S2x32x256x256_0_1_2_3 r (ix4 b h i j) (ix4 (n3 := 1) b h i 0)
    fun a => match a with | ⟨0, _⟩ => rfl | ⟨1, _⟩ => rfl | ⟨2, _⟩ => rfl | ⟨3, _⟩ => rfl

/-- The same as a column. -/
theorem column_apply (r : FVec Ideal S2x32x256 .f32) (b : Fin 2) (h : Fin 32) (i : Fin 256) :
    broadcastInDim S2x32x256x1 ![0, 1, 2] bcast_S2x32x256_S2x32x256x1_0_1_2 r (ix4 (n3 := 1) b h i 0) = r (ix3 b h i) :=
  broadcastInDim_apply (t := S2x32x256x1) ![0, 1, 2] bcast_S2x32x256_S2x32x256x1_0_1_2 r (ix4 (n3 := 1) b h i 0) (ix3 b h i)
    fun a => match a with | ⟨0, _⟩ => rfl | ⟨1, _⟩ => rfl | ⟨2, _⟩ => rfl

/-- The word of minus infinity. -/
theorem bottom_bits : Ideal.ofBits .f32 0xFF800000#32 = ⊥ := by simp [Ideal.ofBits, Ideal.ieee]

/-- The largest score of a row. -/
theorem largest_apply (l : FVec Ideal S2x32x256x256 .f32) (b : Fin 2) (h : Fin 32) (i : Fin 256) :
    Host.reduce FloatOps.maximumf l (constant S_ .f32 0xFF800000#32) reducesTo_S2x32x256x256_S2x32x256_d3 h_S_ (ix3 b h i)
      = Finset.univ.fold max (⊥ : EReal) fun j : Fin 256 => l (ix4 b h i j) := by
  have hr : S2x32x256x256.Reduces [3] S2x32x256 := by decide
  refine (Host.reduce_eq_fold_single (s := S2x32x256x256) (t := S2x32x256) (FloatOps.maximumf (F := Ideal) (φ := .f32)) l (constant S_ .f32 0xFF800000#32)
    reducesTo_S2x32x256x256_S2x32x256_d3 hr h_S_ (ix3 b h i)).trans ?_
  have e : (l ∘ hr.lift (ix3 b h i) : Fin 256 → EReal) = fun j : Fin 256 => l (ix4 b h i j) := funext fun j =>
    congrArg l (funext fun a => match a with | ⟨0, _⟩ => rfl | ⟨1, _⟩ => rfl | ⟨2, _⟩ => rfl | ⟨3, _⟩ => rfl)
  exact congrArg₂ (fun z (g : Fin 256 → EReal) => Finset.univ.fold max z g) bottom_bits e

/-- The weight is the exponential of the score less the largest. -/
theorem weigh_apply (l : FVec Ideal S2x32x256x256 .f32) (b : Fin 2) (h : Fin 32) (i j : Fin 256) :
    weigh l (ix4 b h i j) = Ideal.exp (l (ix4 b h i j) - Finset.univ.fold max (⊥ : EReal) fun j : Fin 256 => l (ix4 b h i j)) :=
  congrArg (fun z : EReal => Ideal.exp (l (ix4 b h i j) - z)) ((along_apply _ b h i j).trans ((column_apply _ b h i).trans (largest_apply l b h i)))

/-- The sum of the weights of a row. -/
theorem rowSums_apply (e : FVec Ideal S2x32x256x256 .f32) (b : Fin 2) (h : Fin 32) (i : Fin 256) :
    rowSums e (ix4 (n3 := 1) b h i 0) = ∑ j : Fin 256, e (ix4 b h i j) := by
  have hr : S2x32x256x256.Reduces [3] S2x32x256 := by decide
  refine (column_apply _ b h i).trans ((Ideal.hostReduceAdd_single (s := S2x32x256x256) (t := S2x32x256) reducesTo_S2x32x256x256_S2x32x256_d3 hr e _ (ix3 b h i)).trans ?_)
  have he : (fun j : Fin 256 => e (hr.lift (ix3 b h i) j)) = fun j : Fin 256 => e (ix4 b h i j) := funext fun j =>
    congrArg e (funext fun a => match a with | ⟨0, _⟩ => rfl | ⟨1, _⟩ => rfl | ⟨2, _⟩ => rfl | ⟨3, _⟩ => rfl)
  exact (congrArg₂ (fun (x : EReal) (g : Fin 256 → EReal) => x + ∑ j, g j) Ideal.ofBits_zero_f32 he).trans (zero_add _)

/-- Every row sees something. -/
theorem keep_column {n : ℕ} (hn : S1x1x256x1.BroadcastsInDim ⟨4, ![2, 32, 256, n]⟩ ![0, 1, 2, 3]) (b : Fin 2) (h : Fin 32) (i : Fin 256) (j : Fin n) :
    broadcastInDim ⟨4, ![2, 32, 256, n]⟩ ![0, 1, 2, 3] hn (broadcastInDim S1x1x256x1 ![2] bcast_S256_S1x1x256x1_2 (keep mask)) (ix4 b h i j) = 1#1 :=
  (broadcastInDim_apply (t := ⟨4, ![2, 32, 256, n]⟩) ![0, 1, 2, 3] hn _ (ix4 b h i j) (ix4 (n0 := 1) (n1 := 1) (n3 := 1) 0 0 i 0)
    fun a => match a with | ⟨0, _⟩ => rfl | ⟨1, _⟩ => rfl | ⟨2, _⟩ => rfl | ⟨3, _⟩ => rfl).trans
  ((broadcastInDim_apply (t := S1x1x256x1) ![2] bcast_S256_S1x1x256x1_2 (keep mask) (ix4 (n0 := 1) (n1 := 1) (n3 := 1) 0 0 i 0) (ix1 i)
    fun a => match a with | ⟨0, _⟩ => rfl).trans (keep_apply i))

/-- A selection where the condition holds. -/
theorem select_one {s : Shape} {α : Type} (c : IVec s 1) (x y : s.Idx → α) (i : s.Idx) (hc : c i = 1#1) : select c x y i = x i := if_pos hc

/-- So the sum of the weights is used as it is. -/
theorem sums_apply (e : FVec Ideal S2x32x256x256 .f32) (b : Fin 2) (h : Fin 32) (i : Fin 256) :
    sums mask e (ix4 (n3 := 1) b h i 0) = ∑ j : Fin 256, e (ix4 b h i j) := by
  unfold sums
  exact (select_one _ _ _ _ (keep_column (n := 1) bcast_S1x1x256x1_S2x32x256x1_0_1_2_3 b h i 0)).trans (rowSums_apply e b h i)

/-- A quotient, at an element. -/
theorem div_at (x y : FVec Ideal S2x32x256x256 .f32) (i : S2x32x256x256.Idx) : Host.divf x y i = Ideal.div (x i) (y i) := rfl

/-- A share is a weight over the sum. -/
theorem shares_apply (e : FVec Ideal S2x32x256x256 .f32) (b : Fin 2) (h : Fin 32) (i j : Fin 256) :
    shares mask e (ix4 b h i j) = Ideal.div (e (ix4 b h i j)) (∑ j' : Fin 256, e (ix4 b h i j')) := by
  unfold shares
  refine (select_one _ _ _ _ (keep_column (n := 256) bcast_S1x1x256x1_S2x32x256x256_0_1_2_3 b h i j)).trans ?_
  rw [div_at, along_apply, sums_apply]

/-- The blend is the sum of the values times the shares. -/
theorem blend_apply (v : FVec Ideal S2x256x32x64 .bf16) (a : FVec Ideal S2x32x256x256 .f32) (b : Fin 2) (i : Fin 256) (h : Fin 32) (d : Fin 64) :
    blend v a (ix3 b i (wcol h d)) = ∑ j : Fin 256, v (ix4 b j h d) * a (ix4 b h i j) :=
  (shapeCast_apply (s := S2x256x32x64) (t := S2x256x2048) _ _ (ix3 b i (wcol h d)) (ix4 b i h d) (by
    rw [Shape.rowMajor_val_three, Shape.rowMajor_val_four]
    show ((b.val * 256 + i.val) * 32 + h.val) * 64 + d.val = (b.val * 256 + i.val) * 2048 + (64 * h.val + d.val)
    omega)).trans
  ((transpose_apply (s := S2x32x64x256) (t := S2x256x32x64) [0, 3, 1, 2] _ _ (ix4 b i h d) (ix4 b h d i)
    fun a => match a with | ⟨0, _⟩ => rfl | ⟨1, _⟩ => rfl | ⟨2, _⟩ => rfl | ⟨3, _⟩ => rfl).trans (dot_blend v a b h d i))

/-- One head's output in the reference: the softmax of the shown scores, averaging the values. -/
def average (s : Fin 256 → Fin 256 → EReal) (v : Fin 256 → EReal) (i : Fin 256) : EReal :=
  ∑ j : Fin 256, v j * Ideal.div
    (Ideal.exp ((if sees i j then s i j else ⊥) - Finset.univ.fold max (⊥ : EReal) fun j : Fin 256 => if sees i j then s i j else ⊥))
    (∑ j' : Fin 256, Ideal.exp ((if sees i j' then s i j' else ⊥) - Finset.univ.fold max (⊥ : EReal) fun j : Fin 256 => if sees i j then s i j else ⊥))

/-- A head is the average of its values under its scores. -/
theorem head_apply (v : FVec Ideal S2x256x32x64 .bf16) (s : FVec Ideal S2x32x256x256 .f32) (b : Fin 2) (i : Fin 256) (h : Fin 32) (d : Fin 64) :
    blend v (shares mask (weigh (shown mask (fun _ => (⊥ : EReal)) s))) (ix3 b i (wcol h d))
      = average (fun i j => s (ix4 b h i j)) (fun j => v (ix4 b j h d)) i := by
  refine (blend_apply v _ b i h d).trans (Finset.sum_congr rfl fun j _ => congrArg (fun z : EReal => v (ix4 b j h d) * z) ?_)
  refine (shares_apply _ b h i j).trans ?_
  have e : ∀ j : Fin 256, weigh (shown mask (fun _ => (⊥ : EReal)) s) (ix4 b h i j)
      = Ideal.exp ((if sees i j then s (ix4 b h i j) else ⊥) - Finset.univ.fold max (⊥ : EReal) fun j : Fin 256 => if sees i j then s (ix4 b h i j) else ⊥) := fun j => by
    rw [weigh_apply]
    simp only [shown_apply]
  simp only [e]

/-- **The reference's result at an element.** -/
theorem plain_apply (x : FVec Ideal S2x256x512 .bf16) (wq : FVec Ideal S512x2048 .bf16) (k v : FVec Ideal S2x256x32x64 .bf16) (wo : FVec Ideal S2048x512 .bf16)
    (b : Fin 2) (i : Fin 256) (n : Fin 512) :
    plain x wq k v wo (fun _ => (⊥ : EReal)) (ix3 b i n)
      = ∑ t : Fin 2048, blend v (shares mask (weigh (shown mask (fun _ => (⊥ : EReal)) (scores (queries x wq) k)))) (ix3 b i t) * wo (ix2 t n) :=
  dot_result _ _ b i n

end Stages

end Cert.Plain

end
-- ==== Proof.Meet.lean ====
/-
# The kernel's result is the reference's

One head of the kernel is one head of the reference when the scores are real: the kernel divides the weighted sum by the sum of
the weights, the reference shifts the scores by their largest and divides each weight. The sum over the eight devices of their
products is the one product over all columns.
-/
module

public import proofs.«01_k».proof.Proof.KernelValue
public import proofs.«01_k».proof.Proof.RefValue
public import proofs.«01_k».proof.Proof.RefRead

@[expose] public section

noncomputable section

namespace Cert.Meet

open Idealize.ShloMosaic hiding ix1 ix2 ix3 ix4
open Idealize.ShloMosaic.ValueIdx
open Cert.Talk (sees eighth score attn row col wide Ins soft max_real coe_sum_real)
open Cert.Plain (wcol average plain)

/-- The scale is a real. -/
theorem eighth_real : ∃ r : ℝ, eighth = (r : EReal) := by
  refine ⟨1 / 8, ?_⟩
  unfold eighth
  simp [Ideal.ofBits, Ideal.ieee]
  rw [← EReal.coe_mul]
  exact congrArg _ (by norm_num)

/-- A finite sum of products of reals is a real. -/
theorem real_sum {ι : Type} [Fintype ι] (f g : ι → EReal) (hf : ∀ i, ∃ r : ℝ, f i = r) (hg : ∀ i, ∃ r : ℝ, g i = r) :
    ∃ r : ℝ, ∑ i, f i * g i = (r : EReal) := by
  choose a ha using hf
  choose b hb using hg
  refine ⟨∑ i, a i * b i, ?_⟩
  rw [← coe_sum_real]
  exact Finset.sum_congr rfl fun i _ => by rw [ha, hb, EReal.coe_mul]

/-- A head of the kernel is a head of the reference, when its scores are real. -/
theorem attn_average (q k v : Fin 256 → Fin 64 → EReal) (hs : ∀ i j, ∃ r : ℝ, score q k i j = r) (i : Fin 256) (d : Fin 64) :
    attn q k v i d = average (score q k) (fun j => v j d) i := by
  choose s hs using hs
  have hp : ∃ j, sees i j := ⟨i, Or.inl rfl⟩
  obtain ⟨M, hM⟩ := max_real (sees i) hp (s i)
  unfold attn average
  simp only [hs]
  rw [hM]
  exact soft (sees i) hp (s i) (fun j => v j d) M

/-- The head of the whole that is head `h` of device `c`. -/
def hd (c : Fin 8) (h : Fin 4) : Fin 32 := ⟨4 * c.val + h.val, by omega⟩

/-- A column of a head of a device is the same column of that head of the whole. -/
theorem wide_col (c : Fin 8) (h : Fin 4) (d : Fin 64) : wide c (col h d) = wcol (hd c h) d :=
  Fin.ext (by show 256 * c.val + (64 * h.val + d.val) = 64 * (4 * c.val + h.val) + d.val; omega)

/-- Every column of a device is a column of one of its heads. -/
theorem col_all (t : Fin 256) : ∃ h d, t = col h d :=
  ⟨⟨t.val / 64, by omega⟩, ⟨t.val % 64, Nat.mod_lt _ (by norm_num)⟩, Fin.ext (by show t.val = 64 * (t.val / 64) + t.val % 64; omega)⟩

/-- A sum over all columns, device by device. -/
theorem sum_wide (f : Fin 2048 → EReal) : ∑ T, f T = ∑ c : Fin 8, ∑ t : Fin 256, f (wide c t) := by
  rw [← Fintype.sum_prod_type' (fun (c : Fin 8) (t : Fin 256) => f (wide c t))]
  exact (Fintype.sum_equiv finProdFinEquiv (fun p : Fin 8 × Fin 256 => f (wide p.1 p.2)) f fun p =>
    congrArg f (Fin.ext (by show 256 * p.1.val + p.2.val = p.2.val + 256 * p.1.val; omega))).symm

section
variable (x : FVec Ideal Cert.ReferenceIdeal.S2x256x512 .bf16) (wq : FVec Ideal Cert.ReferenceIdeal.S512x2048 .bf16)
  (k v : FVec Ideal Cert.ReferenceIdeal.S2x256x32x64 .bf16) (wo : FVec Ideal Cert.ReferenceIdeal.S2048x512 .bf16) (I : Fin 8 → Ins Ideal)

/-- The devices hold their parts of the whole arrays. -/
structure Parts : Prop where
  x : ∀ c b i t, (I c).x (ix2 (row b i) t) = x (ix3 b i t)
  wq : ∀ c t l, (I c).wq (ix2 t l) = wq (ix2 t (wide c l))
  k : ∀ c b j h d, (I c).k (ix3 b j (wcol h d)) = k (ix4 b j h d)
  v : ∀ c b j h d, (I c).v (ix3 b j (wcol h d)) = v (ix4 b j h d)
  wo : ∀ c l n, (I c).wo (ix2 l n) = wo (ix2 (wide c l) n)

variable {x wq k v wo I}

/-- A device's projected queries are the whole's. -/
theorem proj_eq (P : Parts x wq k v wo I) (c : Fin 8) (b : Fin 2) (i : Fin 256) (h : Fin 4) (d : Fin 64) :
    (I c).proj (row b i) (col h d) = Cert.Plain.queries x wq (ix4 b i (hd c h) d) := by
  refine Eq.trans ?_ (Cert.Plain.queries_apply x wq b i (hd c h) d).symm
  unfold Ins.proj
  refine Finset.sum_congr rfl fun t _ => ?_
  rw [P.x c b i t, P.wq c t (col h d), wide_col]

/-- A head of a device is that head of the whole. -/
theorem ctx_eq (P : Parts x wq k v wo I) (hx : ∀ i, ∃ r : ℝ, x i = (r : EReal)) (hw : ∀ i, ∃ r : ℝ, wq i = (r : EReal))
    (hk : ∀ i, ∃ r : ℝ, k i = (r : EReal)) (c : Fin 8) (b : Fin 2) (h : Fin 4) (i : Fin 256) (d : Fin 64) :
    (I c).ctx c b h i d = average (fun i j => Cert.Plain.scores (Cert.Plain.queries x wq) k (ix4 b (hd c h) i j)) (fun j => v (ix4 b j (hd c h) d)) i := by
  have hq : (fun (i : Fin 256) (t : Fin 64) => (I c).proj (row b i) (col h t)) = fun i t => Cert.Plain.queries x wq (ix4 b i (hd c h) t) :=
    funext fun i => funext fun t => proj_eq P c b i h t
  have hK : (fun (j : Fin 256) (t : Fin 64) => (I c).k (ix3 b j (wide c (col h t)))) = fun j t => k (ix4 b j (hd c h) t) :=
    funext fun j => funext fun t => by rw [wide_col]; exact P.k c b j (hd c h) t
  have hV : (fun (j : Fin 256) (t : Fin 64) => (I c).v (ix3 b j (wide c (col h t)))) = fun j t => v (ix4 b j (hd c h) t) :=
    funext fun j => funext fun t => by rw [wide_col]; exact P.v c b j (hd c h) t
  unfold Ins.ctx
  rw [hq, hK, hV]
  have hs : (fun i j => Cert.Plain.scores (Cert.Plain.queries x wq) k (ix4 b (hd c h) i j))
      = score (fun i t => Cert.Plain.queries x wq (ix4 b i (hd c h) t)) (fun j t => k (ix4 b j (hd c h) t)) :=
    funext fun i => funext fun j => Cert.Plain.scores_apply (Cert.Plain.queries x wq) k b (hd c h) i j
  rw [hs]
  refine attn_average _ _ _ (fun i j => ?_) i d
  obtain ⟨e, he⟩ := eighth_real
  obtain ⟨r, hr⟩ := real_sum (fun t => Cert.Plain.queries x wq (ix4 b i (hd c h) t)) (fun t => k (ix4 b j (hd c h) t))
    (fun t => by
      obtain ⟨r, hr⟩ := real_sum (fun s : Fin 512 => x (ix3 b i s)) (fun s => wq (ix2 s (wcol (hd c h) t))) (fun s => hx _) (fun s => hw _)
      exact ⟨r, (Cert.Plain.queries_apply x wq b i (hd c h) t).trans hr⟩)
    (fun t => hk _)
  refine ⟨r * e, ?_⟩
  unfold score
  rw [he, EReal.coe_mul]
  exact congrArg (fun z : EReal => z * (e : EReal)) hr

/-- The devices' products add up to the reference's result. -/
theorem sum_eq (P : Parts x wq k v wo I) (hx : ∀ i, ∃ r : ℝ, x i = (r : EReal)) (hw : ∀ i, ∃ r : ℝ, wq i = (r : EReal))
    (hk : ∀ i, ∃ r : ℝ, k i = (r : EReal)) (b : Fin 2) (i : Fin 256) (n : Fin 512) :
    ∑ c : Fin 8, (I c).prod c (row b i) n = plain x wq k v wo (fun _ => (⊥ : EReal)) (ix3 b i n) := by
  refine Eq.trans ?_ ((Cert.Plain.plain_apply x wq k v wo b i n).trans (sum_wide _)).symm
  refine Finset.sum_congr rfl fun c _ => ?_
  unfold Ins.prod
  refine Finset.sum_congr rfl fun t _ => ?_
  obtain ⟨h, d, rfl⟩ := col_all t
  refine congrArg₂ (fun a z : EReal => a * z) ?_ (P.wo c (col h d) n)
  rw [(I c).heads_apply c b i h d, ctx_eq P hx hw hk, wide_col]
  exact (Cert.Plain.head_apply v (Cert.Plain.scores (Cert.Plain.queries x wq) k) b i (hd c h) d).symm

end

end Cert.Meet

end
-- ==== Proof.Agree.lean ====
/-
# The value claim

The precondition makes the hidden states, the query weights and the keys reals; the memories' blocks are the parts the meeting of
the two results asks for; so every device of the kernel ends with the reference's result.
-/
module

public import proofs.«01_k».proof.Defs
public import proofs.«01_k».proof.Proof.Meet
public import Idealize.ShloMosaic.Adequacy
public import Idealize.ShloMosaic.Init

@[expose] public section

noncomputable section

namespace Cert.Agree

open Idealize.ShloMosaic hiding ix1 ix2 ix3 ix4
open Idealize.ShloMosaic.ValueIdx
open Idealize.SL Idealize.SL.Sem
open Cert.Talk (Ins row wide J)
open Cert.Meet (Parts)
open Cert.Plain (wcol plain)

/-- The precondition's shape facts, at a device's shapes, -/
theorem preKernel : Cert.Pre_finite_scores_KernelIdeal.Facts := ⟨by decide, by decide, by decide⟩
/-- and at the whole arrays'. -/
theorem preReference : Cert.Pre_finite_scores_ReferenceIdeal.Facts := ⟨by decide, by decide, by decide⟩

/-- The bound the precondition compares with is plus infinity. -/
theorem top_bits : Ideal.ofBits .bf16 0x7F80#16 = ⊤ := by simp [Ideal.ofBits, Ideal.ieee]

/-- An extended real whose absolute value is below plus infinity is a real. -/
theorem real_of_lt (a : EReal) (h : max a (-a) < ⊤) : ∃ r : ℝ, a = r := by
  induction a using EReal.rec with
  | bot => exact absurd h (by simp)
  | top => exact absurd h (by simp)
  | coe r => exact ⟨r, rfl⟩

/-- An entry that passes the precondition's comparison is a real. -/
theorem real_of_one (a : EReal) (h : Ideal.cmp .olt (max a (-a)) (Ideal.ofBits .bf16 0x7F80#16) = 1#1) : ∃ r : ℝ, a = r := by
  rw [top_bits] at h
  refine real_of_lt a ?_
  by_contra hn
  have : Ideal.cmp .olt (max a (-a)) ⊤ = 0#1 := by
    unfold Ideal.cmp
    simp only [decide_eq_false hn]
    rfl
  rw [this] at h
  exact absurd h (by decide)

/-- An array whose every entry passes holds reals. -/
theorem real_of_ones {s : Shape} (x : FVec Ideal s .bf16) (hb : Cert.Pre_finite_scores_KernelIdeal.S_.BroadcastsInDim s (![] : Fin 0 → Fin s.rank))
    (h : cmpf .olt (Host.absf x) (broadcastInDim s ![] hb (constant Cert.Pre_finite_scores_KernelIdeal.S_ .bf16 0x7F80#16)) = fun _ => 1#1) (i : s.Idx) :
    ∃ r : ℝ, x i = (r : EReal) :=
  real_of_one (x i) (congrFun h i)

section Memory
attribute [local instance] Cert.KernelIdeal.Gen.facts Cert.ReferenceIdeal.Gen.facts

/-- A device's columns of an array cut by columns. -/
theorem block_cols (w : FVec Ideal Cert.ReferenceIdeal.S512x2048 .bf16) (c : Fin 8) (t : Fin 512) (l : Fin 256) :
    Layout.block ⟨2, ![512, 256]⟩ ⟨2, ![512, 2048]⟩ 1 8 c w (by decide) (ix2 t l) = w (ix2 t (wide c l)) :=
  congrArg w (funext fun a => match a with
    | ⟨0, _⟩ => Fin.ext rfl
    | ⟨1, _⟩ => Fin.ext (by show c.val * 256 + l.val = 256 * c.val + l.val; omega))

/-- A device's rows of an array cut by rows. -/
theorem block_rows (w : FVec Ideal Cert.ReferenceIdeal.S2048x512 .bf16) (c : Fin 8) (l : Fin 256) (n : Fin 512) :
    Layout.block ⟨2, ![256, 512]⟩ ⟨2, ![2048, 512]⟩ 0 8 c w (by decide) (ix2 l n) = w (ix2 (wide c l) n) :=
  congrArg w (funext fun a => match a with
    | ⟨0, _⟩ => Fin.ext (by show c.val * 256 + l.val = 256 * c.val + l.val; omega)
    | ⟨1, _⟩ => Fin.ext rfl)

/-- An array whose heads are joined, read at a column of a head. -/
theorem joined (x : FVec Ideal Cert.KernelIdeal.S2x256x32x64 .bf16) (hc : Cert.KernelIdeal.S2x256x32x64.ShapeCasts Cert.KernelIdeal.S2x256x2048)
    (b : Fin 2) (j : Fin 256) (h : Fin 32) (d : Fin 64) :
    shapeCast Cert.KernelIdeal.S2x256x2048 x hc (ix3 b j (wcol h d)) = x (ix4 b j h d) :=
  (Cert.Talk.join_heads x hc b j (wcol h d)).trans (congrArg x (funext fun a => match a with
    | ⟨0, _⟩ => rfl
    | ⟨1, _⟩ => rfl
    | ⟨2, _⟩ => Fin.ext (by show (64 * h.val + d.val) / 64 = h.val; omega)
    | ⟨3, _⟩ => Fin.ext (by show (64 * h.val + d.val) % 64 = d.val; omega)))

/-- Every column of the whole is a column of some device. -/
theorem wide_all (T : Fin 2048) : ∃ c l, T = wide c l :=
  ⟨⟨T.val / 256, by omega⟩, ⟨T.val % 256, Nat.mod_lt _ (by norm_num)⟩, Fin.ext (by show T.val = 256 * (T.val / 256) + T.val % 256; omega)⟩

-- The memory of the kernel, and the arrays of the reference.
variable (m : (ℓ : Loc Cert.KernelIdeal.nD Cert.KernelIdeal.τ Cert.KernelIdeal.sig) → Buf (Elt Ideal) ℓ)
  (x : FVec Ideal Cert.ReferenceIdeal.S2x256x512 .bf16) (wq : FVec Ideal Cert.ReferenceIdeal.S512x2048 .bf16)
  (k v : FVec Ideal Cert.ReferenceIdeal.S2x256x32x64 .bf16) (wo : FVec Ideal Cert.ReferenceIdeal.S2048x512 .bf16)

/-- Each device's arguments are its part of the whole arrays. -/
def Laid : Prop := ∀ c : Dev Cert.KernelIdeal.nD,
  m ((c.tc : Thread Cert.KernelIdeal.nD Cert.KernelIdeal.τ).loc Cert.KernelIdeal.main_arg0) = x
  ∧ m ((c.tc : Thread Cert.KernelIdeal.nD Cert.KernelIdeal.τ).loc Cert.KernelIdeal.main_arg1) = Layout.block ⟨2, ![512, 256]⟩ ⟨2, ![512, 2048]⟩ 1 8 c wq
  ∧ m ((c.tc : Thread Cert.KernelIdeal.nD Cert.KernelIdeal.τ).loc Cert.KernelIdeal.main_arg2) = k
  ∧ m ((c.tc : Thread Cert.KernelIdeal.nD Cert.KernelIdeal.τ).loc Cert.KernelIdeal.main_arg3) = v
  ∧ m ((c.tc : Thread Cert.KernelIdeal.nD Cert.KernelIdeal.τ).loc Cert.KernelIdeal.main_arg4) = Layout.block ⟨2, ![256, 512]⟩ ⟨2, ![2048, 512]⟩ 0 8 c wo

variable {m x wq k v wo}

/-- So the devices' inputs are the parts of the whole arrays. -/
theorem parts (h : Laid m x wq k v wo) : Parts x wq k v wo (J m) where
  x c b i t := by
    rw [Cert.Talk.J_x, (h c).1]
    exact Cert.Talk.join_rows x _ b i t
  wq c t l := by
    rw [Cert.Talk.J_wq, (h c).2.1]
    exact block_cols wq c t l
  k c b j hh d := by
    rw [Cert.Talk.J_k, (h c).2.2.1]
    exact joined k _ b j hh d
  v c b j hh d := by
    rw [Cert.Talk.J_v, (h c).2.2.2.1]
    exact joined v _ b j hh d
  wo c l n := by
    rw [Cert.Talk.J_wo, (h c).2.2.2.2]
    exact block_rows wo c l n

/-- The hidden states are reals, -/
theorem real_x (h : Laid m x wq k v wo) (hp : Cert.Pre_KernelIdeal_finite_scores_KernelIdeal (hPre_finite_scores_KernelIdeal := preKernel) m)
    (i : Cert.ReferenceIdeal.S2x256x512.Idx) : ∃ r : ℝ, x i = (r : EReal) := by
  have h1 := real_of_ones _ _ (hp 0).1 i
  rwa [(h 0).1] at h1

/-- so are the query weights, which every device knows of its own columns, -/
theorem real_wq (h : Laid m x wq k v wo) (hp : Cert.Pre_KernelIdeal_finite_scores_KernelIdeal (hPre_finite_scores_KernelIdeal := preKernel) m)
    (i : Cert.ReferenceIdeal.S512x2048.Idx) : ∃ r : ℝ, wq i = (r : EReal) := by
  obtain ⟨c, l, hl⟩ := wide_all (i 1)
  have h1 := real_of_ones _ _ (hp c).2.1 (ix2 (n0 := 512) (n1 := 256) (i 0) l)
  rw [(h c).2.1] at h1
  obtain ⟨r, hr⟩ := h1
  refine ⟨r, Eq.trans ?_ ((block_cols wq c (i 0) l).symm.trans hr)⟩
  exact congrArg wq (funext fun a => match a with
    | ⟨0, _⟩ => rfl
    | ⟨1, _⟩ => hl)

/-- and the keys. -/
theorem real_k (h : Laid m x wq k v wo) (hp : Cert.Pre_KernelIdeal_finite_scores_KernelIdeal (hPre_finite_scores_KernelIdeal := preKernel) m)
    (i : Cert.ReferenceIdeal.S2x256x32x64.Idx) : ∃ r : ℝ, k i = (r : EReal) := by
  have h1 := real_of_ones _ _ (hp 0).2.2 i
  rwa [(h 0).2.2.1] at h1

/-- **The meeting**: what a device of the kernel ends with is the reference's result. -/
theorem result_eq (h : Laid m x wq k v wo) (hp : Cert.Pre_KernelIdeal_finite_scores_KernelIdeal (hPre_finite_scores_KernelIdeal := preKernel) m)
    (c : Dev Cert.KernelIdeal.nD) :
    Cert.Talk.V2 m c (Proc.devRef .tc Cert.KernelIdeal.main_v5) = plain x wq k v wo (fun _ => (⊥ : EReal)) := by
  refine funext fun y => ?_
  have hy : y = ix3 (n0 := 2) (n1 := 256) (n2 := 512) (y 0) (y 1) (y 2) := funext fun a => match a with
    | ⟨0, _⟩ => rfl
    | ⟨1, _⟩ => rfl
    | ⟨2, _⟩ => rfl
  rw [hy]
  exact (Cert.Talk.result_apply m c (y 0) (y 1) (y 2)).trans (Cert.Meet.sum_eq (parts h) (real_x h hp) (real_wq h hp) (real_k h hp) (y 0) (y 1) (y 2))

end Memory

/-- **The value claim**: the eight devices end with the reference's result, and both programs leave their arguments as they were. -/
theorem agree : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := preKernel) := fun m g m' g' hp h =>
  ⟨_, (θ_run _ _ _).mono (fun r hr c => ⟨(hr.1 c).1.trans (result_eq h hp c), (hr.1 c).2⟩) (Cert.Talk.run_main m g),
    (θ_run _ _ _).mono (fun r hr => ⟨hr.1 0, hr.2 0⟩) (θ_run_and (Cert.Plain.run_plain m' g') (Cert.ReferenceIdeal.Gen.unchanged m' g'))⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Launch
public import proofs.«01_k».proof.Proof.Agree
public import Idealize.ShloMosaic.Adequacy
public import Idealize.ShloMosaic.Init

@[expose] public section

noncomputable section

namespace Cert.Proof

open Idealize.ShloMosaic Idealize.SL.Sem

/-- The idealized kernel runs to its end with its arguments as they were and every semaphore at zero. -/
theorem frame_kernelIdeal : Cert.quiescent_KernelIdeal (hKernelIdeal := Cert.KernelIdeal.Gen.facts) := fun m ρ _ => Cert.Talk.run_frame (F := Ideal) m ρ

section Same
attribute [local instance] Cert.Kernel.Gen.facts Cert.KernelIdeal.Gen.facts

/-- The kernel's body table is the idealized kernel's: the two programs have one text. -/
theorem same_rows : Cert.Kernel.defs₀ (F := Bits) = Cert.KernelIdeal.defs₀ (F := Bits) := by
  funext p ℓ a
  cases p
  · match ℓ, a with
    | ⟨0, _⟩, (t, s) => rfl
  · rfl
  · rfl

/-- With the pipeline's labels too. -/
theorem same_tables : Cert.Kernel.defs (F := Bits) = Cert.KernelIdeal.defs (F := Bits) :=
  congrArg (Pipeline.defs (Cert.KernelIdeal.pcfgs (F := Bits))) same_rows

/-- So does the kernel, whose text is the same. -/
theorem frame_kernel : Cert.quiescent_Kernel (hKernel := Cert.Kernel.Gen.facts) := fun m ρ _ => by
  rw [show Cert.Kernel.defs (F := Bits) = Cert.KernelIdeal.defs (F := Bits) from same_tables]
  exact Cert.Talk.run_frame (F := Bits) m ρ

end Same

/-- So does the reference. -/
theorem frame_reference : Cert.quiescent_ReferenceIdeal (hReferenceIdeal := Cert.ReferenceIdeal.Gen.facts) := fun m ρ _ =>
  Cert.ReferenceIdeal.Gen.frame m ρ

/-- Everything claimed: the three frames, the two of them restated under the precondition, the idealization, and the value claim. -/
theorem claim : Cert.Claim := ⟨Cert.Kernel.Gen.facts, Cert.KernelIdeal.Gen.facts, Cert.ReferenceIdeal.Gen.facts, Cert.Agree.preKernel, Cert.Agree.preReference,
  frame_kernel, frame_kernelIdeal, fun m ρ _ => frame_kernelIdeal m ρ trivial, frame_reference, fun m ρ _ => frame_reference m ρ trivial, trivial,
  Cert.Agree.agree⟩

end Cert.Proof

end
